-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 2048, 32, 128]⟩ ⟨4, ![1, 8192, 32, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 32, 128]⟩ ⟨4, ![1, 8192, 32, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S1x2048x32x128 : Shape := ⟨4, ![1, 2048, 32, 128]⟩
abbrev S_ : Shape := ⟨0, ![]⟩

class Facts : Prop where
  bcast_S_S1x2048x1024 : S_.BroadcastsInDim S1x2048x1024 (![] : Fin 0 → Fin S1x2048x1024.rank)
  bcast_S_S1024x1024 : S_.BroadcastsInDim S1024x1024 (![] : Fin 0 → Fin S1024x1024.rank)
  bcast_S_S1x2048x32x128 : S_.BroadcastsInDim S1x2048x32x128 (![] : Fin 0 → Fin S1x2048x32x128.rank)

variable [Facts]

def fn {F : FTy → Type} [FloatOps F] (main_arg0 : FVec F S1x2048x1024 .f32) (main_arg1 : FVec F S1024x1024 .f32) (main_arg2 : FVec F S1x2048x32x128 .f32) (main_arg3 : FVec F S1x2048x32x128 .f32) (main_arg4 : FVec F S1024x1024 .f32) : IVec S1x2048x1024 1 × IVec S1024x1024 1 × IVec S1x2048x32x128 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x2048x32x128 .f32 := Host.absf main_arg2
  let main_cst_1 : FVec F S_ .f32 := constant S_ .f32 0x7F800000#32
  let main_v7 : FVec F S1x2048x32x128 .f32 := broadcastInDim S1x2048x32x128 ![] bcast_S_S1x2048x32x128 main_cst_1
  let main_v8 : IVec S1x2048x32x128 1 := cmpf .olt main_v6 main_v7
  (main_v2, main_v5, main_v8)
-- ==== Pre_finite_ReferenceIdeal.lean ====
abbrev S1x2048x1024 : Shape := ⟨3, ![1, 2048, 1024]⟩
abbrev S1024x4096 : Shape := ⟨2, ![1024, 4096]⟩
abbrev S1x8192x32x128 : Shape := ⟨4, ![1, 8192, 32, 128]⟩
abbrev S4096x1024 : Shape := ⟨2, ![4096, 1024]⟩
abbrev S_ : Shape := ⟨0, ![]⟩

class Facts : Prop where
  bcast_S_S1x2048x1024 : S_.BroadcastsInDim S1x2048x1024 (![] : Fin 0 → Fin S1x2048x1024.rank)
  bcast_S_S1024x4096 : S_.BroadcastsInDim S1024x4096 (![] : Fin 0 → Fin S1024x4096.rank)
  bcast_S_S1x8192x32x128 : S_.BroadcastsInDim S1x8192x32x128 (![] : Fin 0 → Fin S1x8192x32x128.rank)

variable [Facts]

def fn {F : FTy → Type} [FloatOps F] (main_arg0 : FVec F S1x2048x1024 .f32) (main_arg1 : FVec F S1024x4096 .f32) (main_arg2 : FVec F S1x8192x32x128 .f32) (main_arg3 : FVec F S1x8192x32x128 .f32) (main_arg4 : FVec F S4096x1024 .f32) : IVec S1x2048x1024 1 × IVec S1024x4096 1 × IVec S1x8192x32x128 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S1x8192x32x128 .f32 := Host.absf main_arg2
  let main_cst_1 : FVec F S_ .f32 := constant S_ .f32 0x7F800000#32
  let main_v7 : FVec F S1x8192x32x128 .f32 := broadcastInDim S1x8192x32x128 ![] bcast_S_S1x8192x32x128 main_cst_1
  let main_v8 : IVec S1x8192x32x128 1 := cmpf .olt main_v6 main_v7
  (main_v2, main_v5, main_v8)
-- ==== Kernel.lean ====
abbrev S1x2048x1024 : Shape := ⟨3, ![1, 2048, 1024]⟩
abbrev S1024x1024 : Shape := ⟨2, ![1024, 1024]⟩
abbrev S1x2048x32x128 : Shape := ⟨4, ![1, 2048, 32, 128]⟩
abbrev S2048x32x128 : Shape := ⟨3, ![2048, 32, 128]⟩
abbrev S32x2048x128 : Shape := ⟨3, ![32, 2048, 128]⟩
abbrev S4x8x2048x128 : Shape := ⟨4, ![4, 8, 2048, 128]⟩
abbrev S2 : Shape := ⟨1, ![2]⟩
abbrev S6 : Shape := ⟨1, ![6]⟩
abbrev S_ : Shape := ⟨0, ![]⟩
abbrev S1 : Shape := ⟨1, ![1]⟩
abbrev S1x8x2048x128 : Shape := ⟨4, ![1, 8, 2048, 128]⟩
abbrev S8x2048x128 : Shape := ⟨3, ![8, 2048, 128]⟩
abbrev S2048x1024 : Shape := ⟨2, ![2048, 1024]⟩
abbrev S8x4x64x1024 : Shape := ⟨4, ![8, 4, 64, 1024]⟩
abbrev S4x8x8x4x64x128 : Shape := ⟨6, ![4, 8, 8, 4, 64, 128]⟩
abbrev S8x1x64x1024 : Shape := ⟨4, ![8, 1, 64, 1024]⟩
abbrev S1024x128 : Shape := ⟨2, ![1024, 128]⟩
abbrev S4x1x8x1x64x128 : Shape := ⟨6, ![4, 1, 8, 1, 64, 128]⟩
abbrev S128x1024 : Shape := ⟨2, ![128, 1024]⟩
abbrev S8x64x1024 : Shape := ⟨3, ![8, 64, 1024]⟩
abbrev S512x1024 : Shape := ⟨2, ![512, 1024]⟩
abbrev S512x128 : Shape := ⟨2, ![512, 128]⟩
abbrev S4x8x64x128 : Shape := ⟨4, ![4, 8, 64, 128]⟩
abbrev S2048x128 : Shape := ⟨2, ![2048, 128]⟩
abbrev S128x2048 : Shape := ⟨2, ![128, 2048]⟩
abbrev S512x2048 : Shape := ⟨2, ![512, 2048]⟩
abbrev S512 : Shape := ⟨1, ![512]⟩
abbrev S512x1 : Shape := ⟨2, ![512, 1]⟩
abbrev S4x512x1024 : Shape := ⟨3, ![4, 512, 1024]⟩
abbrev S3x512x1024 : Shape := ⟨3, ![3, 512, 1024]⟩
abbrev S3 : Shape := ⟨1, ![3]⟩
abbrev S1x512x1024 : Shape := ⟨3, ![1, 512, 1024]⟩

abbrev nBuf : Space → Nat
  | .hbm => 24
  | .vmem => 18
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x2048x32x128, .f32⟩
  | .hbm, ⟨3, _⟩ => ⟨S1x2048x32x128, .f32⟩
  | .hbm, ⟨4, _⟩ => ⟨S1024x1024, .f32⟩
  | .hbm, ⟨5, _⟩ => ⟨S2048x32x128, .f32⟩
  | .hbm, ⟨6, _⟩ => ⟨S2048x32x128, .bf16⟩
  | .hbm, ⟨7, _⟩ => ⟨S32x2048x128, .bf16⟩
  | .hbm, ⟨8, _⟩ => ⟨S2048x32x128, .f32⟩
  | .hbm, ⟨9, _⟩ => ⟨S2048x32x128, .bf16⟩
  | .hbm, ⟨10, _⟩ => ⟨S32x2048x128, .bf16⟩
  | .hbm, ⟨11, _⟩ => ⟨S4x8x2048x128, .bf16⟩
  | .hbm, ⟨12, _⟩ => ⟨S4x8x2048x128, .bf16⟩
  | .hbm, ⟨13, _⟩ => ⟨S2048x1024, .f32⟩
  | .hbm, ⟨14, _⟩ => ⟨S2048x1024, .bf16⟩
  | .hbm, ⟨15, _⟩ => ⟨S8x4x64x1024, .bf16⟩
  | .hbm, ⟨16, _⟩ => ⟨S4x8x8x4x64x128, .bf16⟩
  | .hbm, ⟨17, _⟩ => ⟨S4x8x8x4x64x128, .bf16⟩
  | .hbm, ⟨18, _⟩ => ⟨S1024x1024, .bf16⟩
  | .hbm, ⟨19, _⟩ => ⟨S1024x1024, .bf16⟩
  | .hbm, ⟨20, _⟩ => ⟨S8x4x64x1024, .f32⟩
  | .hbm, ⟨21, _⟩ => ⟨S4x512x1024, .f32⟩
  | .hbm, ⟨22, _⟩ => ⟨S4x512x1024, .f32⟩
  | .hbm, ⟨23, _⟩ => ⟨S1x2048x1024, .f32⟩
  | .local _ .vmem, ⟨0, _⟩ => ⟨S8x1x64x1024, .bf16⟩
  | .local _ .vmem, ⟨1, _⟩ => ⟨S8x1x64x1024, .bf16⟩
  | .local _ .vmem, ⟨2, _⟩ => ⟨S1024x128, .bf16⟩
  | .local _ .vmem, ⟨3, _⟩ => ⟨S1024x128, .bf16⟩
  | .local _ .vmem, ⟨4, _⟩ => ⟨S4x1x8x1x64x128, .bf16⟩
  | .local _ .vmem, ⟨5, _⟩ => ⟨S4x1x8x1x64x128, .bf16⟩
  | .local _ .vmem, ⟨6, _⟩ => ⟨S4x1x8x1x64x128, .bf16⟩
  | .local _ .vmem, ⟨7, _⟩ => ⟨S4x1x8x1x64x128, .bf16⟩
  | .local _ .vmem, ⟨8, _⟩ => ⟨S128x1024, .bf16⟩
  | .local _ .vmem, ⟨9, _⟩ => ⟨S128x1024, .bf16⟩
  | .local _ .vmem, ⟨10, _⟩ => ⟨S8x1x64x1024, .f32⟩
  | .local _ .vmem, ⟨11, _⟩ => ⟨S8x1x64x1024, .f32⟩
  | .local _ .vmem, ⟨12, _⟩ => ⟨S4x512x1024, .f32⟩
  | .local _ .vmem, ⟨13, _⟩ => ⟨S4x512x1024, .f32⟩
  | .local _ .vmem, ⟨14, _⟩ => ⟨S4x512x1024, .bf16⟩
  | .local _ .vmem, ⟨15, _⟩ => ⟨S512x1024, .bf16⟩
  | .local _ .vmem, ⟨16, _⟩ => ⟨S3x512x1024, .bf16⟩
  | .local _ .vmem, ⟨17, _⟩ => ⟨S3x512x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 2 → Bool
  | ⟨0, _⟩ => false
  | ⟨1, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 2 40 bufScoped semScoped dmaSemScoped tileCredit tileCredit_eq_zero tileCredit_pos).withBarriers [(0, 0), (1, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_scratch0 : Ref sig .tc := ⟨.vmem, 14, rfl⟩
abbrev cc2_scratch1 : Ref sig .tc := ⟨.vmem, 15, rfl⟩
abbrev cc2_scratch2 : Ref sig .tc := ⟨.vmem, 16, rfl⟩
abbrev cc2_scratch3 : Ref sig .tc := ⟨.vmem, 17, rfl⟩
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc2_sem0_0 : DmaSem sig := 26
abbrev cc2_sem1_0 : DmaSem sig := 27
abbrev barrier0 : Sem sig := 0
abbrev barrier1 : Sem sig := 1

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_14 : BitVec 32 := 0#32
  let c0_i32_15 : BitVec 32 := 0#32
  let c0_i32_16 : BitVec 32 := 0#32
  ![v2.toNat, 0, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v16 : BitVec 32 := Scalar.muli v2 c8_i32
  let c0_i32_17 : BitVec 32 := 0#32
  let c0_i32_18 : BitVec 32 := 0#32
  ![v16.toNat, 0, 0]
def k0_off3 (d0 : Dev nD) (c1_i32_26 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v28 : BitVec 32 := Scalar.addi v2 c1_i32_26
  let c4_i32_27 : BitVec 32 := 4#32
  let v29 : BitVec 32 := Scalar.remsi v28 c4_i32_27
  let c8_i32_31 : BitVec 32 := 8#32
  let v33 : BitVec 32 := Scalar.muli v29 c8_i32_31
  let c0_i32_39 : BitVec 32 := 0#32
  let c0_i32_40 : BitVec 32 := 0#32
  ![v33.toNat, 0, 0]
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_26 : BitVec 32 := 1#32
  let v28 : BitVec 32 := Scalar.addi v2 c1_i32_26
  let c4_i32_27 : BitVec 32 := 4#32
  let v29 : BitVec 32 := Scalar.remsi v28 c4_i32_27
  let c1_i32_34 : BitVec 32 := 1#32
  let v34 : BitVec 32 := Scalar.muli v29 c1_i32_34
  let v35 : BitVec 32 := Scalar.addi c0_i32_35 v34
  v35.toNat
def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_26 : BitVec 32 := 1#32
  let v28 : BitVec 32 := Scalar.addi v2 c1_i32_26
  let c4_i32_27 : BitVec 32 := 4#32
  let v29 : BitVec 32 := Scalar.remsi v28 c4_i32_27
  let c1_i32_44 : BitVec 32 := 1#32
  let v44 : BitVec 32 := Scalar.muli v29 c1_i32_44
  let v45 : BitVec 32 := Scalar.addi c0_i32_45 v44
  v45.toNat
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_51 : BitVec 32 := 2#32
  let v53 : BitVec 32 := Scalar.addi v2 c2_i32_51
  let c4_i32_52 : BitVec 32 := 4#32
  let v54 : BitVec 32 := Scalar.remsi v53 c4_i32_52
  let c1_i32_59 : BitVec 32 := 1#32
  let v59 : BitVec 32 := Scalar.muli v54 c1_i32_59
  let v60 : BitVec 32 := Scalar.addi c0_i32_60 v59
  v60.toNat
def k0_dev7 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_51 : BitVec 32 := 2#32
  let v53 : BitVec 32 := Scalar.addi v2 c2_i32_51
  let c4_i32_52 : BitVec 32 := 4#32
  let v54 : BitVec 32 := Scalar.remsi v53 c4_i32_52
  let c1_i32_69 : BitVec 32 := 1#32
  let v69 : BitVec 32 := Scalar.muli v54 c1_i32_69
  let v70 : BitVec 32 := Scalar.addi c0_i32_70 v69
  v70.toNat
def k0_dev8 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_76 : BitVec 32 := 3#32
  let v78 : BitVec 32 := Scalar.addi v2 c3_i32_76
  let c4_i32_77 : BitVec 32 := 4#32
  let v79 : BitVec 32 := Scalar.remsi v78 c4_i32_77
  let c1_i32_84 : BitVec 32 := 1#32
  let v84 : BitVec 32 := Scalar.muli v79 c1_i32_84
  let v85 : BitVec 32 := Scalar.addi c0_i32_85 v84
  v85.toNat
def k0_dev9 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_76 : BitVec 32 := 3#32
  let v78 : BitVec 32 := Scalar.addi v2 c3_i32_76
  let c4_i32_77 : BitVec 32 := 4#32
  let v79 : BitVec 32 := Scalar.remsi v78 c4_i32_77
  let c1_i32_93 : BitVec 32 := 1#32
  let v94 : BitVec 32 := Scalar.muli v79 c1_i32_93
  let v95 : BitVec 32 := Scalar.addi c0_i32_94 v94
  v95.toNat
def k0_off4 (d0 : Dev nD) (c1_i32_28 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v30 : BitVec 32 := Scalar.subi v2 c1_i32_28
  let c4_i32_29 : BitVec 32 := 4#32
  let v31 : BitVec 32 := Scalar.addi v30 c4_i32_29
  let c4_i32_30 : BitVec 32 := 4#32
  let v32 : BitVec 32 := Scalar.remsi v31 c4_i32_30
  let c0_i32_164 : BitVec 32 := 0#32
  let c0_i32_165 : BitVec 32 := 0#32
  let c0_i32_166 : BitVec 32 := 0#32
  ![v32.toNat, 0, 0, 0]
abbrev grid1 : Pipeline.Grid := ⟨2, ![4, 8], ![false, false]⟩

def k1_cond1 (i : grid1.Coords) : BitVec 1 :=
  let arg1 : BitVec 32 := BitVec.ofNat 32 (i 1).val
  let c0_i32 : BitVec 32 := 0#32
  let v29 : BitVec 1 := Scalar.cmpi .eq arg1 c0_i32
  let v30 : BitVec 32 := Scalar.extui v29
  let c0_i32_24 : BitVec 32 := 0#32
  let v31 : BitVec 1 := Scalar.cmpi .ne v30 c0_i32_24
  v31

def k1_cond2 (i : grid1.Coords) : BitVec 1 :=
  let arg1 : BitVec 32 := BitVec.ofNat 32 (i 1).val
  let c0_i32_25 : BitVec 32 := 0#32
  let v32 : BitVec 1 := Scalar.cmpi .ne arg1 c0_i32_25
  let v33 : BitVec 32 := Scalar.extui v32
  let c0_i32_26 : BitVec 32 := 0#32
  let v34 : BitVec 1 := Scalar.cmpi .ne v33 c0_i32_26
  v34

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg1.toNat, c0_i32_0.toNat, arg0.toNat, c0_i32_1.toNat, c0_i32_2.toNat]

def cc1_transform_3 (i : grid1.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg1.toNat, c0_i32_0.toNat, arg0.toNat, c0_i32_1.toNat, c0_i32_2.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S8x1x64x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x1x8x1x64x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4x1x8x1x64x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S8x1x64x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := .none

def k2_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k2_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k2_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k2_off1 (d0 : Dev nD) (c1_i32_18 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v22 : BitVec 32 := Scalar.addi v2 c1_i32_18
  let c4_i32_19 : BitVec 32 := 4#32
  let v23 : BitVec 32 := Scalar.remsi v22 c4_i32_19
  let c0_i32_27 : BitVec 32 := 0#32
  let c0_i32_28 : BitVec 32 := 0#32
  ![v23.toNat, 0, 0]
def k2_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v22 : BitVec 32 := Scalar.addi v2 c1_i32_18
  let c4_i32_19 : BitVec 32 := 4#32
  let v23 : BitVec 32 := Scalar.remsi v22 c4_i32_19
  let c1_i32_23 : BitVec 32 := 1#32
  let v24 : BitVec 32 := Scalar.muli v23 c1_i32_23
  let v25 : BitVec 32 := Scalar.addi c0_i32_24 v24
  v25.toNat
def k2_dev5 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_29 : BitVec 32 := 2#32
  let v34 : BitVec 32 := Scalar.addi v2 c2_i32_29
  let c4_i32_30 : BitVec 32 := 4#32
  let v35 : BitVec 32 := Scalar.remsi v34 c4_i32_30
  let c1_i32_34 : BitVec 32 := 1#32
  let v36 : BitVec 32 := Scalar.muli v35 c1_i32_34
  let v37 : BitVec 32 := Scalar.addi c0_i32_35 v36
  v37.toNat
def k2_dev6 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_40 : BitVec 32 := 3#32
  let v46 : BitVec 32 := Scalar.addi v2 c3_i32_40
  let c4_i32_41 : BitVec 32 := 4#32
  let v47 : BitVec 32 := Scalar.remsi v46 c4_i32_41
  let c1_i32_45 : BitVec 32 := 1#32
  let v48 : BitVec 32 := Scalar.muli v47 c1_i32_45
  let v49 : BitVec 32 := Scalar.addi c0_i32_46 v48
  v49.toNat
def k2_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v82 : Index := Scalar.indexCast v2
  let c0_81 : Index := 0#32
  let c0_82 : Index := 0#32
  ![v82.toNat, 0, 0]
def k2_dev7 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_94 : BitVec 32 := 1#32
  let v105 : BitVec 32 := Scalar.addi v2 c1_i32_94
  let c4_i32_95 : BitVec 32 := 4#32
  let v106 : BitVec 32 := Scalar.remsi v105 c4_i32_95
  let c1_i32_99 : BitVec 32 := 1#32
  let v107 : BitVec 32 := Scalar.muli v106 c1_i32_99
  let v108 : BitVec 32 := Scalar.addi c0_i32_100 v107
  v108.toNat
def k2_dev8 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_103 : BitVec 32 := 2#32
  let v115 : BitVec 32 := Scalar.addi v2 c2_i32_103
  let c4_i32_104 : BitVec 32 := 4#32
  let v116 : BitVec 32 := Scalar.remsi v115 c4_i32_104
  let c1_i32_108 : BitVec 32 := 1#32
  let v117 : BitVec 32 := Scalar.muli v116 c1_i32_108
  let v118 : BitVec 32 := Scalar.addi c0_i32_109 v117
  v118.toNat
def k2_dev9 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_112 : BitVec 32 := 3#32
  let v125 : BitVec 32 := Scalar.addi v2 c3_i32_112
  let c4_i32_113 : BitVec 32 := 4#32
  let v126 : BitVec 32 := Scalar.remsi v125 c4_i32_113
  let c1_i32_117 : BitVec 32 := 1#32
  let v127 : BitVec 32 := Scalar.muli v126 c1_i32_117
  let v128 : BitVec 32 := Scalar.addi c0_i32_118 v127
  v128.toNat
def k2_off3 (d0 : Dev nD) (c1_i32_121 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v135 : BitVec 32 := Scalar.subi v2 c1_i32_121
  let c4_i32_122 : BitVec 32 := 4#32
  let v136 : BitVec 32 := Scalar.addi v135 c4_i32_122
  let c4_i32_123 : BitVec 32 := 4#32
  let v137 : BitVec 32 := Scalar.remsi v136 c4_i32_123
  let v147 : Index := Scalar.indexCast v137
  let c0_134 : Index := 0#32
  let c0_135 : Index := 0#32
  ![v147.toNat, 0, 0]
abbrev stage2_0 : Fin 1 → Memref sig .tc .vmem S4x512x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4x512x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
-- ==== KernelIdeal.lean ====
variable {F : FTy → Type} [FloatOps F] [Named F]
def κ : String → Option EReal := fun
  | "scale_log2e" => some (((11863283 / 134217728) * (Real.log 2)⁻¹ : ℝ) : EReal)
  | _ => none
-- ==== ReferenceIdeal.lean ====
abbrev S1x2048x1024 : Shape := ⟨3, ![1, 2048, 1024]⟩
abbrev S1024x4096 : Shape := ⟨2, ![1024, 4096]⟩
abbrev S1x8192x32x128 : Shape := ⟨4, ![1, 8192, 32, 128]⟩
abbrev S4096x1024 : Shape := ⟨2, ![4096, 1024]⟩
abbrev S1x2048x4096 : Shape := ⟨3, ![1, 2048, 4096]⟩
abbrev S1x2048x32x128 : Shape := ⟨4, ![1, 2048, 32, 128]⟩
abbrev S2048 : Shape := ⟨1, ![2048]⟩
abbrev S_ : Shape := ⟨0, ![]⟩
abbrev S2048x1 : Shape := ⟨2, ![2048, 1]⟩
abbrev S8192 : Shape := ⟨1, ![8192]⟩
abbrev S1x8192 : Shape := ⟨2, ![1, 8192]⟩
abbrev S2048x8192 : Shape := ⟨2, ![2048, 8192]⟩
abbrev S1x32x2048x8192 : Shape := ⟨4, ![1, 32, 2048, 8192]⟩
abbrev S1x1x2048x8192 : Shape := ⟨4, ![1, 1, 2048, 8192]⟩
abbrev S1x32x2048 : Shape := ⟨3, ![1, 32, 2048]⟩
abbrev S1x32x2048x1 : Shape := ⟨4, ![1, 32, 2048, 1]⟩
abbrev S1x1x2048x1 : Shape := ⟨4, ![1, 1, 2048, 1]⟩
abbrev S1x32x128x2048 : Shape := ⟨4, ![1, 32, 128, 2048]⟩

abbrev nBuf : Space → Nat
  | .hbm => 137
  | .vmem => 0
  | .smem => 0
  | _ => 0

abbrev hbmTy0_0 (i : Nat) : BufTy := match i % 128 with
  | 0 => ⟨S1x2048x1024, .f32⟩
  | 1 => ⟨S1024x4096, .f32⟩
  | 2 => ⟨S1x8192x32x128, .f32⟩
  | 3 => ⟨S1x8192x32x128, .f32⟩
  | 4 => ⟨S4096x1024, .f32⟩
  | 5 => ⟨S1x2048x4096, .f32⟩
  | 6 => ⟨S1x2048x32x128, .f32⟩
  | 7 => ⟨S2048, .i32⟩
  | 8 => ⟨S_, .i32⟩
  | 9 => ⟨S_, .i32⟩
  | 10 => ⟨S2048, .i32⟩
  | 11 => ⟨S2048, .i32⟩
  | 12 => ⟨S2048, .i32⟩
  | 13 => ⟨S_, .i32⟩
  | 14 => ⟨S2048, .i32⟩
  | 15 => ⟨S2048, .i1⟩
  | 16 => ⟨S2048, .i32⟩
  | 17 => ⟨S2048, .i32⟩
  | 18 => ⟨S_, .i32⟩
  | 19 => ⟨S2048, .i32⟩
  | 20 => ⟨S2048, .i1⟩
  | 21 => ⟨S2048, .i1⟩
  | 22 => ⟨S_, .i32⟩
  | 23 => ⟨S2048, .i32⟩
  | 24 => ⟨S2048, .i32⟩
  | 25 => ⟨S2048, .i32⟩
  | 26 => ⟨S2048x1, .i32⟩
  | 27 => ⟨S8192, .i32⟩
  | 28 => ⟨S_, .i32⟩
  | 29 => ⟨S_, .i32⟩
  | 30 => ⟨S8192, .i32⟩
  | 31 => ⟨S8192, .i32⟩
  | 32 => ⟨S8192, .i32⟩
  | 33 => ⟨S_, .i32⟩
  | 34 => ⟨S8192, .i32⟩
  | 35 => ⟨S8192, .i1⟩
  | 36 => ⟨S8192, .i32⟩
  | 37 => ⟨S8192, .i32⟩
  | 38 => ⟨S_, .i32⟩
  | 39 => ⟨S8192, .i32⟩
  | 40 => ⟨S8192, .i1⟩
  | 41 => ⟨S8192, .i1⟩
  | 42 => ⟨S_, .i32⟩
  | 43 => ⟨S8192, .i32⟩
  | 44 => ⟨S8192, .i32⟩
  | 45 => ⟨S8192, .i32⟩
  | 46 => ⟨S1x8192, .i32⟩
  | 47 => ⟨S2048x8192, .i32⟩
  | 48 => ⟨S2048x8192, .i32⟩
  | 49 => ⟨S2048x8192, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x8192, .i32⟩
  | 57 => ⟨S1x8192, .i32⟩
  | 58 => ⟨S_, .i32⟩
  | 59 => ⟨S1x8192, .i32⟩
  | 60 => ⟨S1x8192, .i1⟩
  | 61 => ⟨S_, .i32⟩
  | 62 => ⟨S1x8192, .i32⟩
  | 63 => ⟨S1x8192, .i1⟩
  | 64 => ⟨S_, .i32⟩
  | 65 => ⟨S_, .i1⟩
  | 66 => ⟨S1x8192, .i1⟩
  | 67 => ⟨S1x8192, .i1⟩
  | 68 => ⟨S1x8192, .i1⟩
  | 69 => ⟨S1x8192, .i32⟩
  | 70 => ⟨S1x8192, .i32⟩
  | 71 => ⟨S1x8192, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S2048x1, .i32⟩
  | 79 => ⟨S2048x1, .i32⟩
  | 80 => ⟨S_, .i32⟩
  | 81 => ⟨S2048x1, .i32⟩
  | 82 => ⟨S2048x1, .i1⟩
  | 83 => ⟨S_, .i32⟩
  | 84 => ⟨S2048x1, .i32⟩
  | 85 => ⟨S2048x1, .i1⟩
  | 86 => ⟨S_, .i32⟩
  | 87 => ⟨S_, .i1⟩
  | 88 => ⟨S2048x1, .i1⟩
  | 89 => ⟨S2048x1, .i1⟩
  | 90 => ⟨S2048x1, .i1⟩
  | 91 => ⟨S2048x1, .i32⟩
  | 92 => ⟨S2048x1, .i32⟩
  | 93 => ⟨S2048x1, .i32⟩
  | 94 => ⟨S2048x8192, .i32⟩
  | 95 => ⟨S2048x8192, .i32⟩
  | 96 => ⟨S2048x8192, .i1⟩
  | 97 => ⟨S2048x8192, .i1⟩
  | 98 => ⟨S1x32x2048x8192, .f32⟩
  | 99 => ⟨S_, .f32⟩
  | 100 => ⟨S1x32x2048x8192, .f32⟩
  | 101 => ⟨S1x32x2048x8192, .f32⟩
  | 102 => ⟨S1x1x2048x8192, .i1⟩
  | 103 => ⟨S_, .f32⟩
  | 104 => ⟨S_, .f32⟩
  | 105 => ⟨S1x32x2048x8192, .i1⟩
  | 106 => ⟨S1x32x2048x8192, .f32⟩
  | 107 => ⟨S1x32x2048x8192, .f32⟩
  | 108 => ⟨S_, .f32⟩
  | 109 => ⟨S1x32x2048, .f32⟩
  | 110 => ⟨S1x32x2048x1, .f32⟩
  | 111 => ⟨S1x32x2048x8192, .f32⟩
  | 112 => ⟨S1x32x2048x8192, .f32⟩
  | 113 => ⟨S1x32x2048x8192, .f32⟩
  | 114 => ⟨S_, .i1⟩
  | 115 => ⟨S2048, .i1⟩
  | 116 => ⟨S1x1x2048x1, .i1⟩
  | 117 => ⟨S_, .f32⟩
  | 118 => ⟨S1x32x2048, .f32⟩
  | 119 => ⟨S1x32x2048x1, .f32⟩
  | 120 => ⟨S_, .f32⟩
  | 121 => ⟨S_, .f32⟩
  | 122 => ⟨S1x32x2048x1, .i1⟩
  | 123 => ⟨S1x32x2048x1, .f32⟩
  | 124 => ⟨S1x32x2048x1, .f32⟩
  | 125 => ⟨S1x32x2048x8192, .f32⟩
  | 126 => ⟨S1x32x2048x8192, .f32⟩
  | 127 => ⟨S1x1x2048x1, .i1⟩
  | _ => ⟨S1x2048x1024, .f32⟩

abbrev hbmTy0_1 (i : Nat) : BufTy := match i % 128 with
  | 0 => ⟨S_, .f32⟩
  | 1 => ⟨S_, .f32⟩
  | 2 => ⟨S1x32x2048x8192, .i1⟩
  | 3 => ⟨S1x32x2048x8192, .f32⟩
  | 4 => ⟨S1x32x2048x8192, .f32⟩
  | 5 => ⟨S1x32x128x2048, .f32⟩
  | 6 => ⟨S1x2048x32x128, .f32⟩
  | 7 => ⟨S1x2048x4096, .f32⟩
  | 8 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Sched.lean ====
/-
  The two exchanges of the kernel: devices, semaphore cells, who pays which cell, and what each payment carries.
  The all-to-all of the keys and values uses barrier 0, and the all-reduce of the output uses barrier 1.
-/
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.TalkSched
public import Idealize.ShloMosaic.Lib.Ring
public import Idealize.ShloMosaic.Lib.Ring.Trips
public import Idealize.ShloMosaic.Lib.Rounds

@[expose] public section

set_option backward.proofsInPublic true

noncomputable section

namespace Cert.Tp

open Idealize.ShloMosaic Idealize.ShloMosaic.TcCoe Idealize.ShloMosaic.Rounds
open Idealize.ShloMosaic.SiteBlocks Idealize.ShloMosaic.TalkSites
open Idealize.SL Idealize.SL.RA Idealize.SL.BI
open scoped Idealize.SL.BI
open Idealize.SL.BI.BIBase Idealize.SL.Sem
open Cert.KernelIdeal Cert.KernelIdeal.Gen

variable {F : FTy → Type} [FloatOps F] [Named F]

/-! ## Devices -/

/-- The device `d` places after `c` on the ring of four. -/
def pr (d : ℕ) (c : Dev nD) : Dev nD := ⟨(c.val + d) % 4, Nat.mod_lt _ (by decide)⟩

theorem pr_pr31 (c : Dev nD) : pr 3 (pr 1 c) = c := by revert c; decide
theorem pr_pr13 (c : Dev nD) : pr 1 (pr 3 c) = c := by revert c; decide
theorem pr_pr22 (c : Dev nD) : pr 2 (pr 2 c) = c := by revert c; decide
theorem pr_zero (c : Dev nD) : pr 0 c = c := by revert c; decide

/-! ## Cells -/

/-- Device `c`'s barrier cell of the exchange with collective id `k`. -/
abbrev barC (k : Fin 2) (c : Dev nD) : GSem nD τ sig := ((c : Thread nD τ), .reg k)
/-- Device `c`'s DMA cell number `n`. -/
abbrev dmaC (n : Fin 40) (c : Dev nD) : GSem nD τ sig := ((c : Thread nD τ), .dma n)

/-- A dma semaphore the exchanges use themselves (the others stage windows). -/
def ownDma (n : ℕ) : Prop := n < 14 ∨ 28 ≤ n
instance (n : ℕ) : Decidable (ownDma n) := by unfold ownDma; infer_instance

/-- The cells of the two exchanges. -/
def IsCell (g : GSem nD τ sig) : Prop :=
  g.1.2 = .tc ∧ match g.2 with | .reg _ => True | .dma n => ownDma n.val

/-! ## Resource algebra -/

abbrev UU : Type := UR sig nD τ × URounds (GSem nD τ sig) ℕ

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) := embR

/-! ## Credits of one transfer -/

/-- The credit of a transfer of one device's share of keys or values. -/
def NK : ℕ := (((Memref.whole main_v7_0 : Memref sig .tc .hbm S4x8x2048x128 .bf16).slice
  (Rect.unit (s := S4x8x2048x128) (k0_off1 0) S1x8x2048x128.size (k0_off1_inb 0)) (fun _ => rfl)).squeeze
    S8x2048x128 squeezes_S1x8x2048x128_S8x2048x128).view.dmaCredit
/-- The credit of a transfer of one slab of the output. -/
def NR : ℕ := (Memref.whole cc2_scratch1 : Memref sig .tc .vmem S512x1024 .bf16).view.dmaCredit
theorem NK_pos : 0 < NK := View.dmaCredit_pos _ (by decide)
theorem NR_pos : 0 < NR := View.dmaCredit_pos _ (by decide)

/-! ## Contents -/

/-- The contents the exchanges start from, on every device: the keys and the values of its own positions, all heads,
    and its partial output. -/
structure Start (F : FTy → Type) where
  k : Dev nD → main_v3.ty.Contents (Elt F)
  v : Dev nD → main_v6.ty.Contents (Elt F)
  p : Dev nD → main_v16.ty.Contents (Elt F)

/-- The device with number `i`. -/
def devN (i : ℕ) : Dev nD := ⟨i % 4, Nat.mod_lt _ (by decide)⟩
theorem devN_val (c : Dev nD) : devN c.val = c := by revert c; decide

/-- The index of head `8 c + h` at row `r`, lane `l`. -/
def headIx (c : Dev nD) (i : S4x8x2048x128.Idx) : S32x2048x128.Idx := fun a =>
  match a with
  | ⟨0, _⟩ => ⟨8 * c.val + (i 1).val, by have h1 : (i 1).val < 8 := (i 1).isLt; have h2 : c.val < 4 := c.isLt; show _ < 32; omega⟩
  | ⟨1, _⟩ => ⟨(i 2).val, (i 2).isLt⟩
  | ⟨2, _⟩ => ⟨(i 3).val, (i 3).isLt⟩

/-- What device `c`'s gathered keys hold in the end: block `s` is the share of heads `8 c … 8 c + 7` of device `s`. -/
def gathK (w : Start F) (c : Dev nD) : main_v7_0.ty.Contents (Elt F) := fun i => w.k (devN (i 0).val) (headIx c i)
def gathV (w : Start F) (c : Dev nD) : main_v7_1.ty.Contents (Elt F) := fun i => w.v (devN (i 0).val) (headIx c i)

/-- The index of row `a`, lane `b` of slab `e`; of slot `j`; and of no slab. -/
def slabIx (e : Dev nD) (a : Fin 512) (b : Fin 1024) : S4x512x1024.Idx := fun k => match k with | ⟨0, _⟩ => e | ⟨1, _⟩ => a | ⟨2, _⟩ => b
def slotIx (j : Fin 3) (a : Fin 512) (b : Fin 1024) : S3x512x1024.Idx := fun k => match k with | ⟨0, _⟩ => j | ⟨1, _⟩ => a | ⟨2, _⟩ => b
def flatIx (a : Fin 512) (b : Fin 1024) : S512x1024.Idx := fun k => match k with | ⟨0, _⟩ => a | ⟨1, _⟩ => b

/-- The partial output rounded for the wire. -/
def sendB (w : Start F) (c : Dev nD) : cc2_scratch0.ty.Contents (Elt F) := k2_pay1 (w.p c)
/-- Slot `j` of the first landing buffer in the end: the slab `c` of the device `3 - j` places on. -/
def landR (w : Start F) (c : Dev nD) : cc2_scratch2.ty.Contents (Elt F) := fun i =>
  sendB w (pr (3 - (i 0).val) c) (slabIx c (i 1) (i 2))
/-- A slab of the partial output, and a landed slot, as the body loads them. -/
def slabP (w : Start F) (c : Dev nD) : Vec F S1x512x1024 .f32 := fun i =>
  w.p c (slabIx c (i 1) (i 2))
def slotV (f : S3x512x1024.Idx → Elt F .bf16) (j : Fin 3) : Vec F S1x512x1024 .bf16 := fun i =>
  f (slotIx j (i 1) (i 2))
/-- The reduced slab device `c` owns, rounded. -/
def redB (w : Start F) (c : Dev nD) : cc2_scratch1.ty.Contents (Elt F) :=
  k2_pay4 (slabP w c) (slotV (landR w c) 0) (slotV (landR w c) 1) (slotV (landR w c) 2)
/-- Slot `j` of the second landing buffer in the end: the reduced slab of the device `3 - j` places on. -/
def landG (w : Start F) (c : Dev nD) : cc2_scratch3.ty.Contents (Elt F) := fun i =>
  redB w (pr (3 - (i 0).val) c) (flatIx (i 1) (i 2))

/-! ## Parts of buffers -/

/-- Heads `8 e … 8 e + 7`. -/
def kSet (e : Dev nD) : Finset S32x2048x128.Idx := Finset.univ.filter fun i => (i 0).val / 8 = e.val
/-- Block `e` of the gathered buffer. -/
def gSet (e : Dev nD) : Finset S4x8x2048x128.Idx := Finset.univ.filter fun i => (i 0).val = e.val
/-- Slab `e` of the output. -/
def sSet (e : Dev nD) : Finset S4x512x1024.Idx := Finset.univ.filter fun i => (i 0).val = e.val
/-- Slot `j` of a landing buffer. -/
def rSet (j : Fin 3) : Finset S3x512x1024.Idx := Finset.univ.filter fun i => (i 0).val = j.val

/-- Device `c` holds heads `8 e …` of its keys (values) at `f`. -/
abbrev kPts (e c : Dev nD) (f : main_v3.ty.Contents (Elt F)) : sProp 𝕄 := (c : Thread nD τ).loc main_v3 ↦[kSet e]{fullShare} f
abbrev vPts (e c : Dev nD) (f : main_v6.ty.Contents (Elt F)) : sProp 𝕄 := (c : Thread nD τ).loc main_v6 ↦[kSet e]{fullShare} f
/-- Device `c` holds block `e` of its gathered keys (values) at `f`. -/
abbrev gkPts (e c : Dev nD) (f : main_v7_0.ty.Contents (Elt F)) : sProp 𝕄 := (c : Thread nD τ).loc main_v7_0 ↦[gSet e]{fullShare} f
abbrev gvPts (e c : Dev nD) (f : main_v7_1.ty.Contents (Elt F)) : sProp 𝕄 := (c : Thread nD τ).loc main_v7_1 ↦[gSet e]{fullShare} f
/-- Device `c` holds slab `e` of its rounded partial output, slot `j` of its first and of its second landing buffer, a share of its reduced slab. -/
abbrev sPts (e c : Dev nD) (f : cc2_scratch0.ty.Contents (Elt F)) : sProp 𝕄 := (c : Thread nD τ).loc cc2_scratch0 ↦[sSet e]{fullShare} f
abbrev rPts (j : Fin 3) (c : Dev nD) (f : cc2_scratch2.ty.Contents (Elt F)) : sProp 𝕄 := (c : Thread nD τ).loc cc2_scratch2 ↦[rSet j]{fullShare} f
abbrev aPts (j : Fin 3) (c : Dev nD) (f : cc2_scratch3.ty.Contents (Elt F)) : sProp 𝕄 := (c : Thread nD τ).loc cc2_scratch3 ↦[rSet j]{fullShare} f
abbrev qPts (q : PosShare TreeShare) (c : Dev nD) (f : cc2_scratch1.ty.Contents (Elt F)) : sProp 𝕄 := (c : Thread nD τ).loc cc2_scratch1 ↦{q} f

/-! ## What a payment carries -/

/-- What the device `e + 1` places after `c` hands to `c` at barrier 0: the blocks of its gathered buffers `c` writes,
    and that the cells those writes signal are open. -/
def barPay0 (c : Dev nD) (e : Fin 3) : sProp 𝕄 :=
  iprop((∃ f, gkPts c (pr (e.val + 1) c) f) ∗ (∃ f, gvPts c (pr (e.val + 1) c) f)
    ∗ reached ER (dmaC ⟨8 + e.val, by omega⟩ (pr (e.val + 1) c)) 0 ∗ reached ER (dmaC ⟨11 + e.val, by omega⟩ (pr (e.val + 1) c)) 0)
/-- The same at barrier 1: its landing slots. -/
def barPay1 (c : Dev nD) (e : Fin 3) : sProp 𝕄 :=
  iprop((∃ f, rPts e (pr (e.val + 1) c) f) ∗ (∃ f, aPts e (pr (e.val + 1) c) f)
    ∗ reached ER (dmaC ⟨31 + e.val, by omega⟩ (pr (e.val + 1) c)) 0 ∗ reached ER (dmaC ⟨37 + e.val, by omega⟩ (pr (e.val + 1) c)) 0)

/-- What the transfer that completes on DMA cell `n` of device `c` hands to it. -/
def dmaPay (w : Start F) (c : Dev nD) : ℕ → sProp 𝕄
  | 0 => iprop(gkPts c c (gathK w c) ∗ kPts c c (w.k c))
  | 1 => iprop(gvPts c c (gathV w c) ∗ vPts c c (w.v c))
  | 2 => kPts (pr 1 c) c (w.k c)
  | 3 => kPts (pr 2 c) c (w.k c)
  | 4 => kPts (pr 3 c) c (w.k c)
  | 5 => vPts (pr 1 c) c (w.v c)
  | 6 => vPts (pr 2 c) c (w.v c)
  | 7 => vPts (pr 3 c) c (w.v c)
  | 8 => gkPts (pr 3 c) c (gathK w c)
  | 9 => gkPts (pr 2 c) c (gathK w c)
  | 10 => gkPts (pr 1 c) c (gathK w c)
  | 11 => gvPts (pr 3 c) c (gathV w c)
  | 12 => gvPts (pr 2 c) c (gathV w c)
  | 13 => gvPts (pr 1 c) c (gathV w c)
  | 28 => sPts (pr 1 c) c (sendB w c)
  | 29 => sPts (pr 2 c) c (sendB w c)
  | 30 => sPts (pr 3 c) c (sendB w c)
  | 31 => rPts 0 c (landR w c)
  | 32 => rPts 1 c (landR w c)
  | 33 => rPts 2 c (landR w c)
  | 34 => qPts (Idealize.ShloMosaic.Ring.shares3 fullShare 0) c (redB w c)
  | 35 => qPts (Idealize.ShloMosaic.Ring.shares3 fullShare 1) c (redB w c)
  | 36 => qPts (Idealize.ShloMosaic.Ring.shares3 fullShare 2) c (redB w c)
  | 37 => aPts 0 c (landG w c)
  | 38 => aPts 1 c (landG w c)
  | 39 => aPts 2 c (landG w c)
  | _ => iprop(emp)

/-! ## The schedule -/

/-- One round: three duties on a barrier cell (duty `e` is the device `e + 1` places on), one on a transfer's cell. -/
def sched (w : Start F) : Rounds.Schedule (GSem nD τ sig) ℕ 𝕄 where
  duties g r := if r = 0 then (match g.2 with | .reg _ => {0, 1, 2} | .dma _ => {0}) else ∅
  unitless _ := False
  amount g _ _ := match g.2 with | .reg _ => 1 | .dma n => if n.val < 14 then NK else NR
  payload g _ d := match g.2 with
    | .reg k => if k.val = 0 then barPay0 g.1.1 ⟨d % 3, Nat.mod_lt _ (by decide)⟩ else barPay1 g.1.1 ⟨d % 3, Nat.mod_lt _ (by decide)⟩
    | .dma n => dmaPay w g.1.1 n.val
  amount_pos g _ _ _ := by
    rcases g with ⟨t, sm⟩
    cases sm with
    | reg k => exact Nat.one_pos
    | dma n => show 0 < (if n.val < 14 then NK else NR); split; exacts [NK_pos, NR_pos]

theorem dmaPay_storable (w : Start F) (c : Dev nD) (n : ℕ) : BI.Storable (upEmb : UEmb _ 𝕄) (dmaPay w c n) := by
  unfold dmaPay; split <;> infer_instance

instance sched_storable (w : Start F) (g : GSem nD τ sig) (r d : ℕ) : BI.Storable (upEmb : UEmb _ 𝕄) ((sched w).payload g r d) := by
  rcases g with ⟨t, sm⟩
  cases sm with
  | reg k =>
    show BI.Storable upEmb (if k.val = 0 then barPay0 t.1 ⟨d % 3, Nat.mod_lt _ (by decide)⟩ else barPay1 t.1 ⟨d % 3, Nat.mod_lt _ (by decide)⟩)
    unfold barPay0 barPay1
    split <;> infer_instance
  | dma n => exact dmaPay_storable w t.1 n.val

section Table
variable (w : Start F) (c : Dev nD)

theorem duties_bar (k : Fin 2) : (sched w).duties (barC k c) 0 = {0, 1, 2} := rfl
theorem duties_dma (n : Fin 40) : (sched w).duties (dmaC n c) 0 = {0} := rfl
theorem duties_later (g : GSem nD τ sig) : ∀ r, 1 ≤ r → (sched w).duties g r = ∅ := fun r hr => if_neg (by omega)
theorem amount_bar (k : Fin 2) (d : ℕ) : (sched w).amount (barC k c) 0 d = 1 := rfl
theorem amount_K (n : Fin 40) (h : n.val < 14) (d : ℕ) : (sched w).amount (dmaC n c) 0 d = NK := if_pos h
theorem amount_R (n : Fin 40) (h : ¬ n.val < 14) (d : ℕ) : (sched w).amount (dmaC n c) 0 d = NR := if_neg h
theorem payload_dma (n : Fin 40) (d : ℕ) : (sched w).payload (dmaC n c) 0 d = dmaPay w c n.val := rfl
theorem payload_bar0 (e : Fin 3) : (sched w).payload (barC 0 c) 0 e.val = barPay0 c e := by
  show barPay0 c ⟨e.val % 3, _⟩ = _; congr 1; exact Fin.ext (Nat.mod_eq_of_lt e.isLt)
theorem payload_bar1 (e : Fin 3) : (sched w).payload (barC 1 c) 0 e.val = barPay1 c e := by
  show barPay1 c ⟨e.val % 3, _⟩ = _; congr 1; exact Fin.ext (Nat.mod_eq_of_lt e.isLt)

theorem expect_bar (k : Fin 2) : (sched w).expect (barC k c) 0 = 3 := rfl
theorem expect_K (n : Fin 40) (h : n.val < 14) : (sched w).expect (dmaC n c) 0 = NK := by
  unfold Schedule.expect Schedule.amountOf; rw [duties_dma, Finset.sum_singleton, amount_K w c n h]
theorem expect_R (n : Fin 40) (h : ¬ n.val < 14) : (sched w).expect (dmaC n c) 0 = NR := by
  unfold Schedule.expect Schedule.amountOf; rw [duties_dma, Finset.sum_singleton, amount_R w c n h]

theorem rest_dma (n : Fin 40) : bigSep ((sched w).duties (dmaC n c) 0 \ ∅) (fun d => (sched w).payload (dmaC n c) 0 d) = dmaPay w c n.val := by
  rw [Finset.sdiff_empty, duties_dma, bigSep_singleton, payload_dma]
theorem rest_bar0 : bigSep ((sched w).duties (barC 0 c) 0 \ ∅) (fun d => (sched w).payload (barC 0 c) 0 d)
    = iprop(barPay0 c 0 ∗ barPay0 c 1 ∗ barPay0 c 2) := by
  rw [Finset.sdiff_empty, duties_bar, bigSep_insert (by decide), bigSep_insert (by decide), bigSep_singleton]
  rfl
theorem rest_bar1 : bigSep ((sched w).duties (barC 1 c) 0 \ ∅) (fun d => (sched w).payload (barC 1 c) 0 d)
    = iprop(barPay1 c 0 ∗ barPay1 c 1 ∗ barPay1 c 2) := by
  rw [Finset.sdiff_empty, duties_bar, bigSep_insert (by decide), bigSep_insert (by decide), bigSep_singleton]
  rfl

end Table

/-! ## Dues and levels -/

/-- Levels: 0 staging, own copies and sends; 1 barrier 0; 2 landings of the all-to-all; 3 barrier 1; 4 landings of the
    reduce-scatter; 5 landings of the all-gather. -/
abbrev NL : ℕ := 6

/-- What device `c` owes in the all-to-all, in the order it pays. -/
def due0 (c : Dev nD) : List (Pay nD τ sig) :=
  [(barC 0 (pr 1 c), 1, 1), (barC 0 (pr 2 c), 1, 1), (barC 0 (pr 3 c), 1, 1),
   (dmaC 8 (pr 1 c), 2, NK), (dmaC 11 (pr 1 c), 2, NK), (dmaC 9 (pr 2 c), 2, NK), (dmaC 12 (pr 2 c), 2, NK),
   (dmaC 10 (pr 3 c), 2, NK), (dmaC 13 (pr 3 c), 2, NK)]
/-- What it owes in the all-reduce. -/
def due2 (c : Dev nD) : List (Pay nD τ sig) :=
  [(barC 1 (pr 1 c), 3, 1), (barC 1 (pr 2 c), 3, 1), (barC 1 (pr 3 c), 3, 1),
   (dmaC 31 (pr 1 c), 4, NR), (dmaC 32 (pr 2 c), 4, NR), (dmaC 33 (pr 3 c), 4, NR),
   (dmaC 37 (pr 1 c), 5, NR), (dmaC 38 (pr 2 c), 5, NR), (dmaC 39 (pr 3 c), 5, NR)]

/-- Owed through the first two calls: the all-reduce's dues. -/
def D2 (c : Dev nD) : CellTallies nD τ sig ℕ := 0 + tallyL (due2 c)

/-- Paying the head of a list of dues. -/
theorem pay_head (D : CellTallies nD τ sig ℕ) (x : Pay nD τ sig) (l : List (Pay nD τ sig)) :
    D + tallyL (x :: l) = (D + tallyL l) + x.tally := by rw [tallyL, add_comm x.tally, add_assoc]

theorem above_none : Above NL NL (fun _ : Dev nD => (0 : CellTallies nD τ sig ℕ)) := above_zero _ _
theorem above_D2 : Above NL 3 (D2 : Dev nD → CellTallies nD τ sig ℕ) :=
  talk_above (N := NL) (b := 3) (w := 3) (by decide) above_none due2 (fun c x hx => by
    simp only [due2, List.mem_cons, List.not_mem_nil, or_false] at hx
    rcases hx with h | h | h | h | h | h | h | h | h <;> subst h <;> exact ⟨rfl, by dsimp only; omega, by dsimp only; omega⟩)

/-- What a device has left to pay does not block a wait below it. -/
theorem mayWait_rest {e i : ℕ} (hi : i < e) (he : e ≤ NL) {O : Dev nD → CellTallies nD τ sig ℕ} (hO : Above NL e O) (c : Dev nD)
    (sm : SemLoc sig) (l : List (Pay nD τ sig)) (hl : ∀ x ∈ l, x.1.1.2 = .tc ∧ i < x.2.1 ∧ x.2.1 < e) :
    (levAts (L NL) lv : sProp 𝕄) ⊢ MayWait (c : Thread nD τ) sm i (O c + tallyL l) := by
  rw [← addL_eq]; exact mayWait_addL hi he hO c sm l hl

end Cert.Tp
-- ==== Proof.Steps.lean ====
/-
  The steps the two exchanges are made of: a barrier signal, the barrier wait, a local copy, a remote copy and the wait
  on a copy, each with the cell it touches taken from one shared list of invariants.
-/
module

public import proofs.«01_k».proof.Proof.Sched

@[expose] public section

set_option backward.proofsInPublic true

noncomputable section

namespace Cert.Tp

open Idealize.ShloMosaic Idealize.ShloMosaic.TcCoe Idealize.ShloMosaic.Rounds
open Idealize.ShloMosaic.SiteBlocks Idealize.ShloMosaic.TalkSites
open Idealize.SL Idealize.SL.RA Idealize.SL.BI
open scoped Idealize.SL.BI
open Idealize.SL.BI.BIBase Idealize.SL.Sem
open Cert.KernelIdeal Cert.KernelIdeal.Gen

variable {F : FTy → Type} [FloatOps F] [Named F]

local notation "𝕄" => MT nD τ sig ℕ (Elt F) ℕ UU ℕ

abbrev 𝒱₀ : Variants := Variants.none

/-! ## The list of invariants -/

/-- The DMA cell with place `i` among the twenty-six the exchanges use. -/
def dmaNo (i : Fin 26) : Fin 40 := if h : i.val < 14 then ⟨i.val, by omega⟩ else ⟨i.val + 14, by omega⟩
theorem dmaNo_inj : Function.Injective dmaNo := by decide

/-- The barrier cells and the DMA cells, by device and number. -/
def barEmb : Dev nD × Fin 2 ↪ GSem nD τ sig :=
  ⟨fun x => barC x.2 x.1, fun x y h => by
    obtain ⟨a, i⟩ := x; obtain ⟨b, j⟩ := y
    have h1 : (a : Thread nD τ) = b := congrArg Prod.fst h
    have h2 : (SemLoc.reg i : SemLoc sig) = .reg j := congrArg Prod.snd h
    have h3 : a = b := congrArg Prod.fst h1
    cases h2; subst h3; rfl⟩
def dmaEmb : Dev nD × Fin 26 ↪ GSem nD τ sig :=
  ⟨fun x => dmaC (dmaNo x.2) x.1, fun x y h => by
    obtain ⟨a, i⟩ := x; obtain ⟨b, j⟩ := y
    have h1 : (a : Thread nD τ) = b := congrArg Prod.fst h
    have h2 : (SemLoc.dma (dmaNo i) : SemLoc sig) = .dma (dmaNo j) := congrArg Prod.snd h
    have h3 : a = b := congrArg Prod.fst h1
    have h4 : i = j := dmaNo_inj (by injection h2)
    subst h3; subst h4; rfl⟩
/-- The cells open from the start, and those opened by the call that owns them. -/
def barCells : Finset (GSem nD τ sig) := Finset.univ.map barEmb
def dmaCells : Finset (GSem nD τ sig) := Finset.univ.map dmaEmb

theorem bar_mem (k : Fin 2) (c : Dev nD) : barC k c ∈ barCells ∪ dmaCells :=
  Finset.mem_union_left _ (Finset.mem_map.2 ⟨(c, k), Finset.mem_univ _, rfl⟩)
theorem dma_mem (i : Fin 26) (c : Dev nD) : dmaC (dmaNo i) c ∈ barCells ∪ dmaCells :=
  Finset.mem_union_right _ (Finset.mem_map.2 ⟨(c, i), Finset.mem_univ _, rfl⟩)

/-- Every cell's invariant, at the names `K`. -/
def invs (w : Start F) (K : GSem nD τ sig → ℕ) : sProp 𝕄 := bigSep (barCells ∪ dmaCells) fun g => cellInv ER (sched w) (K g) g
instance invs_persistent (w : Start F) (K : GSem nD τ sig → ℕ) : BI.Persistent (invs w K) := by unfold invs; infer_instance

theorem inv_bar (w : Start F) (K : GSem nD τ sig → ℕ) (k : Fin 2) (c : Dev nD) :
    invs w K ⊢ cellInv ER (sched w) (K (barC k c)) (barC k c) := bigSep_elim (bar_mem k c)
theorem inv_dma (w : Start F) (K : GSem nD τ sig → ℕ) (i : Fin 26) (c : Dev nD) :
    invs w K ⊢ cellInv ER (sched w) (K (dmaC (dmaNo i) c)) (dmaC (dmaNo i) c) := bigSep_elim (dma_mem i c)

/-- What a core owes, whatever waits it has recorded. -/
def owesE (c : Dev nD) (O : CellTallies nD τ sig ℕ) : sProp 𝕄 := iprop(∃ W, owes (c : Thread nD τ) O W)

/-! ## The steps -/

section Steps

variable (w : Start F) (K : GSem nD τ sig → ℕ) (c : Dev nD) {α : Type}
variable {Q : α → sProp (MT nD τ sig ℕ (Elt F) ℕ UU ℕ)}

/-- Signal a barrier cell: the head of the dues is paid. -/
theorem st_signal (k : Fin 2) (p n : Dev nD) (hn : n = p) (e : Fin 3) (ι : ℕ) (D : CellTallies nD τ sig ℕ) (l : List (Pay nD τ sig))
    {kt : PUnit → Prog (TpuEff nD τ sig (Elt F) Λ₀ .tc) α} :
    iprop(invs w K ∗ owesE c (D + tallyL ((barC k p, ι, 1) :: l)) ∗ dutyTok ER (barC k p) 0 e.val
        ∗ (sched w).payload (barC k p) 0 e.val ∗ reached ER (barC k p) 0)
      ⊢ iprop((owesE c (D + tallyL l) -∗ wp frame (wpE (defs₀ (F := F)) 𝒱₀ c none) Set.univ (kt ⟨⟩) Q)
          -∗ wp frame (wpE (defs₀ (F := F)) 𝒱₀ c none) Set.univ (.op (.semSignal (n : Thread nD τ) k 1) kt) Q) := by
  subst hn
  unfold owesE
  iintro ⟨#HI, ⟨%W, HO⟩, Ht, Hp, #Hr⟩ Hk
  iapply (Rounds.wp_signal 𝒱₀ ER (sched w) (c : Thread nD τ) none (dst := (n : Thread nD τ)) (sem := k) (r := 0) (d := e.val) (κ := K (barC k n))
      (by rw [duties_bar]; revert e; decide) (amount_bar w n k e.val) ι (D + tallyL l) (pay_head D (barC k n, ι, 1) l)) $$ [HO Ht Hp]
  · isplitr; · iapply (inv_bar w K k n); iexact HI
    isplitl [HO]; · iexact HO
    isplitl [Ht]; · iexact Ht
    isplitl [Hp]; · iexact Hp
    iexact Hr
  iintro HO
  iapply Hk
  iexists W; iexact HO

/-- Wait for the three signals of a barrier cell, and close it. -/
theorem st_barwait (k : Fin 2) (ι : ℕ) (O : CellTallies nD τ sig ℕ)
    {kt : PUnit → Prog (TpuEff nD τ sig (Elt F) Λ₀ .tc) α} :
    iprop(invs w K ∗ cred (tallyAt (barC k c) ι 3) ∗ owesE c O ∗ MayWait (c : Thread nD τ) (.reg k) ι O ∗ atPos ER (barC k c) 0 ∅ 0)
      ⊢ iprop(((owesE c O ∗ semVal (barC k c) 0
            ∗ bigSep ((sched w).duties (barC k c) 0 \ ∅) (fun d => (sched w).payload (barC k c) 0 d))
          -∗ wp frame (wpE (defs₀ (F := F)) 𝒱₀ c none) Set.univ (kt ⟨⟩) Q)
          -∗ wp frame (wpE (defs₀ (F := F)) 𝒱₀ c none) Set.univ (.op (.semWait k 3) kt) Q) := by
  unfold owesE
  iintro ⟨#HI, Hc, ⟨%W, HO⟩, Hm, Ha⟩ Hk
  iapply (Rounds.wp_wait_rest_token 𝒱₀ ER (sched w) (c : Thread nD τ) none (κ := K (barC k c))
      (wpE_semWait_eq 𝒱₀ (c : Thread nD τ) none Set.univ) (Set.mem_univ _) ι (O := O) (W := W) (R := 0) (m := 0) (T := ∅)
      ((Nat.zero_add 3).trans (expect_bar w c k).symm)) $$ [Hc HO Hm Ha]
  · isplitr; · iapply (inv_bar w K k c); iexact HI
    isplitl [Hc]; · iexact Hc
    isplitl [HO]; · iexact HO
    isplitl [Hm]; · iexact Hm
    iexact Ha
  iintro ⟨HO, Ha, -, Hp⟩
  imod (Rounds.cell_close ER (sched w) (Set.mem_univ (K (barC k c))) (fun h => h) (R := 0 + 1) (duties_later w (barC k c))) $$ [Ha] with Hv
  · isplitr; · iapply (inv_bar w K k c); iexact HI
    iexact Ha
  iapply Hk
  isplitl [HO]; · iexists _; iexact HO
  isplitl [Hv]; · iexact Hv
  iexact Hp

/-- Start a local copy: its credit is in hand. -/
theorem st_copy (i : Fin 26) {sp sp' : Space} {s : Shape} {e : EltTy} {src : Memref sig .tc sp s e} {dst : Memref sig .tc sp' s e}
    (sem : DmaSem sig) (hsem' : sem = dmaNo i)
    {hsrc : src.view.WordExact} {hdst : dst.view.WordExact} {hsem : DmaTarget.Typed (nD := nD) (τ := τ) sp (.dma sem) (.here (p := (Proc.tc : Proc τ)) dst)}
    {q : PosShare TreeShare} {fs : Buf (Elt F) (src.view.loc (c : Thread nD τ))} {fd : Buf (Elt F) (dst.view.loc (c : Thread nD τ))}
    (N : ℕ) (hN : dst.view.dmaCredit = N) (hk : (sched w).amount (dmaC (dmaNo i) c) 0 0 = N)
    (hpay : iprop((dst.view.loc (c : Thread nD τ) ↦[dst.view.set]{fullShare} (dst.view.write (Elt F) fd (src.view.read (Elt F) fs) Finset.univ))
              ∗ (src.view.loc (c : Thread nD τ) ↦[src.view.set]{q} fs)) ⊢ dmaPay w c (dmaNo i).val)
    {kt : PUnit → Prog (TpuEff nD τ sig (Elt F) Λ₀ .tc) α} :
    iprop(invs w K ∗ (src.view.loc (c : Thread nD τ) ↦[src.view.set]{q} fs) ∗ (dst.view.loc (c : Thread nD τ) ↦[dst.view.set]{fullShare} fd)
        ∗ dutyTok ER (dmaC (dmaNo i) c) 0 0 ∗ reached ER (dmaC (dmaNo i) c) 0)
      ⊢ iprop((cred (tallyAt (dmaC (dmaNo i) c) 0 N) -∗ wp frame (wpE (defs₀ (F := F)) 𝒱₀ c none) Set.univ (kt ⟨⟩) Q)
          -∗ wp frame (wpE (defs₀ (F := F)) 𝒱₀ c none) Set.univ (.op (.enqueueDma src (.here dst) (.dma sem) hsrc hdst hsem) kt) Q) := by
  subst hsem'
  iintro ⟨#HI, Hs, Hd, Ht, #Hr⟩ Hk
  iapply (Rounds.wp_copy_pointsTo 𝒱₀ ER (sched w) (c : Thread nD τ) none (src := src) (dst := dst) (sem := .dma (dmaNo i)) (q := q)
      (fs := fs) (fd := fd) (r := 0) (d := 0) (κ := K (dmaC (dmaNo i) c)) (by rw [duties_dma]; exact Finset.mem_singleton_self _) 0 N hN hk
      (by rw [payload_dma]; exact hpay)) $$ [Hs Hd Ht]
  · isplitr; · iapply (inv_dma w K i c); iexact HI
    isplitl [Hs]; · iexact Hs
    isplitl [Hd]; · iexact Hd
    isplitl [Ht]; · iexact Ht
    iexact Hr
  iexact Hk

/-- Start a remote copy: the head of the dues is the landing it pays, its own send credit is in hand. -/
theorem st_send (i i' : Fin 26) (p n : Dev nD) (hn : n = p) {sp sp' : Space} {s : Shape} {e : EltTy} {src : Memref sig .tc sp s e} {dst : Memref sig .tc sp' s e}
    {hsc : dst.view.ref.isScScratch = false} (sS sem : DmaSem sig) (hS : sS = dmaNo i) (hR : sem = dmaNo i')
    {hsrc : src.view.WordExact} {hdst : dst.view.WordExact}
    {hsem : DmaTarget.Typed (nD := nD) (τ := τ) sp (.dma sem) (.remote (n : Thread nD τ) dst (.dma sS) hsc)}
    {q : PosShare TreeShare} {fs : Buf (Elt F) (src.view.loc (c : Thread nD τ))} {fd : Buf (Elt F) (dst.view.loc (p : Thread nD τ))}
    (ι N : ℕ) (hN : dst.view.dmaCredit = N) (hk : (sched w).amount (dmaC (dmaNo i) c) 0 0 = N) (hk' : (sched w).amount (dmaC (dmaNo i') p) 0 0 = N)
    (D : CellTallies nD τ sig ℕ) (l : List (Pay nD τ sig))
    (hpay : (src.view.loc (c : Thread nD τ) ↦[src.view.set]{q} fs) ⊢ dmaPay w c (dmaNo i).val)
    (hpay' : (dst.view.loc (p : Thread nD τ) ↦[dst.view.set]{fullShare} (dst.view.write (Elt F) fd (src.view.read (Elt F) fs) Finset.univ))
      ⊢ dmaPay w p (dmaNo i').val)
    {kt : PUnit → Prog (TpuEff nD τ sig (Elt F) Λ₀ .tc) α} :
    iprop(invs w K ∗ (src.view.loc (c : Thread nD τ) ↦[src.view.set]{q} fs) ∗ (dst.view.loc (p : Thread nD τ) ↦[dst.view.set]{fullShare} fd)
        ∗ owesE c (D + tallyL ((dmaC (dmaNo i') p, ι, N) :: l))
        ∗ dutyTok ER (dmaC (dmaNo i) c) 0 0 ∗ reached ER (dmaC (dmaNo i) c) 0
        ∗ dutyTok ER (dmaC (dmaNo i') p) 0 0 ∗ reached ER (dmaC (dmaNo i') p) 0)
      ⊢ iprop(((cred (tallyAt (dmaC (dmaNo i) c) 0 N) ∗ owesE c (D + tallyL l)) -∗ wp frame (wpE (defs₀ (F := F)) 𝒱₀ c none) Set.univ (kt ⟨⟩) Q)
          -∗ wp frame (wpE (defs₀ (F := F)) 𝒱₀ c none) Set.univ
              (.op (.enqueueDma src (.remote (n : Thread nD τ) dst (.dma sS) hsc) (.dma sem) hsrc hdst hsem) kt) Q) := by
  subst hn hS hR
  unfold owesE
  iintro ⟨#HI, Hs, Hd, ⟨%W, HO⟩, Ht, #Hr, Ht', #Hr'⟩ Hk
  iapply (Rounds.wp_send_pointsTo 𝒱₀ ER (sched w) (c : Thread nD τ) none (c' := (n : Thread nD τ)) (src := src) (dst := dst)
      (sS := .dma (dmaNo i)) (sem := .dma (dmaNo i')) (q := q) (fs := fs) (κ₁ := K (dmaC (dmaNo i) c)) (κ₂ := K (dmaC (dmaNo i') n))
      (r₁ := 0) (r₂ := 0) (d₁ := 0) (d₂ := 0) (fd := fd)
      (by rw [duties_dma]; exact Finset.mem_singleton_self _) (by rw [duties_dma]; exact Finset.mem_singleton_self _)
      ι 0 N hN hk hk' (D + tallyL l) (pay_head D (dmaC (dmaNo i') n, ι, N) l) (W := W)
      (by rw [payload_dma]; exact hpay) (by rw [payload_dma]; exact hpay')) $$ [Hs Hd HO Ht Ht']
  · isplitr; · iapply (inv_dma w K i c); iexact HI
    isplitr; · iapply (inv_dma w K i' n); iexact HI
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

/-- Wait for a copy, and close its cell: what the copy carried comes back. -/
theorem st_wait (i : Fin 26) {sp sp' : Space} {s : Shape} {e : EltTy} {src : Memref sig .tc sp s e} {dst : Memref sig .tc sp' s e}
    (sem : DmaSem sig) (hS : sem = dmaNo i) {hsrc : src.view.WordExact} {hdst : dst.view.WordExact}
    (ι N : ℕ) (hN : dst.view.dmaCredit = N) (hk : (sched w).expect (dmaC (dmaNo i) c) 0 = N) (O : CellTallies nD τ sig ℕ)
    {kt : PUnit → Prog (TpuEff nD τ sig (Elt F) Λ₀ .tc) α} :
    iprop(invs w K ∗ cred (tallyAt (dmaC (dmaNo i) c) ι N) ∗ owesE c O ∗ MayWait (c : Thread nD τ) (.dma (dmaNo i)) ι O ∗ atPos ER (dmaC (dmaNo i) c) 0 ∅ 0)
      ⊢ iprop(((owesE c O ∗ semVal (dmaC (dmaNo i) c) 0 ∗ dmaPay w c (dmaNo i).val)
          -∗ wp frame (wpE (defs₀ (F := F)) 𝒱₀ c none) Set.univ (kt ⟨⟩) Q)
          -∗ wp frame (wpE (defs₀ (F := F)) 𝒱₀ c none) Set.univ (.op (.waitDma2 sem src dst hsrc hdst) kt) Q) := by
  subst hS
  subst hN
  unfold owesE
  iintro ⟨#HI, Hc, ⟨%W, HO⟩, Hm, Ha⟩ Hk
  iapply (Rounds.wp_wait_rest_token 𝒱₀ ER (sched w) (c : Thread nD τ) none (κ := K (dmaC (dmaNo i) c))
      (wpE_waitDma2_eq (src := src) (dst := dst) 𝒱₀ (c : Thread nD τ) none Set.univ) (Set.mem_univ _) ι (O := O) (W := W) (R := 0) (m := 0) (T := ∅)
      ((Nat.zero_add _).trans hk.symm)) $$ [Hc HO Hm Ha]
  · isplitr; · iapply (inv_dma w K i c); iexact HI
    isplitl [Hc]; · iexact Hc
    isplitl [HO]; · iexact HO
    isplitl [Hm]; · iexact Hm
    iexact Ha
  iintro ⟨HO, Ha, -, Hp⟩
  ihave Hp := (Entails.of_eq (rest_dma w c (dmaNo i))) $$ Hp
  imod (Rounds.cell_close ER (sched w) (Set.mem_univ (K (dmaC (dmaNo i) c))) (fun h => h) (R := 0 + 1) (duties_later w (dmaC (dmaNo i) c))) $$ [Ha] with Hv
  · isplitr; · iapply (inv_dma w K i c); iexact HI
    iexact Ha
  iapply Hk
  isplitl [HO]; · iexists _; iexact HO
  isplitl [Hv]; · iexact Hv
  iexact Hp

end Steps

end Cert.Tp
-- ==== Proof.Slabs.lean ====
/-
  The slabs the two exchanges move, as parts of whole buffers: which elements a view covers, and what a landed copy holds.
-/
module

public import proofs.«01_k».proof.Proof.Steps
public import Idealize.ShloMosaic.Lib.Writes
public import Idealize.ShloMosaic.Lib.Pipeline.ValueKit
public import Idealize.ShloMosaic.Lib.ViewIndex

@[expose] public section

set_option backward.proofsInPublic true

noncomputable section

namespace Cert.Tp

open Idealize.ShloMosaic Idealize.ShloMosaic.TcCoe Idealize.ShloMosaic.Rounds
open Idealize.SL Idealize.SL.RA Idealize.SL.BI
open scoped Idealize.SL.BI
open Idealize.SL.BI.BIBase Idealize.SL.Sem
open Cert.KernelIdeal Cert.KernelIdeal.Gen

variable {F : FTy → Type} [FloatOps F] [Named F]

local notation "𝕄" => MT nD τ sig ℕ (Elt F) ℕ UU ℕ

/-! ## Offsets -/

theorem off0_1 (c : Dev nD) : k0_off1 c = ![c.val, 0, 0, 0] := by revert c; decide
theorem off0_2 (c : Dev nD) : k0_off2 c = ![8 * c.val, 0, 0] := by revert c; decide
theorem off0_3 (c : Dev nD) (r : Fin 3) : k0_off3 c (BitVec.ofNat 32 (1 + r.val)) = ![8 * (pr (1 + r.val) c).val, 0, 0] := by
  revert c r; decide
theorem off2_1 (c : Dev nD) (r : Fin 3) : k2_off1 c (BitVec.ofNat 32 (1 + r.val)) = ![(pr (1 + r.val) c).val, 0, 0] := by
  revert c r; decide
theorem off2_2 (c : Dev nD) : k2_off2 c = ![c.val, 0, 0] := by revert c; decide
theorem off2_3 (c : Dev nD) (r : Fin 3) : k2_off3 c (BitVec.ofNat 32 (1 + r.val)) = ![(pr (3 - r.val) c).val, 0, 0] := by
  revert c r; decide

/-! ## Sets of elements -/

theorem set_heads (e : Dev nD) (off : Fin 3 → ℕ) (h) (ho : off = ![8 * e.val, 0, 0]) :
    (Rect.unit (s := S32x2048x128) off S8x2048x128.size h).set = kSet e := by
  subst ho
  ext i
  have h1 := (i 1).isLt; have h2 := (i 2).isLt
  simp only [Rect.mem_set_unit, kSet, Finset.mem_filter, Finset.mem_univ, true_and]
  constructor
  · intro H; have := H 0; simp at this; omega
  · intro H a
    match a with
    | ⟨0, _⟩ => show 8 * e.val ≤ (i 0).val ∧ (i 0).val < 8 * e.val + 8; omega
    | ⟨1, _⟩ => exact ⟨Nat.zero_le _, by show (i 1).val < 0 + 2048; have : (i 1).val < 2048 := h1; omega⟩
    | ⟨2, _⟩ => exact ⟨Nat.zero_le _, by show (i 2).val < 0 + 128; have : (i 2).val < 128 := h2; omega⟩

theorem set_block (e : Dev nD) (off : Fin 4 → ℕ) (h) (ho : off = ![e.val, 0, 0, 0]) :
    (Rect.unit (s := S4x8x2048x128) off S1x8x2048x128.size h).set = gSet e := by
  subst ho
  ext i
  have h1 := (i 1).isLt; have h2 := (i 2).isLt; have h3 := (i 3).isLt
  simp only [Rect.mem_set_unit, gSet, Finset.mem_filter, Finset.mem_univ, true_and]
  constructor
  · intro H; have := H 0; simp at this; omega
  · intro H a
    match a with
    | ⟨0, _⟩ => show e.val ≤ (i 0).val ∧ (i 0).val < e.val + 1; omega
    | ⟨1, _⟩ => exact ⟨Nat.zero_le _, by show (i 1).val < 0 + 8; have : (i 1).val < 8 := h1; omega⟩
    | ⟨2, _⟩ => exact ⟨Nat.zero_le _, by show (i 2).val < 0 + 2048; have : (i 2).val < 2048 := h2; omega⟩
    | ⟨3, _⟩ => exact ⟨Nat.zero_le _, by show (i 3).val < 0 + 128; have : (i 3).val < 128 := h3; omega⟩

theorem set_slab (e : Dev nD) (off : Fin 3 → ℕ) (h) (ho : off = ![e.val, 0, 0]) :
    (Rect.unit (s := S4x512x1024) off S1x512x1024.size h).set = sSet e := by
  subst ho
  ext i
  have h1 := (i 1).isLt; have h2 := (i 2).isLt
  simp only [Rect.mem_set_unit, sSet, Finset.mem_filter, Finset.mem_univ, true_and]
  constructor
  · intro H; have := H 0; simp at this; omega
  · intro H a
    match a with
    | ⟨0, _⟩ => show e.val ≤ (i 0).val ∧ (i 0).val < e.val + 1; omega
    | ⟨1, _⟩ => exact ⟨Nat.zero_le _, by show (i 1).val < 0 + 512; have : (i 1).val < 512 := h1; omega⟩
    | ⟨2, _⟩ => exact ⟨Nat.zero_le _, by show (i 2).val < 0 + 1024; have : (i 2).val < 1024 := h2; omega⟩

theorem set_slot (j : Fin 3) (off : Fin 3 → ℕ) (h) (ho : off = ![j.val, 0, 0]) :
    (Rect.unit (s := S3x512x1024) off S1x512x1024.size h).set = rSet j := by
  subst ho
  ext i
  have h1 := (i 1).isLt; have h2 := (i 2).isLt
  simp only [Rect.mem_set_unit, rSet, Finset.mem_filter, Finset.mem_univ, true_and]
  constructor
  · intro H; have := H 0; simp at this; omega
  · intro H a
    match a with
    | ⟨0, _⟩ => show j.val ≤ (i 0).val ∧ (i 0).val < j.val + 1; omega
    | ⟨1, _⟩ => exact ⟨Nat.zero_le _, by show (i 1).val < 0 + 512; have : (i 1).val < 512 := h1; omega⟩
    | ⟨2, _⟩ => exact ⟨Nat.zero_le _, by show (i 2).val < 0 + 1024; have : (i 2).val < 1024 := h2; omega⟩

/-! ## The all-to-all's views -/

abbrev kM : Memref sig .tc .hbm S32x2048x128 .bf16 := Memref.whole main_v3
abbrev vM : Memref sig .tc .hbm S32x2048x128 .bf16 := Memref.whole main_v6
abbrev gkM : Memref sig .tc .hbm S4x8x2048x128 .bf16 := Memref.whole main_v7_0
abbrev gvM : Memref sig .tc .hbm S4x8x2048x128 .bf16 := Memref.whole main_v7_1

/-- Eight heads of a 32-head buffer, and one block of a gathered one. -/
abbrev headsOf (m : Memref sig .tc .hbm S32x2048x128 .bf16) (off : Fin 3 → ℕ) (h : ∀ a, off a + S8x2048x128.size a ≤ S32x2048x128.size a) : Memref sig .tc .hbm S8x2048x128 .bf16 :=
  m.slice (Rect.unit (s := S32x2048x128) off S8x2048x128.size h) (fun _ => rfl)
abbrev blockOf (m : Memref sig .tc .hbm S4x8x2048x128 .bf16) (off : Fin 4 → ℕ) (h : ∀ a, off a + S1x8x2048x128.size a ≤ S4x8x2048x128.size a) : Memref sig .tc .hbm S8x2048x128 .bf16 :=
  (m.slice (Rect.unit (s := S4x8x2048x128) off S1x8x2048x128.size h) (fun _ => rfl)).squeeze S8x2048x128 squeezes_S1x8x2048x128_S8x2048x128

section A2A
variable (e c : Dev nD)

theorem k_view (off : Fin 3 → ℕ) (h) (ho : off = ![8 * e.val, 0, 0]) (f : main_v3.ty.Contents (Elt F)) :
    ((headsOf kM off h).view.loc (c : Thread nD τ) ↦[(headsOf kM off h).view.set]{fullShare} f : sProp 𝕄) = kPts e c f := by
  have hs : (headsOf kM off h).view.set = kSet e := (View.set_slice_whole main_v3 _).trans (set_heads e off h ho)
  rw [hs]
theorem v_view (off : Fin 3 → ℕ) (h) (ho : off = ![8 * e.val, 0, 0]) (f : main_v6.ty.Contents (Elt F)) :
    ((headsOf vM off h).view.loc (c : Thread nD τ) ↦[(headsOf vM off h).view.set]{fullShare} f : sProp 𝕄) = vPts e c f := by
  have hs : (headsOf vM off h).view.set = kSet e := (View.set_slice_whole main_v6 _).trans (set_heads e off h ho)
  rw [hs]
theorem gk_set (off : Fin 4 → ℕ) (h) (ho : off = ![e.val, 0, 0, 0]) : (blockOf gkM off h).view.set = gSet e :=
  (View.set_reshape _ _).trans ((View.set_slice_whole main_v7_0 _).trans (set_block e off h ho))
theorem gv_set (off : Fin 4 → ℕ) (h) (ho : off = ![e.val, 0, 0, 0]) : (blockOf gvM off h).view.set = gSet e :=
  (View.set_reshape _ _).trans ((View.set_slice_whole main_v7_1 _).trans (set_block e off h ho))
theorem gk_view (off : Fin 4 → ℕ) (h) (ho : off = ![e.val, 0, 0, 0]) (f : main_v7_0.ty.Contents (Elt F)) :
    ((blockOf gkM off h).view.loc (c : Thread nD τ) ↦[(blockOf gkM off h).view.set]{fullShare} f : sProp 𝕄) = gkPts e c f := by
  rw [gk_set e off h ho]
theorem gv_view (off : Fin 4 → ℕ) (h) (ho : off = ![e.val, 0, 0, 0]) (f : main_v7_1.ty.Contents (Elt F)) :
    ((blockOf gvM off h).view.loc (c : Thread nD τ) ↦[(blockOf gvM off h).view.set]{fullShare} f : sProp 𝕄) = gvPts e c f := by
  rw [gv_set e off h ho]

/-- A squeezed index, back in the sliced shape. -/
theorem unsq4 (h : S8x2048x128.numel = S1x8x2048x128.numel) (x : S8x2048x128.Idx) :
    (Shape.reshapeEquiv h x : S1x8x2048x128.Idx) = Fin.cons (⟨0, Nat.one_pos⟩ : Fin 1) x := Shape.reshapeEquiv_cons_one h x
theorem unsq3 (h : S512x1024.numel = S1x512x1024.numel) (x : S512x1024.Idx) :
    (Shape.reshapeEquiv h x : S1x512x1024.Idx) = Fin.cons (⟨0, Nat.one_pos⟩ : Fin 1) x := Shape.reshapeEquiv_cons_one h x

/-- Where the heads' view puts an index, and where the block's does, agree under `headIx`. -/
theorem head_of_block (s : Dev nD) (h) (h') (x : S8x2048x128.Idx) :
    headIx e ((Rect.unit (s := S4x8x2048x128) ![s.val, 0, 0, 0] S1x8x2048x128.size h').emb (Fin.cons (⟨0, Nat.one_pos⟩ : Fin 1) x))
      = (Rect.unit (s := S32x2048x128) ![8 * e.val, 0, 0] S8x2048x128.size h).emb x := by
  have hu : ∀ a, ((Rect.unit (s := S4x8x2048x128) ![s.val, 0, 0, 0] S1x8x2048x128.size h').emb (Fin.cons (⟨0, Nat.one_pos⟩ : Fin 1) x) a).val
      = ![s.val, 0, 0, 0] a + ((Fin.cons (⟨0, Nat.one_pos⟩ : Fin 1) x : S1x8x2048x128.Idx) a).val := fun a => ValueKit.rect_emb_unit_val _ _ _ _ _
  apply Shape.idx3_ext
  · rw [ValueKit.rect_emb_unit_val]
    show 8 * e.val + _ = 8 * e.val + _
    rw [hu 1]; show 8 * e.val + (0 + (x 0).val) = _; omega
  · rw [ValueKit.rect_emb_unit_val]
    show ((Rect.unit (s := S4x8x2048x128) ![s.val, 0, 0, 0] S1x8x2048x128.size h').emb _ 2).val = 0 + _
    rw [hu 2]; rfl
  · rw [ValueKit.rect_emb_unit_val]
    show ((Rect.unit (s := S4x8x2048x128) ![s.val, 0, 0, 0] S1x8x2048x128.size h').emb _ 3).val = 0 + _
    rw [hu 3]; rfl

/-- What lands in block `s` of device `e`'s gathered keys, sent by device `s`. -/
theorem k_land (w : Start F) (s : Dev nD) (off : Fin 3 → ℕ) (h) (ho : off = ![8 * e.val, 0, 0]) (off' : Fin 4 → ℕ) (h')
    (ho' : off' = ![s.val, 0, 0, 0]) (fd : main_v7_0.ty.Contents (Elt F)) :
    ((blockOf gkM off' h').view.loc (e : Thread nD τ) ↦[(blockOf gkM off' h').view.set]{fullShare}
        ((blockOf gkM off' h').view.write (Elt F) fd ((headsOf kM off h).view.read (Elt F) (w.k s)) Finset.univ) : sProp 𝕄)
      = gkPts s e (gathK w e) := by
  rw [gk_view s e off' h' ho']
  refine pointsTo_congr fun i hi => ?_
  rw [← gk_set s off' h' ho'] at hi
  obtain ⟨x, -, rfl⟩ := Finset.mem_map.1 hi
  rw [View.write_emb_of_mem _ _ (Finset.mem_univ x)]
  subst ho ho'
  have e1 : (blockOf gkM ![s.val, 0, 0, 0] h').view.emb x
      = (Rect.unit (s := S4x8x2048x128) ![s.val, 0, 0, 0] S1x8x2048x128.size h').emb (Fin.cons (⟨0, Nat.one_pos⟩ : Fin 1) x) := by
    rw [← unsq4 (by decide) x]; rfl
  rw [e1]
  unfold gathK
  have h0 : ((Rect.unit (s := S4x8x2048x128) ![s.val, 0, 0, 0] S1x8x2048x128.size h').emb (Fin.cons (⟨0, Nat.one_pos⟩ : Fin 1) x) 0).val = s.val := by
    rw [ValueKit.rect_emb_unit_val]; rfl
  rw [h0, devN_val, head_of_block e s h h' x]
  rfl

theorem v_land (w : Start F) (s : Dev nD) (off : Fin 3 → ℕ) (h) (ho : off = ![8 * e.val, 0, 0]) (off' : Fin 4 → ℕ) (h')
    (ho' : off' = ![s.val, 0, 0, 0]) (fd : main_v7_1.ty.Contents (Elt F)) :
    ((blockOf gvM off' h').view.loc (e : Thread nD τ) ↦[(blockOf gvM off' h').view.set]{fullShare}
        ((blockOf gvM off' h').view.write (Elt F) fd ((headsOf vM off h).view.read (Elt F) (w.v s)) Finset.univ) : sProp 𝕄)
      = gvPts s e (gathV w e) := by
  rw [gv_view s e off' h' ho']
  refine pointsTo_congr fun i hi => ?_
  rw [← gv_set s off' h' ho'] at hi
  obtain ⟨x, -, rfl⟩ := Finset.mem_map.1 hi
  rw [View.write_emb_of_mem _ _ (Finset.mem_univ x)]
  subst ho ho'
  have e1 : (blockOf gvM ![s.val, 0, 0, 0] h').view.emb x
      = (Rect.unit (s := S4x8x2048x128) ![s.val, 0, 0, 0] S1x8x2048x128.size h').emb (Fin.cons (⟨0, Nat.one_pos⟩ : Fin 1) x) := by
    rw [← unsq4 (by decide) x]; rfl
  rw [e1]
  unfold gathV
  have h0 : ((Rect.unit (s := S4x8x2048x128) ![s.val, 0, 0, 0] S1x8x2048x128.size h').emb (Fin.cons (⟨0, Nat.one_pos⟩ : Fin 1) x) 0).val = s.val := by
    rw [ValueKit.rect_emb_unit_val]; rfl
  rw [h0, devN_val, head_of_block e s h h' x]
  rfl

end A2A

/-! ## The all-reduce's views -/

abbrev sM : Memref sig .tc .vmem S4x512x1024 .bf16 := Memref.whole cc2_scratch0
abbrev qM : Memref sig .tc .vmem S512x1024 .bf16 := Memref.whole cc2_scratch1
abbrev rM : Memref sig .tc .vmem S3x512x1024 .bf16 := Memref.whole cc2_scratch2
abbrev aM : Memref sig .tc .vmem S3x512x1024 .bf16 := Memref.whole cc2_scratch3

/-- A slab of the rounded partial output, and a landing slot. -/
abbrev slabOf (m : Memref sig .tc .vmem S4x512x1024 .bf16) (off : Fin 3 → ℕ) (h : ∀ a, off a + S1x512x1024.size a ≤ S4x512x1024.size a) : Memref sig .tc .vmem S512x1024 .bf16 :=
  (m.slice (Rect.unit (s := S4x512x1024) off S1x512x1024.size h) (fun _ => rfl)).squeeze S512x1024 squeezes_S1x512x1024_S512x1024
abbrev slotOf (m : Memref sig .tc .vmem S3x512x1024 .bf16) (off : Fin 3 → ℕ) (h : ∀ a, off a + S1x512x1024.size a ≤ S3x512x1024.size a) : Memref sig .tc .vmem S512x1024 .bf16 :=
  (m.slice (Rect.unit (s := S3x512x1024) off S1x512x1024.size h) (fun _ => rfl)).squeeze S512x1024 squeezes_S1x512x1024_S512x1024

section AR
variable (e c : Dev nD) (j : Fin 3)

theorem s_set (off : Fin 3 → ℕ) (h) (ho : off = ![e.val, 0, 0]) : (slabOf sM off h).view.set = sSet e :=
  (View.set_reshape _ _).trans ((View.set_slice_whole cc2_scratch0 _).trans (set_slab e off h ho))
theorem r_set (off : Fin 3 → ℕ) (h) (ho : off = ![j.val, 0, 0]) : (slotOf rM off h).view.set = rSet j :=
  (View.set_reshape _ _).trans ((View.set_slice_whole cc2_scratch2 _).trans (set_slot j off h ho))
theorem a_set (off : Fin 3 → ℕ) (h) (ho : off = ![j.val, 0, 0]) : (slotOf aM off h).view.set = rSet j :=
  (View.set_reshape _ _).trans ((View.set_slice_whole cc2_scratch3 _).trans (set_slot j off h ho))
theorem s_view (off : Fin 3 → ℕ) (h) (ho : off = ![e.val, 0, 0]) (f : cc2_scratch0.ty.Contents (Elt F)) :
    ((slabOf sM off h).view.loc (c : Thread nD τ) ↦[(slabOf sM off h).view.set]{fullShare} f : sProp 𝕄) = sPts e c f := by
  rw [s_set e off h ho]
theorem r_view (off : Fin 3 → ℕ) (h) (ho : off = ![j.val, 0, 0]) (f : cc2_scratch2.ty.Contents (Elt F)) :
    ((slotOf rM off h).view.loc (c : Thread nD τ) ↦[(slotOf rM off h).view.set]{fullShare} f : sProp 𝕄) = rPts j c f := by
  rw [r_set j off h ho]
theorem a_view (off : Fin 3 → ℕ) (h) (ho : off = ![j.val, 0, 0]) (f : cc2_scratch3.ty.Contents (Elt F)) :
    ((slotOf aM off h).view.loc (c : Thread nD τ) ↦[(slotOf aM off h).view.set]{fullShare} f : sProp 𝕄) = aPts j c f := by
  rw [a_set j off h ho]
theorem q_view (q : PosShare TreeShare) (f : cc2_scratch1.ty.Contents (Elt F)) :
    ((qM.view.loc (c : Thread nD τ) ↦[qM.view.set]{q} f : sProp 𝕄)) = qPts q c f := by
  have hs : qM.view.set = Finset.univ := View.set_whole _
  rw [hs]

theorem slab_emb (off : Fin 3 → ℕ) (h : ∀ a, off a + S1x512x1024.size a ≤ S4x512x1024.size a) (ho : off = ![e.val, 0, 0]) (x : S512x1024.Idx) :
    (Rect.unit (s := S4x512x1024) off S1x512x1024.size h).emb (Fin.cons (⟨0, Nat.one_pos⟩ : Fin 1) x) = slabIx e (x 0) (x 1) := by
  subst ho
  apply Shape.idx3_ext <;> rw [ValueKit.rect_emb_unit_val]
  · show e.val + 0 = e.val; omega
  · show 0 + (x 0).val = (x 0).val; omega
  · show 0 + (x 1).val = (x 1).val; omega
theorem slot_emb (off : Fin 3 → ℕ) (h : ∀ a, off a + S1x512x1024.size a ≤ S3x512x1024.size a) (ho : off = ![j.val, 0, 0]) (x : S512x1024.Idx) :
    (Rect.unit (s := S3x512x1024) off S1x512x1024.size h).emb (Fin.cons (⟨0, Nat.one_pos⟩ : Fin 1) x) = slotIx j (x 0) (x 1) := by
  subst ho
  apply Shape.idx3_ext <;> rw [ValueKit.rect_emb_unit_val]
  · show j.val + 0 = j.val; omega
  · show 0 + (x 0).val = (x 0).val; omega
  · show 0 + (x 1).val = (x 1).val; omega

/-- What lands in slot `j` of device `e`'s first landing buffer, sent by the device `3 - j` places on. -/
theorem r_land (w : Start F) (off : Fin 3 → ℕ) (h) (ho : off = ![e.val, 0, 0]) (off' : Fin 3 → ℕ) (h')
    (ho' : off' = ![j.val, 0, 0]) (s : Dev nD) (hs : s = pr (3 - j.val) e) (fd : cc2_scratch2.ty.Contents (Elt F)) :
    ((slotOf rM off' h').view.loc (e : Thread nD τ) ↦[(slotOf rM off' h').view.set]{fullShare}
        ((slotOf rM off' h').view.write (Elt F) fd ((slabOf sM off h).view.read (Elt F) (sendB w s)) Finset.univ) : sProp 𝕄)
      = rPts j e (landR w e) := by
  rw [r_view e j off' h' ho']
  refine pointsTo_congr fun i hi => ?_
  rw [← r_set j off' h' ho'] at hi
  obtain ⟨x, -, rfl⟩ := Finset.mem_map.1 hi
  rw [View.write_emb_of_mem _ _ (Finset.mem_univ x)]
  have e1 : (slotOf rM off' h').view.emb x = slotIx j (x 0) (x 1) := by
    rw [← slot_emb j off' h' ho' x, ← unsq3 (by decide) x]; rfl
  have e2 : (slabOf sM off h).view.emb x = slabIx e (x 0) (x 1) := by
    rw [← slab_emb e off h ho x, ← unsq3 (by decide) x]; rfl
  rw [e1]
  show sendB w s ((slabOf sM off h).view.emb x) = sendB w (pr (3 - j.val) e) (slabIx e (x 0) (x 1))
  rw [e2, hs]

/-- What lands in slot `j` of device `e`'s second landing buffer, sent by the device `3 - j` places on. -/
theorem a_land (w : Start F) (off' : Fin 3 → ℕ) (h')
    (ho' : off' = ![j.val, 0, 0]) (s : Dev nD) (hs : s = pr (3 - j.val) e) (fd : cc2_scratch3.ty.Contents (Elt F)) :
    ((slotOf aM off' h').view.loc (e : Thread nD τ) ↦[(slotOf aM off' h').view.set]{fullShare}
        ((slotOf aM off' h').view.write (Elt F) fd (qM.view.read (Elt F) (redB w s)) Finset.univ) : sProp 𝕄)
      = aPts j e (landG w e) := by
  rw [a_view e j off' h' ho']
  refine pointsTo_congr fun i hi => ?_
  rw [← a_set j off' h' ho'] at hi
  obtain ⟨x, -, rfl⟩ := Finset.mem_map.1 hi
  rw [View.write_emb_of_mem _ _ (Finset.mem_univ x)]
  have e1 : (slotOf aM off' h').view.emb x = slotIx j (x 0) (x 1) := by
    rw [← slot_emb j off' h' ho' x, ← unsq3 (by decide) x]; rfl
  have e2 : qM.view.emb x = flatIx (x 0) (x 1) := by
    funext a; match a with | ⟨0, _⟩ => rfl | ⟨1, _⟩ => rfl
  rw [e1]
  show redB w s (qM.view.emb x) = redB w (pr (3 - j.val) e) (flatIx (x 0) (x 1))
  rw [e2, hs]

end AR

/-! ## Credits -/

theorem credit_block (m : Memref sig .tc .hbm S4x8x2048x128 .bf16) (off : Fin 4 → ℕ) (h) : (blockOf m off h).view.dmaCredit = NK := rfl
theorem credit_slot (m : Memref sig .tc .vmem S3x512x1024 .bf16) (off : Fin 3 → ℕ) (h) : (slotOf m off h).view.dmaCredit = NR := rfl
theorem credit_slab (m : Memref sig .tc .vmem S4x512x1024 .bf16) (off : Fin 3 → ℕ) (h) : (slabOf m off h).view.dmaCredit = NR := rfl
theorem credit_heads (m : Memref sig .tc .hbm S32x2048x128 .bf16) (off : Fin 3 → ℕ) (h) : (headsOf m off h).view.dmaCredit = NK := rfl

end Cert.Tp
-- ==== Proof.Exchange.lean ====
/-
  The all-to-all of keys and values: one device's body, from its opened cells to the gathered blocks.
-/
module

public import proofs.«01_k».proof.Proof.Slabs

@[expose] public section

set_option backward.proofsInPublic true

noncomputable section

namespace Cert.Tp

open Idealize.ShloMosaic Idealize.ShloMosaic.TcCoe Idealize.ShloMosaic.Rounds Idealize.ShloMosaic.SiteBlocks Idealize.ShloMosaic.TalkSites
open Idealize.SL Idealize.SL.RA Idealize.SL.BI
open scoped Idealize.SL.BI
open Idealize.SL.BI.BIBase Idealize.SL.Sem
open Cert.KernelIdeal Cert.KernelIdeal.Gen

variable {F : FTy → Type} [FloatOps F] [Named F]

local notation "𝕄" => MT nD τ sig ℕ (Elt F) ℕ UU ℕ

/-! ## Devices -/

theorem dev0_1 (c : Dev nD) : (⟨k0_dev1 c, k0_dev1_lt c⟩ : Dev nD) = pr 1 c := by revert c; decide
theorem dev0_2 (c : Dev nD) : (⟨k0_dev2 c, k0_dev2_lt c⟩ : Dev nD) = pr 2 c := by revert c; decide
theorem dev0_3 (c : Dev nD) : (⟨k0_dev3 c, k0_dev3_lt c⟩ : Dev nD) = pr 3 c := by revert c; decide
theorem dev0_4 (c : Dev nD) : (⟨k0_dev4 c, k0_dev4_lt c⟩ : Dev nD) = pr 1 c := by revert c; decide
theorem dev0_5 (c : Dev nD) : (⟨k0_dev5 c, k0_dev5_lt c⟩ : Dev nD) = pr 1 c := by revert c; decide
theorem dev0_6 (c : Dev nD) : (⟨k0_dev6 c, k0_dev6_lt c⟩ : Dev nD) = pr 2 c := by revert c; decide
theorem dev0_7 (c : Dev nD) : (⟨k0_dev7 c, k0_dev7_lt c⟩ : Dev nD) = pr 2 c := by revert c; decide
theorem dev0_8 (c : Dev nD) : (⟨k0_dev8 c, k0_dev8_lt c⟩ : Dev nD) = pr 3 c := by revert c; decide
theorem dev0_9 (c : Dev nD) : (⟨k0_dev9 c, k0_dev9_lt c⟩ : Dev nD) = pr 3 c := by revert c; decide

/-! ## Buffers, block by block -/

/-- A product over the devices, told from one of them. -/
theorem bigSep_around (c : Dev nD) (Φ : Dev nD → sProp (MT nD τ sig ℕ (Elt F) ℕ UU ℕ)) :
    bigSep Finset.univ Φ = iprop(Φ c ∗ Φ (pr 1 c) ∗ Φ (pr 2 c) ∗ Φ (pr 3 c)) := by
  rw [bigSep_univ_eq_bigSepL [c, pr 1 c, pr 2 c, pr 3 c] (by revert c; decide) (by revert c; decide)]
  rfl

theorem kSet_disj : ∀ d ∈ (Finset.univ : Finset (Dev nD)), ∀ e ∈ (Finset.univ : Finset (Dev nD)), d ≠ e → Disjoint (kSet d) (kSet e) := by
  intro d _ e _ h
  refine Finset.disjoint_left.2 fun i hi hj => h (Fin.ext ?_)
  simp only [kSet, Finset.mem_filter] at hi hj
  exact hi.2.symm.trans hj.2
theorem gSet_disj : ∀ d ∈ (Finset.univ : Finset (Dev nD)), ∀ e ∈ (Finset.univ : Finset (Dev nD)), d ≠ e → Disjoint (gSet d) (gSet e) := by
  intro d _ e _ h
  refine Finset.disjoint_left.2 fun i hi hj => h (Fin.ext ?_)
  simp only [gSet, Finset.mem_filter] at hi hj
  exact hi.2.symm.trans hj.2
theorem kSet_cover : (Finset.univ : Finset (Dev nD)).biUnion kSet = Finset.univ := by
  ext i
  have h : (i 0).val < 32 := (i 0).isLt
  simp only [Finset.mem_biUnion, Finset.mem_univ, true_and, iff_true]
  exact ⟨⟨(i 0).val / 8, by show _ < 4; omega⟩, by simp [kSet]⟩
theorem gSet_cover : (Finset.univ : Finset (Dev nD)).biUnion gSet = Finset.univ := by
  ext i
  have h : (i 0).val < 4 := (i 0).isLt
  simp only [Finset.mem_biUnion, Finset.mem_univ, true_and, iff_true]
  exact ⟨⟨(i 0).val, h⟩, by simp [gSet]⟩

section Split
variable (c : Dev nD)
theorem split_k (f : main_v3.ty.Contents (Elt F)) : ((c : Thread nD τ).loc main_v3 ↦{fullShare} f : sProp 𝕄)
    = iprop(kPts c c f ∗ kPts (pr 1 c) c f ∗ kPts (pr 2 c) c f ∗ kPts (pr 3 c) c f) :=
  (Idealize.ShloMosaic.Ring.pointsTo_blocks (ℓ := (c : Thread nD τ).loc main_v3) kSet (fun d e h => kSet_disj d (Finset.mem_univ d) e (Finset.mem_univ e) h) kSet_cover f).trans (bigSep_around c (fun e => kPts e c f))
theorem split_v (f : main_v6.ty.Contents (Elt F)) : ((c : Thread nD τ).loc main_v6 ↦{fullShare} f : sProp 𝕄)
    = iprop(vPts c c f ∗ vPts (pr 1 c) c f ∗ vPts (pr 2 c) c f ∗ vPts (pr 3 c) c f) :=
  (Idealize.ShloMosaic.Ring.pointsTo_blocks (ℓ := (c : Thread nD τ).loc main_v6) kSet (fun d e h => kSet_disj d (Finset.mem_univ d) e (Finset.mem_univ e) h) kSet_cover f).trans (bigSep_around c (fun e => vPts e c f))
theorem split_gk (f : main_v7_0.ty.Contents (Elt F)) : ((c : Thread nD τ).loc main_v7_0 ↦{fullShare} f : sProp 𝕄)
    = iprop(gkPts c c f ∗ gkPts (pr 1 c) c f ∗ gkPts (pr 2 c) c f ∗ gkPts (pr 3 c) c f) :=
  (Idealize.ShloMosaic.Ring.pointsTo_blocks (ℓ := (c : Thread nD τ).loc main_v7_0) gSet (fun d e h => gSet_disj d (Finset.mem_univ d) e (Finset.mem_univ e) h) gSet_cover f).trans (bigSep_around c (fun e => gkPts e c f))
theorem split_gv (f : main_v7_1.ty.Contents (Elt F)) : ((c : Thread nD τ).loc main_v7_1 ↦{fullShare} f : sProp 𝕄)
    = iprop(gvPts c c f ∗ gvPts (pr 1 c) c f ∗ gvPts (pr 2 c) c f ∗ gvPts (pr 3 c) c f) :=
  (Idealize.ShloMosaic.Ring.pointsTo_blocks (ℓ := (c : Thread nD τ).loc main_v7_1) gSet (fun d e h => gSet_disj d (Finset.mem_univ d) e (Finset.mem_univ e) h) gSet_cover f).trans (bigSep_around c (fun e => gvPts e c f))
end Split

/-! ## Steps of this body -/

section Steps0
variable (w : Start F) (K : GSem nD τ sig → ℕ) (c : Dev nD) {α : Type}
variable {Q : α → sProp (MT nD τ sig ℕ (Elt F) ℕ UU ℕ)}

/-- Hand device `p` the blocks it will write, with a signal. -/
theorem st_ready0 (p n : Dev nD) (hn : n = p) (e : Fin 3) (hp : pr (e.val + 1) p = c) (a b : Fin 40) (ha : a = ⟨8 + e.val, by omega⟩) (hb : b = ⟨11 + e.val, by omega⟩)
    (l : List (Pay nD τ sig)) (fk : main_v7_0.ty.Contents (Elt F)) (fv : main_v7_1.ty.Contents (Elt F))
    {kt : PUnit → Prog (TpuEff nD τ sig (Elt F) Λ₀ .tc) α} :
    iprop(invs w K ∗ owesE c (D2 c + tallyL ((barC 0 p, 1, 1) :: l)) ∗ dutyTok ER (barC 0 p) 0 e.val ∗ reached ER (barC 0 p) 0
        ∗ gkPts p c fk ∗ gvPts p c fv ∗ reached ER (dmaC a c) 0 ∗ reached ER (dmaC b c) 0)
      ⊢ iprop((owesE c (D2 c + tallyL l) -∗ wp frame (wpE (defs₀ (F := F)) 𝒱₀ c none) Set.univ (kt ⟨⟩) Q)
          -∗ wp frame (wpE (defs₀ (F := F)) 𝒱₀ c none) Set.univ (.op (.semSignal (n : Thread nD τ) 0 1) kt) Q) := by
  subst hp ha hb
  iintro ⟨#HI, HO, Ht, #Hr, Hk, Hv, #Ha, #Hb⟩ Hw
  iapply (st_signal w K (pr (e.val + 1) p) 0 p n hn e 1 (D2 (pr (e.val + 1) p)) l) $$ [HO Ht Hk Hv]
  · isplitr; · iexact HI
    isplitl [HO]; · iexact HO
    isplitl [Ht]; · iexact Ht
    isplitl [Hk Hv]
    · rw [payload_bar0 w p e]
      unfold barPay0
      isplitl [Hk]; · iexists fk; iexact Hk
      isplitl [Hv]; · iexists fv; iexact Hv
      isplitr; · iexact Ha
      iexact Hb
    iexact Hr
  iexact Hw

/-- Send device `p` its heads of the keys. -/
theorem st_sendK (p n : Dev nD) (hn : n = p) (a b : Fin 40) (i i' : Fin 26) (ha : a = dmaNo i) (hb : b = dmaNo i') (ha' : a.val < 14) (hb' : b.val < 14)
    (hpa : dmaPay w c a.val = kPts p c (w.k c)) (hpb : dmaPay w p b.val = gkPts c p (gathK w p))
    (off : Fin 3 → ℕ) (h) (ho : off = ![8 * p.val, 0, 0]) (off' : Fin 4 → ℕ) (h') (ho' : off' = ![c.val, 0, 0, 0])
    (sS sem : DmaSem sig) (hS : sS = a) (hR : sem = b) (l : List (Pay nD τ sig))
    {hsc : (blockOf gkM off' h').view.ref.isScScratch = false} {hsrc : (headsOf kM off h).view.WordExact} {hdst : (blockOf gkM off' h').view.WordExact}
    {hsem : DmaTarget.Typed (nD := nD) (τ := τ) .hbm (.dma sem) (.remote (n : Thread nD τ) (blockOf gkM off' h') (.dma sS) hsc)}
    {kt : PUnit → Prog (TpuEff nD τ sig (Elt F) Λ₀ .tc) α} :
    iprop(invs w K ∗ kPts p c (w.k c) ∗ (∃ f, gkPts c p f)
        ∗ owesE c (D2 c + tallyL ((dmaC b p, 2, NK) :: l))
        ∗ dutyTok ER (dmaC a c) 0 0 ∗ reached ER (dmaC a c) 0 ∗ dutyTok ER (dmaC b p) 0 0 ∗ reached ER (dmaC b p) 0)
      ⊢ iprop(((cred (tallyAt (dmaC a c) 0 NK) ∗ owesE c (D2 c + tallyL l)) -∗ wp frame (wpE (defs₀ (F := F)) 𝒱₀ c none) Set.univ (kt ⟨⟩) Q)
          -∗ wp frame (wpE (defs₀ (F := F)) 𝒱₀ c none) Set.univ
              (.op (.enqueueDma (headsOf kM off h) (.remote (n : Thread nD τ) (blockOf gkM off' h') (.dma sS) hsc) (.dma sem) hsrc hdst hsem) kt) Q) := by
  subst ha hb
  iintro ⟨#HI, Hs, ⟨%fd, Hd⟩, HO, Ht, #Hr, Ht', #Hr'⟩ Hw
  ihave Hs := (Entails.of_eq (k_view p c off h ho (w.k c)).symm) $$ Hs
  ihave Hd := (Entails.of_eq (gk_view c p off' h' ho' fd).symm) $$ Hd
  iapply (st_send w K c i i' p n hn (src := headsOf kM off h) (dst := blockOf gkM off' h') sS sem hS hR (q := fullShare) (fs := w.k c) (fd := fd)
    2 NK (credit_block _ _ _) (amount_K w c _ ha' 0) (amount_K w p _ hb' 0) (D2 c) l
    (Entails.of_eq ((k_view p c off h ho (w.k c)).trans hpa.symm))
    (Entails.of_eq ((k_land p w c off h ho off' h' ho' fd).trans hpb.symm))) $$ [Hs Hd HO Ht Ht']
  · isplitr; · iexact HI
    isplitl [Hs]; · iexact Hs
    isplitl [Hd]; · iexact Hd
    isplitl [HO]; · iexact HO
    isplitl [Ht]; · iexact Ht
    isplitr; · iexact Hr
    isplitl [Ht']; · iexact Ht'
    iexact Hr'
  iexact Hw

/-- Send device `p` its heads of the values. -/
theorem st_sendV (p n : Dev nD) (hn : n = p) (a b : Fin 40) (i i' : Fin 26) (ha : a = dmaNo i) (hb : b = dmaNo i') (ha' : a.val < 14) (hb' : b.val < 14)
    (hpa : dmaPay w c a.val = vPts p c (w.v c)) (hpb : dmaPay w p b.val = gvPts c p (gathV w p))
    (off : Fin 3 → ℕ) (h) (ho : off = ![8 * p.val, 0, 0]) (off' : Fin 4 → ℕ) (h') (ho' : off' = ![c.val, 0, 0, 0])
    (sS sem : DmaSem sig) (hS : sS = a) (hR : sem = b) (l : List (Pay nD τ sig))
    {hsc : (blockOf gvM off' h').view.ref.isScScratch = false} {hsrc : (headsOf vM off h).view.WordExact} {hdst : (blockOf gvM off' h').view.WordExact}
    {hsem : DmaTarget.Typed (nD := nD) (τ := τ) .hbm (.dma sem) (.remote (n : Thread nD τ) (blockOf gvM off' h') (.dma sS) hsc)}
    {kt : PUnit → Prog (TpuEff nD τ sig (Elt F) Λ₀ .tc) α} :
    iprop(invs w K ∗ vPts p c (w.v c) ∗ (∃ f, gvPts c p f)
        ∗ owesE c (D2 c + tallyL ((dmaC b p, 2, NK) :: l))
        ∗ dutyTok ER (dmaC a c) 0 0 ∗ reached ER (dmaC a c) 0 ∗ dutyTok ER (dmaC b p) 0 0 ∗ reached ER (dmaC b p) 0)
      ⊢ iprop(((cred (tallyAt (dmaC a c) 0 NK) ∗ owesE c (D2 c + tallyL l)) -∗ wp frame (wpE (defs₀ (F := F)) 𝒱₀ c none) Set.univ (kt ⟨⟩) Q)
          -∗ wp frame (wpE (defs₀ (F := F)) 𝒱₀ c none) Set.univ
              (.op (.enqueueDma (headsOf vM off h) (.remote (n : Thread nD τ) (blockOf gvM off' h') (.dma sS) hsc) (.dma sem) hsrc hdst hsem) kt) Q) := by
  subst ha hb
  iintro ⟨#HI, Hs, ⟨%fd, Hd⟩, HO, Ht, #Hr, Ht', #Hr'⟩ Hw
  ihave Hs := (Entails.of_eq (v_view p c off h ho (w.v c)).symm) $$ Hs
  ihave Hd := (Entails.of_eq (gv_view c p off' h' ho' fd).symm) $$ Hd
  iapply (st_send w K c i i' p n hn (src := headsOf vM off h) (dst := blockOf gvM off' h') sS sem hS hR (q := fullShare) (fs := w.v c) (fd := fd)
    2 NK (credit_block _ _ _) (amount_K w c _ ha' 0) (amount_K w p _ hb' 0) (D2 c) l
    (Entails.of_eq ((v_view p c off h ho (w.v c)).trans hpa.symm))
    (Entails.of_eq ((v_land p w c off h ho off' h' ho' fd).trans hpb.symm))) $$ [Hs Hd HO Ht Ht']
  · isplitr; · iexact HI
    isplitl [Hs]; · iexact Hs
    isplitl [Hd]; · iexact Hd
    isplitl [HO]; · iexact HO
    isplitl [Ht]; · iexact Ht
    isplitr; · iexact Hr
    isplitl [Ht']; · iexact Ht'
    iexact Hr'
  iexact Hw

/-- Copy the device's own heads of the keys into its own block. -/
theorem st_copyK (a : Fin 40) (i : Fin 26) (ha : a = dmaNo i) (ha' : a.val < 14)
    (hpa : dmaPay w c a.val = iprop(gkPts c c (gathK w c) ∗ kPts c c (w.k c)))
    (off : Fin 3 → ℕ) (h) (ho : off = ![8 * c.val, 0, 0]) (off' : Fin 4 → ℕ) (h') (ho' : off' = ![c.val, 0, 0, 0])
    (sem : DmaSem sig) (hR : sem = a)
    {hsrc : (headsOf kM off h).view.WordExact} {hdst : (blockOf gkM off' h').view.WordExact}
    {hsem : DmaTarget.Typed (nD := nD) (τ := τ) .hbm (.dma sem) (.here (p := (Proc.tc : Proc τ)) (blockOf gkM off' h'))}
    {kt : PUnit → Prog (TpuEff nD τ sig (Elt F) Λ₀ .tc) α} (fd : main_v7_0.ty.Contents (Elt F)) :
    iprop(invs w K ∗ kPts c c (w.k c) ∗ gkPts c c fd ∗ dutyTok ER (dmaC a c) 0 0 ∗ reached ER (dmaC a c) 0)
      ⊢ iprop((cred (tallyAt (dmaC a c) 0 NK) -∗ wp frame (wpE (defs₀ (F := F)) 𝒱₀ c none) Set.univ (kt ⟨⟩) Q)
          -∗ wp frame (wpE (defs₀ (F := F)) 𝒱₀ c none) Set.univ
              (.op (.enqueueDma (headsOf kM off h) (.here (blockOf gkM off' h')) (.dma sem) hsrc hdst hsem) kt) Q) := by
  subst ha
  iintro ⟨#HI, Hs, Hd, Ht, #Hr⟩ Hw
  ihave Hs := (Entails.of_eq (k_view c c off h ho (w.k c)).symm) $$ Hs
  ihave Hd := (Entails.of_eq (gk_view c c off' h' ho' fd).symm) $$ Hd
  iapply (st_copy w K c i (src := headsOf kM off h) (dst := blockOf gkM off' h') sem hR (q := fullShare) (fs := w.k c) (fd := fd)
    NK (credit_block _ _ _) (amount_K w c _ ha' 0)
    (Entails.of_eq (by rw [k_view c c off h ho (w.k c), k_land c w c off h ho off' h' ho' fd, hpa]))) $$ [Hs Hd Ht]
  · isplitr; · iexact HI
    isplitl [Hs]; · iexact Hs
    isplitl [Hd]; · iexact Hd
    isplitl [Ht]; · iexact Ht
    iexact Hr
  iexact Hw

/-- Copy the device's own heads of the values into its own block. -/
theorem st_copyV (a : Fin 40) (i : Fin 26) (ha : a = dmaNo i) (ha' : a.val < 14)
    (hpa : dmaPay w c a.val = iprop(gvPts c c (gathV w c) ∗ vPts c c (w.v c)))
    (off : Fin 3 → ℕ) (h) (ho : off = ![8 * c.val, 0, 0]) (off' : Fin 4 → ℕ) (h') (ho' : off' = ![c.val, 0, 0, 0])
    (sem : DmaSem sig) (hR : sem = a)
    {hsrc : (headsOf vM off h).view.WordExact} {hdst : (blockOf gvM off' h').view.WordExact}
    {hsem : DmaTarget.Typed (nD := nD) (τ := τ) .hbm (.dma sem) (.here (p := (Proc.tc : Proc τ)) (blockOf gvM off' h'))}
    {kt : PUnit → Prog (TpuEff nD τ sig (Elt F) Λ₀ .tc) α} (fd : main_v7_1.ty.Contents (Elt F)) :
    iprop(invs w K ∗ vPts c c (w.v c) ∗ gvPts c c fd ∗ dutyTok ER (dmaC a c) 0 0 ∗ reached ER (dmaC a c) 0)
      ⊢ iprop((cred (tallyAt (dmaC a c) 0 NK) -∗ wp frame (wpE (defs₀ (F := F)) 𝒱₀ c none) Set.univ (kt ⟨⟩) Q)
          -∗ wp frame (wpE (defs₀ (F := F)) 𝒱₀ c none) Set.univ
              (.op (.enqueueDma (headsOf vM off h) (.here (blockOf gvM off' h')) (.dma sem) hsrc hdst hsem) kt) Q) := by
  subst ha
  iintro ⟨#HI, Hs, Hd, Ht, #Hr⟩ Hw
  ihave Hs := (Entails.of_eq (v_view c c off h ho (w.v c)).symm) $$ Hs
  ihave Hd := (Entails.of_eq (gv_view c c off' h' ho' fd).symm) $$ Hd
  iapply (st_copy w K c i (src := headsOf vM off h) (dst := blockOf gvM off' h') sem hR (q := fullShare) (fs := w.v c) (fd := fd)
    NK (credit_block _ _ _) (amount_K w c _ ha' 0)
    (Entails.of_eq (by rw [v_view c c off h ho (w.v c), v_land c w c off h ho off' h' ho' fd, hpa]))) $$ [Hs Hd Ht]
  · isplitr; · iexact HI
    isplitl [Hs]; · iexact Hs
    isplitl [Hd]; · iexact Hd
    isplitl [Ht]; · iexact Ht
    iexact Hr
  iexact Hw

/-- Wait for a copy, owing the second exchange's dues. -/
theorem st_wait0 (a : Fin 40) (i : Fin 26) (ha : a = dmaNo i) (ha' : a.val < 14) {sp sp' : Space} {s : Shape} {e : EltTy} {src : Memref sig .tc sp s e} {dst : Memref sig .tc sp' s e}
    (sem : DmaSem sig) (hS : sem = a) {hsrc : src.view.WordExact} {hdst : dst.view.WordExact}
    (ι : ℕ) (hι : ι < 3) (hN : dst.view.dmaCredit = NK) (P : sProp (MT nD τ sig ℕ (Elt F) ℕ UU ℕ)) (hP : dmaPay w c a.val = P)
    {kt : PUnit → Prog (TpuEff nD τ sig (Elt F) Λ₀ .tc) α} :
    iprop(invs w K ∗ levAts (L NL) lv ∗ cred (tallyAt (dmaC a c) ι NK) ∗ owesE c (D2 c) ∗ atPos ER (dmaC a c) 0 ∅ 0)
      ⊢ iprop(((owesE c (D2 c) ∗ semVal (dmaC a c) 0 ∗ P) -∗ wp frame (wpE (defs₀ (F := F)) 𝒱₀ c none) Set.univ (kt ⟨⟩) Q)
          -∗ wp frame (wpE (defs₀ (F := F)) 𝒱₀ c none) Set.univ (.op (.waitDma2 sem src dst hsrc hdst) kt) Q) := by
  subst ha hP
  iintro ⟨#HI, #HL, Hc, HO, Ha⟩ Hw
  iapply (st_wait w K c i (src := src) (dst := dst) sem hS ι NK hN (expect_K w c _ ha') (D2 c)) $$ [Hc HO Ha]
  · isplitr; · iexact HI
    isplitl [Hc]; · iexact Hc
    isplitl [HO]; · iexact HO
    isplitr; · iapply (mayWait_below (N := NL) hι (lt_trans hι (by decide)) above_D2 c (.dma (dmaNo i))); iexact HL
    iexact Ha
  iexact Hw

end Steps0

/-! ## What a device enters with and leaves with -/

/-- The duties it pays. -/
def toks0 (c : Dev nD) : sProp 𝕄 := iprop(dutyTok ER (barC 0 (pr 1 c)) 0 2 ∗ dutyTok ER (barC 0 (pr 2 c)) 0 1 ∗ dutyTok ER (barC 0 (pr 3 c)) 0 0 ∗ dutyTok ER (dmaC 0 c) 0 0 ∗ dutyTok ER (dmaC 1 c) 0 0 ∗ dutyTok ER (dmaC 2 c) 0 0 ∗ dutyTok ER (dmaC 3 c) 0 0 ∗ dutyTok ER (dmaC 4 c) 0 0 ∗ dutyTok ER (dmaC 5 c) 0 0 ∗ dutyTok ER (dmaC 6 c) 0 0 ∗ dutyTok ER (dmaC 7 c) 0 0
    ∗ dutyTok ER (dmaC 8 (pr 1 c)) 0 0 ∗ dutyTok ER (dmaC 11 (pr 1 c)) 0 0 ∗ dutyTok ER (dmaC 9 (pr 2 c)) 0 0 ∗ dutyTok ER (dmaC 12 (pr 2 c)) 0 0 ∗ dutyTok ER (dmaC 10 (pr 3 c)) 0 0 ∗ dutyTok ER (dmaC 13 (pr 3 c)) 0 0)
/-- Where it stands on its own cells; that they are open; that the barrier cells it signals are; the credits it waits with. -/
def pos0 (c : Dev nD) : sProp 𝕄 := iprop(atPos ER (dmaC 0 c) 0 ∅ 0 ∗ atPos ER (dmaC 1 c) 0 ∅ 0 ∗ atPos ER (dmaC 2 c) 0 ∅ 0 ∗ atPos ER (dmaC 3 c) 0 ∅ 0 ∗ atPos ER (dmaC 4 c) 0 ∅ 0 ∗ atPos ER (dmaC 5 c) 0 ∅ 0 ∗ atPos ER (dmaC 6 c) 0 ∅ 0 ∗ atPos ER (dmaC 7 c) 0 ∅ 0 ∗ atPos ER (dmaC 8 c) 0 ∅ 0 ∗ atPos ER (dmaC 9 c) 0 ∅ 0 ∗ atPos ER (dmaC 10 c) 0 ∅ 0 ∗ atPos ER (dmaC 11 c) 0 ∅ 0 ∗ atPos ER (dmaC 12 c) 0 ∅ 0 ∗ atPos ER (dmaC 13 c) 0 ∅ 0)
def open0 (c : Dev nD) : sProp 𝕄 := iprop(reached ER (dmaC 0 c) 0 ∗ reached ER (dmaC 1 c) 0 ∗ reached ER (dmaC 2 c) 0 ∗ reached ER (dmaC 3 c) 0 ∗ reached ER (dmaC 4 c) 0 ∗ reached ER (dmaC 5 c) 0 ∗ reached ER (dmaC 6 c) 0 ∗ reached ER (dmaC 7 c) 0 ∗ reached ER (dmaC 8 c) 0 ∗ reached ER (dmaC 9 c) 0 ∗ reached ER (dmaC 10 c) 0 ∗ reached ER (dmaC 11 c) 0 ∗ reached ER (dmaC 12 c) 0 ∗ reached ER (dmaC 13 c) 0)
def bars0 (c : Dev nD) : sProp 𝕄 := iprop(reached ER (barC 0 (pr 1 c)) 0 ∗ reached ER (barC 0 (pr 2 c)) 0 ∗ reached ER (barC 0 (pr 3 c)) 0)
def creds0 (c : Dev nD) : sProp 𝕄 := iprop(cred (tallyAt (barC 0 c) 1 3) ∗ cred (tallyAt (dmaC 8 c) 2 NK) ∗ cred (tallyAt (dmaC 9 c) 2 NK) ∗ cred (tallyAt (dmaC 10 c) 2 NK) ∗ cred (tallyAt (dmaC 11 c) 2 NK) ∗ cred (tallyAt (dmaC 12 c) 2 NK) ∗ cred (tallyAt (dmaC 13 c) 2 NK))
/-- Its own cells, closed. -/
def sems0 (c : Dev nD) : sProp 𝕄 := iprop(semVal (dmaC 0 c) 0 ∗ semVal (dmaC 1 c) 0 ∗ semVal (dmaC 2 c) 0 ∗ semVal (dmaC 3 c) 0 ∗ semVal (dmaC 4 c) 0 ∗ semVal (dmaC 5 c) 0 ∗ semVal (dmaC 6 c) 0 ∗ semVal (dmaC 7 c) 0 ∗ semVal (dmaC 8 c) 0 ∗ semVal (dmaC 9 c) 0 ∗ semVal (dmaC 10 c) 0 ∗ semVal (dmaC 11 c) 0 ∗ semVal (dmaC 12 c) 0 ∗ semVal (dmaC 13 c) 0)
instance open0_persistent (c : Dev nD) : BI.Persistent (open0 c : sProp 𝕄) := by unfold open0; infer_instance
instance bars0_persistent (c : Dev nD) : BI.Persistent (bars0 c : sProp 𝕄) := by unfold bars0; infer_instance

/-- One device's all-to-all. -/
theorem a2aRun (w : Start F) (K : GSem nD τ sig → ℕ) (c : Dev nD) (Q : PUnit → sProp (MT nD τ sig ℕ (Elt F) ℕ UU ℕ)) :
    iprop(invs w K ∗ levAts (L NL) lv ∗ owesE c (D2 c + tallyL (due0 c)) ∗ toks0 c ∗ pos0 c ∗ atPos ER (barC 0 c) 0 ∅ 0 ∗ open0 c ∗ bars0 c ∗ creds0 c
        ∗ ((c : Thread nD τ).loc main_v3 ↦{fullShare} w.k c) ∗ ((c : Thread nD τ).loc main_v6 ↦{fullShare} w.v c)
        ∗ (∃ f, (c : Thread nD τ).loc main_v7_0 ↦{fullShare} f) ∗ (∃ f, (c : Thread nD τ).loc main_v7_1 ↦{fullShare} f))
      ⊢ iprop(((owesE c (D2 c) ∗ semVal (barC 0 c) 0 ∗ sems0 c
            ∗ ((c : Thread nD τ).loc main_v3 ↦{fullShare} w.k c) ∗ ((c : Thread nD τ).loc main_v6 ↦{fullShare} w.v c)
            ∗ ((c : Thread nD τ).loc main_v7_0 ↦{fullShare} gathK w c) ∗ ((c : Thread nD τ).loc main_v7_1 ↦{fullShare} gathV w c)) -∗ Q ⟨⟩)
          -∗ wp frame (wpE (defs₀ (F := F)) 𝒱₀ c none) Set.univ (cc0__a2a_body (F := F) kM (Memref.isWhole_whole _) vM (Memref.isWhole_whole _) gkM (Memref.isWhole_whole _) gvM (Memref.isWhole_whole _) cc0_scratch0 cc0_scratch1 cc0_scratch2) Q) := by
  unfold toks0 pos0 open0 bars0 creds0 sems0
  simp only [cc0__a2a_body_eq_skeleton]
  unfold cc0__a2a_body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  iintro ⟨#HI, #HL, HO, ⟨TB1, TB2, TB3, T0, T1, T2, T3, T4, T5, T6, T7, P8, P11, P9, P12, P10, P13⟩, ⟨A0, A1, A2, A3, A4, A5, A6, A7, A8, A9, A10, A11, A12, A13⟩, AB, ⟨#R0, #R1, #R2, #R3, #R4, #R5, #R6, #R7, #R8, #R9, #R10, #R11, #R12, #R13⟩, ⟨#RB1, #RB2, #RB3⟩, ⟨CB, C8, C9, C10, C11, C12, C13⟩, Hk, Hv, ⟨%fk, Hgk⟩, ⟨%fv, Hgv⟩⟩ Hend
  ihave Hk := (Entails.of_eq (split_k c (w.k c))) $$ Hk
  icases Hk with ⟨k0, k1, k2, k3⟩
  ihave Hv := (Entails.of_eq (split_v c (w.v c))) $$ Hv
  icases Hv with ⟨v0, v1, v2, v3⟩
  ihave Hgk := (Entails.of_eq (split_gk c fk)) $$ Hgk
  icases Hgk with ⟨gk0, gk1, gk2, gk3⟩
  ihave Hgv := (Entails.of_eq (split_gv c fv)) $$ Hgv
  icases Hgv with ⟨gv0, gv1, gv2, gv3⟩
  unfold due0
  iapply (st_ready0 w K c (pr 1 c) _ (dev0_1 c) 2 (pr_pr31 c) 10 13 rfl rfl [(barC 0 (pr 2 c), 1, 1), (barC 0 (pr 3 c), 1, 1), (dmaC 8 (pr 1 c), 2, NK), (dmaC 11 (pr 1 c), 2, NK), (dmaC 9 (pr 2 c), 2, NK), (dmaC 12 (pr 2 c), 2, NK), (dmaC 10 (pr 3 c), 2, NK), (dmaC 13 (pr 3 c), 2, NK)] fk fv) $$ [HO TB1 gk1 gv1]
  · isplitr; · iexact HI
    isplitl [HO]; · iexact HO
    isplitl [TB1]; · iexact TB1
    isplitr; · iexact RB1
    isplitl [gk1]; · iexact gk1
    isplitl [gv1]; · iexact gv1
    isplitr; · iexact R10
    iexact R13
  iintro HO
  iapply (st_ready0 w K c (pr 2 c) _ (dev0_2 c) 1 (pr_pr22 c) 9 12 rfl rfl [(barC 0 (pr 3 c), 1, 1), (dmaC 8 (pr 1 c), 2, NK), (dmaC 11 (pr 1 c), 2, NK), (dmaC 9 (pr 2 c), 2, NK), (dmaC 12 (pr 2 c), 2, NK), (dmaC 10 (pr 3 c), 2, NK), (dmaC 13 (pr 3 c), 2, NK)] fk fv) $$ [HO TB2 gk2 gv2]
  · isplitr; · iexact HI
    isplitl [HO]; · iexact HO
    isplitl [TB2]; · iexact TB2
    isplitr; · iexact RB2
    isplitl [gk2]; · iexact gk2
    isplitl [gv2]; · iexact gv2
    isplitr; · iexact R9
    iexact R12
  iintro HO
  iapply (st_ready0 w K c (pr 3 c) _ (dev0_3 c) 0 (pr_pr13 c) 8 11 rfl rfl [(dmaC 8 (pr 1 c), 2, NK), (dmaC 11 (pr 1 c), 2, NK), (dmaC 9 (pr 2 c), 2, NK), (dmaC 12 (pr 2 c), 2, NK), (dmaC 10 (pr 3 c), 2, NK), (dmaC 13 (pr 3 c), 2, NK)] fk fv) $$ [HO TB3 gk3 gv3]
  · isplitr; · iexact HI
    isplitl [HO]; · iexact HO
    isplitl [TB3]; · iexact TB3
    isplitr; · iexact RB3
    isplitl [gk3]; · iexact gk3
    isplitl [gv3]; · iexact gv3
    isplitr; · iexact R8
    iexact R11
  iintro HO
  iapply (st_barwait w K c 0 1 (D2 c + tallyL [(dmaC 8 (pr 1 c), 2, NK), (dmaC 11 (pr 1 c), 2, NK), (dmaC 9 (pr 2 c), 2, NK), (dmaC 12 (pr 2 c), 2, NK), (dmaC 10 (pr 3 c), 2, NK), (dmaC 13 (pr 3 c), 2, NK)])) $$ [HO CB AB]
  · isplitr; · iexact HI
    isplitl [CB]; · iexact CB
    isplitl [HO]; · iexact HO
    isplitr
    · iapply (mayWait_rest (i := 1) (by decide) (by decide) above_D2 c (.reg 0) [(dmaC 8 (pr 1 c), 2, NK), (dmaC 11 (pr 1 c), 2, NK), (dmaC 9 (pr 2 c), 2, NK), (dmaC 12 (pr 2 c), 2, NK), (dmaC 10 (pr 3 c), 2, NK), (dmaC 13 (pr 3 c), 2, NK)] (fun x hx => by
        simp only [List.mem_cons, List.not_mem_nil, or_false] at hx
        rcases hx with h | h | h | h | h | h <;> subst h <;> exact ⟨rfl, by dsimp only; omega, by dsimp only; omega⟩))
      iexact HL
    iexact AB
  iintro ⟨HO, SB, HP⟩
  ihave HP := (Entails.of_eq (rest_bar0 w c)) $$ HP
  unfold barPay0
  icases HP with ⟨⟨G8, G11, #Q8, #Q11⟩, ⟨G9, G12, #Q9, #Q12⟩, ⟨G10, G13, #Q10, #Q13⟩⟩
  iapply (st_copyK w K c 0 0 rfl (by decide) rfl _ _ (off0_2 c) _ _ (off0_1 c) _ rfl fk) $$ [k0 gk0 T0]
  · isplitr; · iexact HI
    isplitl [k0]; · iexact k0
    isplitl [gk0]; · iexact gk0
    isplitl [T0]; · iexact T0
    iexact R0
  iintro C0
  iapply (st_copyV w K c 1 1 rfl (by decide) rfl _ _ (off0_2 c) _ _ (off0_1 c) _ rfl fv) $$ [v0 gv0 T1]
  · isplitr; · iexact HI
    isplitl [v0]; · iexact v0
    isplitl [gv0]; · iexact gv0
    isplitl [T1]; · iexact T1
    iexact R1
  iintro C1
  iapply (st_sendK w K c (pr 1 c) _ (dev0_4 c) 2 8 2 8 rfl rfl (by decide) (by decide) rfl (by show gkPts (pr 3 (pr 1 c)) _ _ = _; rw [pr_pr31 c]) _ _ (off0_3 c 0) _ _ (off0_1 c) _ _ rfl rfl [(dmaC 11 (pr 1 c), 2, NK), (dmaC 9 (pr 2 c), 2, NK), (dmaC 12 (pr 2 c), 2, NK), (dmaC 10 (pr 3 c), 2, NK), (dmaC 13 (pr 3 c), 2, NK)]) $$ [k1 G8 HO T2 P8]
  · isplitr; · iexact HI
    isplitl [k1]; · iexact k1
    isplitl [G8]; · iexact G8
    isplitl [HO]; · iexact HO
    isplitl [T2]; · iexact T2
    isplitr; · iexact R2
    isplitl [P8]; · iexact P8
    iexact Q8
  iintro ⟨C2, HO⟩
  iapply (st_sendV w K c (pr 1 c) _ (dev0_5 c) 5 11 5 11 rfl rfl (by decide) (by decide) rfl (by show gvPts (pr 3 (pr 1 c)) _ _ = _; rw [pr_pr31 c]) _ _ (off0_3 c 0) _ _ (off0_1 c) _ _ rfl rfl [(dmaC 9 (pr 2 c), 2, NK), (dmaC 12 (pr 2 c), 2, NK), (dmaC 10 (pr 3 c), 2, NK), (dmaC 13 (pr 3 c), 2, NK)]) $$ [v1 G11 HO T5 P11]
  · isplitr; · iexact HI
    isplitl [v1]; · iexact v1
    isplitl [G11]; · iexact G11
    isplitl [HO]; · iexact HO
    isplitl [T5]; · iexact T5
    isplitr; · iexact R5
    isplitl [P11]; · iexact P11
    iexact Q11
  iintro ⟨C5, HO⟩
  iapply (st_sendK w K c (pr 2 c) _ (dev0_6 c) 3 9 3 9 rfl rfl (by decide) (by decide) rfl (by show gkPts (pr 2 (pr 2 c)) _ _ = _; rw [pr_pr22 c]) _ _ (off0_3 c 1) _ _ (off0_1 c) _ _ rfl rfl [(dmaC 12 (pr 2 c), 2, NK), (dmaC 10 (pr 3 c), 2, NK), (dmaC 13 (pr 3 c), 2, NK)]) $$ [k2 G9 HO T3 P9]
  · isplitr; · iexact HI
    isplitl [k2]; · iexact k2
    isplitl [G9]; · iexact G9
    isplitl [HO]; · iexact HO
    isplitl [T3]; · iexact T3
    isplitr; · iexact R3
    isplitl [P9]; · iexact P9
    iexact Q9
  iintro ⟨C3, HO⟩
  iapply (st_sendV w K c (pr 2 c) _ (dev0_7 c) 6 12 6 12 rfl rfl (by decide) (by decide) rfl (by show gvPts (pr 2 (pr 2 c)) _ _ = _; rw [pr_pr22 c]) _ _ (off0_3 c 1) _ _ (off0_1 c) _ _ rfl rfl [(dmaC 10 (pr 3 c), 2, NK), (dmaC 13 (pr 3 c), 2, NK)]) $$ [v2 G12 HO T6 P12]
  · isplitr; · iexact HI
    isplitl [v2]; · iexact v2
    isplitl [G12]; · iexact G12
    isplitl [HO]; · iexact HO
    isplitl [T6]; · iexact T6
    isplitr; · iexact R6
    isplitl [P12]; · iexact P12
    iexact Q12
  iintro ⟨C6, HO⟩
  iapply (st_sendK w K c (pr 3 c) _ (dev0_8 c) 4 10 4 10 rfl rfl (by decide) (by decide) rfl (by show gkPts (pr 1 (pr 3 c)) _ _ = _; rw [pr_pr13 c]) _ _ (off0_3 c 2) _ _ (off0_1 c) _ _ rfl rfl [(dmaC 13 (pr 3 c), 2, NK)]) $$ [k3 G10 HO T4 P10]
  · isplitr; · iexact HI
    isplitl [k3]; · iexact k3
    isplitl [G10]; · iexact G10
    isplitl [HO]; · iexact HO
    isplitl [T4]; · iexact T4
    isplitr; · iexact R4
    isplitl [P10]; · iexact P10
    iexact Q10
  iintro ⟨C4, HO⟩
  iapply (st_sendV w K c (pr 3 c) _ (dev0_9 c) 7 13 7 13 rfl rfl (by decide) (by decide) rfl (by show gvPts (pr 1 (pr 3 c)) _ _ = _; rw [pr_pr13 c]) _ _ (off0_3 c 2) _ _ (off0_1 c) _ _ rfl rfl []) $$ [v3 G13 HO T7 P13]
  · isplitr; · iexact HI
    isplitl [v3]; · iexact v3
    isplitl [G13]; · iexact G13
    isplitl [HO]; · iexact HO
    isplitl [T7]; · iexact T7
    isplitr; · iexact R7
    isplitl [P13]; · iexact P13
    iexact Q13
  iintro ⟨C7, HO⟩
  ihave HO := (Entails.of_eq (show owesE c (D2 c + tallyL []) = owesE c (D2 c) from by rw [tallyL, add_zero])) $$ HO
  iapply (st_wait0 w K c 0 0 rfl (by decide) _ rfl 0 (by decide) (credit_block _ _ _) (iprop(gkPts c c (gathK w c) ∗ kPts c c (w.k c))) rfl) $$ [C0 HO A0]
  · isplitr; · iexact HI
    isplitr; · iexact HL
    isplitl [C0]; · iexact C0
    isplitl [HO]; · iexact HO
    iexact A0
  iintro ⟨HO, S0, E0, F0⟩
  iapply (st_wait0 w K c 1 1 rfl (by decide) _ rfl 0 (by decide) (credit_block _ _ _) (iprop(gvPts c c (gathV w c) ∗ vPts c c (w.v c))) rfl) $$ [C1 HO A1]
  · isplitr; · iexact HI
    isplitr; · iexact HL
    isplitl [C1]; · iexact C1
    isplitl [HO]; · iexact HO
    iexact A1
  iintro ⟨HO, S1, E1, F1⟩
  iapply (st_wait0 w K c 2 2 rfl (by decide) _ rfl 0 (by decide) (credit_heads _ _ _) (kPts (pr 1 c) c (w.k c)) rfl) $$ [C2 HO A2]
  · isplitr; · iexact HI
    isplitr; · iexact HL
    isplitl [C2]; · iexact C2
    isplitl [HO]; · iexact HO
    iexact A2
  iintro ⟨HO, S2, E2⟩
  iapply (st_wait0 w K c 5 5 rfl (by decide) _ rfl 0 (by decide) (credit_heads _ _ _) (vPts (pr 1 c) c (w.v c)) rfl) $$ [C5 HO A5]
  · isplitr; · iexact HI
    isplitr; · iexact HL
    isplitl [C5]; · iexact C5
    isplitl [HO]; · iexact HO
    iexact A5
  iintro ⟨HO, S5, E5⟩
  iapply (st_wait0 w K c 3 3 rfl (by decide) _ rfl 0 (by decide) (credit_heads _ _ _) (kPts (pr 2 c) c (w.k c)) rfl) $$ [C3 HO A3]
  · isplitr; · iexact HI
    isplitr; · iexact HL
    isplitl [C3]; · iexact C3
    isplitl [HO]; · iexact HO
    iexact A3
  iintro ⟨HO, S3, E3⟩
  iapply (st_wait0 w K c 6 6 rfl (by decide) _ rfl 0 (by decide) (credit_heads _ _ _) (vPts (pr 2 c) c (w.v c)) rfl) $$ [C6 HO A6]
  · isplitr; · iexact HI
    isplitr; · iexact HL
    isplitl [C6]; · iexact C6
    isplitl [HO]; · iexact HO
    iexact A6
  iintro ⟨HO, S6, E6⟩
  iapply (st_wait0 w K c 4 4 rfl (by decide) _ rfl 0 (by decide) (credit_heads _ _ _) (kPts (pr 3 c) c (w.k c)) rfl) $$ [C4 HO A4]
  · isplitr; · iexact HI
    isplitr; · iexact HL
    isplitl [C4]; · iexact C4
    isplitl [HO]; · iexact HO
    iexact A4
  iintro ⟨HO, S4, E4⟩
  iapply (st_wait0 w K c 7 7 rfl (by decide) _ rfl 0 (by decide) (credit_heads _ _ _) (vPts (pr 3 c) c (w.v c)) rfl) $$ [C7 HO A7]
  · isplitr; · iexact HI
    isplitr; · iexact HL
    isplitl [C7]; · iexact C7
    isplitl [HO]; · iexact HO
    iexact A7
  iintro ⟨HO, S7, E7⟩
  iapply (st_wait0 w K c 8 8 rfl (by decide) _ rfl 2 (by decide) (credit_block _ _ _) (gkPts (pr 3 c) c (gathK w c)) rfl) $$ [C8 HO A8]
  · isplitr; · iexact HI
    isplitr; · iexact HL
    isplitl [C8]; · iexact C8
    isplitl [HO]; · iexact HO
    iexact A8
  iintro ⟨HO, S8, E8⟩
  iapply (st_wait0 w K c 11 11 rfl (by decide) _ rfl 2 (by decide) (credit_block _ _ _) (gvPts (pr 3 c) c (gathV w c)) rfl) $$ [C11 HO A11]
  · isplitr; · iexact HI
    isplitr; · iexact HL
    isplitl [C11]; · iexact C11
    isplitl [HO]; · iexact HO
    iexact A11
  iintro ⟨HO, S11, E11⟩
  iapply (st_wait0 w K c 9 9 rfl (by decide) _ rfl 2 (by decide) (credit_block _ _ _) (gkPts (pr 2 c) c (gathK w c)) rfl) $$ [C9 HO A9]
  · isplitr; · iexact HI
    isplitr; · iexact HL
    isplitl [C9]; · iexact C9
    isplitl [HO]; · iexact HO
    iexact A9
  iintro ⟨HO, S9, E9⟩
  iapply (st_wait0 w K c 12 12 rfl (by decide) _ rfl 2 (by decide) (credit_block _ _ _) (gvPts (pr 2 c) c (gathV w c)) rfl) $$ [C12 HO A12]
  · isplitr; · iexact HI
    isplitr; · iexact HL
    isplitl [C12]; · iexact C12
    isplitl [HO]; · iexact HO
    iexact A12
  iintro ⟨HO, S12, E12⟩
  iapply (st_wait0 w K c 10 10 rfl (by decide) _ rfl 2 (by decide) (credit_block _ _ _) (gkPts (pr 1 c) c (gathK w c)) rfl) $$ [C10 HO A10]
  · isplitr; · iexact HI
    isplitr; · iexact HL
    isplitl [C10]; · iexact C10
    isplitl [HO]; · iexact HO
    iexact A10
  iintro ⟨HO, S10, E10⟩
  iapply (st_wait0 w K c 13 13 rfl (by decide) _ rfl 2 (by decide) (credit_block _ _ _) (gvPts (pr 1 c) c (gathV w c)) rfl) $$ [C13 HO A13]
  · isplitr; · iexact HI
    isplitr; · iexact HL
    isplitl [C13]; · iexact C13
    isplitl [HO]; · iexact HO
    iexact A13
  iintro ⟨HO, S13, E13⟩
  rw [wp_ret]; imodintro
  iapply Hend
  isplitl [HO]; · iexact HO
  isplitl [SB]; · iexact SB
  isplitl [S0 S1 S2 S3 S4 S5 S6 S7 S8 S9 S10 S11 S12 S13]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iexact S13
  isplitl [F0 E2 E3 E4]
  · iapply (Entails.of_eq (split_k c (w.k c)).symm)
    isplitl [F0]; · iexact F0
    isplitl [E2]; · iexact E2
    isplitl [E3]; · iexact E3
    iexact E4
  isplitl [F1 E5 E6 E7]
  · iapply (Entails.of_eq (split_v c (w.v c)).symm)
    isplitl [F1]; · iexact F1
    isplitl [E5]; · iexact E5
    isplitl [E6]; · iexact E6
    iexact E7
  isplitl [E0 E10 E9 E8]
  · iapply (Entails.of_eq (split_gk c (gathK w c)).symm)
    isplitl [E0]; · iexact E0
    isplitl [E10]; · iexact E10
    isplitl [E9]; · iexact E9
    iexact E8
  iapply (Entails.of_eq (split_gv c (gathV w c)).symm)
  isplitl [E1]; · iexact E1
  isplitl [E13]; · iexact E13
  isplitl [E12]; · iexact E12
  iexact E11

end Cert.Tp
-- ==== Proof.Reduce.lean ====
/-
  The all-reduce of the partial outputs: one device's body, from its opened cells to the summed output.
-/
module

public import proofs.«01_k».proof.Proof.Exchange

@[expose] public section

set_option backward.proofsInPublic true

noncomputable section

namespace Cert.Tp

open Idealize.ShloMosaic Idealize.ShloMosaic.TcCoe Idealize.ShloMosaic.Rounds Idealize.ShloMosaic.SiteBlocks Idealize.ShloMosaic.TalkSites
open Idealize.SL Idealize.SL.RA Idealize.SL.BI
open scoped Idealize.SL.BI
open Idealize.SL.BI.BIBase Idealize.SL.Sem
open Cert.KernelIdeal Cert.KernelIdeal.Gen

variable {F : FTy → Type} [FloatOps F] [Named F]

local notation "𝕄" => MT nD τ sig ℕ (Elt F) ℕ UU ℕ

/-! ## Devices -/

theorem dev2_1 (c : Dev nD) : (⟨k2_dev1 c, k2_dev1_lt c⟩ : Dev nD) = pr 1 c := by revert c; decide
theorem dev2_2 (c : Dev nD) : (⟨k2_dev2 c, k2_dev2_lt c⟩ : Dev nD) = pr 2 c := by revert c; decide
theorem dev2_3 (c : Dev nD) : (⟨k2_dev3 c, k2_dev3_lt c⟩ : Dev nD) = pr 3 c := by revert c; decide
theorem dev2_4 (c : Dev nD) : (⟨k2_dev4 c, k2_dev4_lt c⟩ : Dev nD) = pr 1 c := by revert c; decide
theorem dev2_5 (c : Dev nD) : (⟨k2_dev5 c, k2_dev5_lt c⟩ : Dev nD) = pr 2 c := by revert c; decide
theorem dev2_6 (c : Dev nD) : (⟨k2_dev6 c, k2_dev6_lt c⟩ : Dev nD) = pr 3 c := by revert c; decide
theorem dev2_7 (c : Dev nD) : (⟨k2_dev7 c, k2_dev7_lt c⟩ : Dev nD) = pr 1 c := by revert c; decide
theorem dev2_8 (c : Dev nD) : (⟨k2_dev8 c, k2_dev8_lt c⟩ : Dev nD) = pr 2 c := by revert c; decide
theorem dev2_9 (c : Dev nD) : (⟨k2_dev9 c, k2_dev9_lt c⟩ : Dev nD) = pr 3 c := by revert c; decide

/-! ## Buffers, slab by slab -/

theorem sSet_disj : ∀ d e : Dev nD, d ≠ e → Disjoint (sSet d) (sSet e) := by
  intro d e h
  refine Finset.disjoint_left.2 fun i hi hj => h (Fin.ext ?_)
  simp only [sSet, Finset.mem_filter] at hi hj
  exact hi.2.symm.trans hj.2
theorem rSet_disj : ∀ d e : Fin 3, d ≠ e → Disjoint (rSet d) (rSet e) := by
  intro d e h
  refine Finset.disjoint_left.2 fun i hi hj => h (Fin.ext ?_)
  simp only [rSet, Finset.mem_filter] at hi hj
  exact hi.2.symm.trans hj.2
theorem sSet_cover : (Finset.univ : Finset (Dev nD)).biUnion sSet = Finset.univ := by
  ext i
  have h : (i 0).val < 4 := (i 0).isLt
  simp only [Finset.mem_biUnion, Finset.mem_univ, true_and, iff_true]
  exact ⟨⟨(i 0).val, h⟩, by simp [sSet]⟩
theorem rSet_cover : (Finset.univ : Finset (Fin 3)).biUnion rSet = Finset.univ := by
  ext i
  have h : (i 0).val < 3 := (i 0).isLt
  simp only [Finset.mem_biUnion, Finset.mem_univ, true_and, iff_true]
  exact ⟨⟨(i 0).val, h⟩, by simp [rSet]⟩
theorem bigSep_three (Φ : Fin 3 → sProp (MT nD τ sig ℕ (Elt F) ℕ UU ℕ)) : bigSep Finset.univ Φ = iprop(Φ 0 ∗ Φ 1 ∗ Φ 2) := by
  rw [bigSep_univ_eq_bigSepL [0, 1, 2] (by decide) (by decide)]
  rfl

section Split2
variable (c : Dev nD)
theorem split_s (f : cc2_scratch0.ty.Contents (Elt F)) : ((c : Thread nD τ).loc cc2_scratch0 ↦{fullShare} f : sProp 𝕄)
    = iprop(sPts c c f ∗ sPts (pr 1 c) c f ∗ sPts (pr 2 c) c f ∗ sPts (pr 3 c) c f) :=
  (Idealize.ShloMosaic.Ring.pointsTo_blocks (ℓ := (c : Thread nD τ).loc cc2_scratch0) sSet sSet_disj sSet_cover f).trans (bigSep_around c (fun e => sPts e c f))
theorem split_r (f : cc2_scratch2.ty.Contents (Elt F)) : ((c : Thread nD τ).loc cc2_scratch2 ↦{fullShare} f : sProp 𝕄)
    = iprop(rPts 0 c f ∗ rPts 1 c f ∗ rPts 2 c f) :=
  (Idealize.ShloMosaic.Ring.pointsTo_blocks (ℓ := (c : Thread nD τ).loc cc2_scratch2) rSet rSet_disj rSet_cover f).trans (bigSep_three (fun j => rPts j c f))
theorem split_a (f : cc2_scratch3.ty.Contents (Elt F)) : ((c : Thread nD τ).loc cc2_scratch3 ↦{fullShare} f : sProp 𝕄)
    = iprop(aPts 0 c f ∗ aPts 1 c f ∗ aPts 2 c f) :=
  (Idealize.ShloMosaic.Ring.pointsTo_blocks (ℓ := (c : Thread nD τ).loc cc2_scratch3) rSet rSet_disj rSet_cover f).trans (bigSep_three (fun j => aPts j c f))
end Split2

/-! ## What loads read and stores leave -/

abbrev pM : Memref sig .tc .vmem S4x512x1024 .f32 := Memref.whole cc2_stg0_0
abbrev oM : Memref sig .tc .vmem S4x512x1024 .f32 := Memref.whole cc2_stg1_0

/-- The index of row `a`, lane `b` of a lone slab. -/
def oneIx (a : Fin 512) (b : Fin 1024) : S1x512x1024.Idx := fun k => match k with | ⟨0, _⟩ => ⟨0, Nat.one_pos⟩ | ⟨1, _⟩ => a | ⟨2, _⟩ => b

theorem slab_idx (e : Dev nD) (off : Fin 3 → ℕ) (h : ∀ a, off a + S1x512x1024.size a ≤ S4x512x1024.size a) (ho : off = ![e.val, 0, 0]) (x : S1x512x1024.Idx) :
    (Rect.unit (s := S4x512x1024) off S1x512x1024.size h).emb x = slabIx e (x 1) (x 2) := by
  subst ho
  have h0 : (x 0).val < 1 := (x 0).isLt
  apply Shape.idx3_ext <;> rw [ValueKit.rect_emb_unit_val]
  · show e.val + (x 0).val = e.val; omega
  · show 0 + (x 1).val = (x 1).val; omega
  · show 0 + (x 2).val = (x 2).val; omega
theorem slot_idx (j : Fin 3) (off : Fin 3 → ℕ) (h : ∀ a, off a + S1x512x1024.size a ≤ S3x512x1024.size a) (ho : off = ![j.val, 0, 0]) (x : S1x512x1024.Idx) :
    (Rect.unit (s := S3x512x1024) off S1x512x1024.size h).emb x = slotIx j (x 1) (x 2) := by
  subst ho
  have h0 : (x 0).val < 1 := (x 0).isLt
  apply Shape.idx3_ext <;> rw [ValueKit.rect_emb_unit_val]
  · show j.val + (x 0).val = j.val; omega
  · show 0 + (x 1).val = (x 1).val; omega
  · show 0 + (x 2).val = (x 2).val; omega

/-- A slab of the output set to `v`. -/
def setSlab (e : Dev nD) (f : cc2_stg1_0.ty.Contents (Elt F)) (v : Vec F S1x512x1024 .f32) : cc2_stg1_0.ty.Contents (Elt F) := fun i =>
  if (i 0).val = e.val then v (oneIx (i 1) (i 2)) else f i

theorem store_slab (e : Dev nD) (off : Fin 3 → ℕ) (h) (ho : off = ![e.val, 0, 0]) (f : cc2_stg1_0.ty.Contents (Elt F)) (v : Vec F S1x512x1024 .f32) :
    (oM.access (Rect.unit (s := S4x512x1024) off S1x512x1024.size h)).write (Elt F) f v Finset.univ = setSlab e f v := by
  have hs : (oM.access (Rect.unit (s := S4x512x1024) off S1x512x1024.size h)).set = sSet e := (View.set_slice_whole cc2_stg1_0 _).trans (set_slab e off h ho)
  funext i
  by_cases hi : i ∈ sSet e
  · have hi' : (i 0).val = e.val := (Finset.mem_filter.1 hi).2
    rw [← hs] at hi
    obtain ⟨x, -, rfl⟩ := Finset.mem_map.1 hi
    rw [View.write_emb_of_mem _ _ (Finset.mem_univ x)]
    unfold setSlab
    rw [if_pos hi']
    have e1 : (oM.access (Rect.unit (s := S4x512x1024) off S1x512x1024.size h)).emb x = slabIx e (x 1) (x 2) := slab_idx e off h ho x
    rw [e1]
    show v x = v (oneIx (x 1) (x 2))
    congr 1
    have h0 : (x 0).val < 1 := (x 0).isLt
    apply Shape.idx3_ext
    · show (x 0).val = 0; omega
    · rfl
    · rfl
  · rw [View.write_of_not_mem _ _ _ (by rw [View.setOn_univ, hs]; exact hi)]
    unfold setSlab
    rw [if_neg fun hh => hi (Finset.mem_filter.2 ⟨Finset.mem_univ _, hh⟩)]

theorem load_slab (w : Start F) (c : Dev nD) (off : Fin 3 → ℕ) (h) (ho : off = ![c.val, 0, 0]) :
    pM.view.readAt (Elt F) (Rect.unit (s := S4x512x1024) off S1x512x1024.size h).toLoadRect (w.p c) = slabP w c := by
  funext x
  show w.p c ((Rect.unit (s := S4x512x1024) off S1x512x1024.size h).emb x) = w.p c (slabIx c (x 1) (x 2))
  rw [slab_idx c off h ho x]
theorem load_slotR (j : Fin 3) (off : Fin 3 → ℕ) (h) (ho : off = ![j.val, 0, 0]) (f : cc2_scratch2.ty.Contents (Elt F)) :
    rM.view.readAt (Elt F) (Rect.unit (s := S3x512x1024) off S1x512x1024.size h).toLoadRect f = slotV f j := by
  funext x
  show f ((Rect.unit (s := S3x512x1024) off S1x512x1024.size h).emb x) = f (slotIx j (x 1) (x 2))
  rw [slot_idx j off h ho x]
theorem load_slotA (j : Fin 3) (off : Fin 3 → ℕ) (h) (ho : off = ![j.val, 0, 0]) (f : cc2_scratch3.ty.Contents (Elt F)) :
    aM.view.readAt (Elt F) (Rect.unit (s := S3x512x1024) off S1x512x1024.size h).toLoadRect f = slotV f j := by
  funext x
  show f ((Rect.unit (s := S3x512x1024) off S1x512x1024.size h).emb x) = f (slotIx j (x 1) (x 2))
  rw [slot_idx j off h ho x]
theorem loads_slotR (j : Fin 3) (off : Fin 3 → ℕ) (h) (ho : off = ![j.val, 0, 0]) :
    rM.view.setOn (Rect.unit (s := S3x512x1024) off S1x512x1024.size h).toLoadRect.set ⊆ rSet j := by
  intro i hi
  obtain ⟨y, hy, rfl⟩ := Finset.mem_map.1 hi
  rw [← set_slot j off h ho]
  exact hy
theorem loads_slotA (j : Fin 3) (off : Fin 3 → ℕ) (h) (ho : off = ![j.val, 0, 0]) :
    aM.view.setOn (Rect.unit (s := S3x512x1024) off S1x512x1024.size h).toLoadRect.set ⊆ rSet j := by
  intro i hi
  obtain ⟨y, hy, rfl⟩ := Finset.mem_map.1 hi
  rw [← set_slot j off h ho]
  exact hy

theorem load_p (h) (f : cc2_stg0_0.ty.Contents (Elt F)) :
    pM.view.readAt (Elt F) (Rect.unit (s := S4x512x1024) ![0, 0, 0] S4x512x1024.size h).toLoadRect f = f :=
  Memref.readAt_unit_zero (Elt F) cc2_stg0_0 (by funext a; match a with | ⟨0, _⟩ => rfl | ⟨1, _⟩ => rfl | ⟨2, _⟩ => rfl) h f
theorem store_s (h) (f v : cc2_scratch0.ty.Contents (Elt F)) :
    (sM.access (Rect.unit (s := S4x512x1024) ![0, 0, 0] S4x512x1024.size h)).write (Elt F) f v Finset.univ = v :=
  Memref.write_access_unit_zero_univ (Elt F) cc2_scratch0 (by funext a; match a with | ⟨0, _⟩ => rfl | ⟨1, _⟩ => rfl | ⟨2, _⟩ => rfl) h f v
theorem store_q (h) (f v : cc2_scratch1.ty.Contents (Elt F)) :
    (qM.access (Rect.unit (s := S512x1024) ![0, 0] S512x1024.size h)).write (Elt F) f v Finset.univ = v :=
  Memref.write_access_unit_zero_univ (Elt F) cc2_scratch1 (by funext a; match a with | ⟨0, _⟩ => rfl | ⟨1, _⟩ => rfl) h f v

/-- The output a device ends with: its own slab reduced here, each other slab as its owner reduced it. -/
def outO (w : Start F) (c : Dev nD) : cc2_stg1_0.ty.Contents (Elt F) := fun i =>
  if (i 0).val = (pr 1 c).val then k2_pay7 (slotV (landG w c) 2) (oneIx (i 1) (i 2))
  else if (i 0).val = (pr 2 c).val then k2_pay6 (slotV (landG w c) 1) (oneIx (i 1) (i 2))
  else if (i 0).val = (pr 3 c).val then k2_pay5 (slotV (landG w c) 0) (oneIx (i 1) (i 2))
  else k2_pay3 (slabP w c) (slotV (landR w c) 0) (slotV (landR w c) 1) (slotV (landR w c) 2) (oneIx (i 1) (i 2))

theorem outO_eq (w : Start F) (c : Dev nD) (f : cc2_stg1_0.ty.Contents (Elt F)) :
    setSlab (pr 1 c) (setSlab (pr 2 c) (setSlab (pr 3 c) (setSlab c f
        (k2_pay3 (slabP w c) (slotV (landR w c) 0) (slotV (landR w c) 1) (slotV (landR w c) 2)))
        (k2_pay5 (slotV (landG w c) 0))) (k2_pay6 (slotV (landG w c) 1))) (k2_pay7 (slotV (landG w c) 2)) = outO w c := by
  funext i
  unfold setSlab outO
  split
  · rfl
  rename_i h1
  split
  · rfl
  rename_i h2
  split
  · rfl
  rename_i h3
  rw [if_pos]
  have hc : c.val < 4 := c.isLt
  have h0 : (i 0).val < 4 := (i 0).isLt
  have e1 : (pr 1 c).val = (c.val + 1) % 4 := rfl
  have e2 : (pr 2 c).val = (c.val + 2) % 4 := rfl
  have e3 : (pr 3 c).val = (c.val + 3) % 4 := rfl
  omega

/-! ## Steps of this body -/

section Steps2
variable (w : Start F) (K : GSem nD τ sig → ℕ) (c : Dev nD) {α : Type}
variable {Q : α → sProp (MT nD τ sig ℕ (Elt F) ℕ UU ℕ)}

/-- Hand device `p` the landing slots it will write, with a signal. -/
theorem st_ready2 (p n : Dev nD) (hn : n = p) (e : Fin 3) (hp : pr (e.val + 1) p = c) (a b : Fin 40) (ha : a = ⟨31 + e.val, by omega⟩) (hb : b = ⟨37 + e.val, by omega⟩)
    (l : List (Pay nD τ sig)) (fr : cc2_scratch2.ty.Contents (Elt F)) (fa : cc2_scratch3.ty.Contents (Elt F))
    {kt : PUnit → Prog (TpuEff nD τ sig (Elt F) Λ₀ .tc) α} :
    iprop(invs w K ∗ owesE c (0 + tallyL ((barC 1 p, 3, 1) :: l)) ∗ dutyTok ER (barC 1 p) 0 e.val ∗ reached ER (barC 1 p) 0
        ∗ rPts e c fr ∗ aPts e c fa ∗ reached ER (dmaC a c) 0 ∗ reached ER (dmaC b c) 0)
      ⊢ iprop((owesE c (0 + tallyL l) -∗ wp frame (wpE (defs₀ (F := F)) 𝒱₀ c none) Set.univ (kt ⟨⟩) Q)
          -∗ wp frame (wpE (defs₀ (F := F)) 𝒱₀ c none) Set.univ (.op (.semSignal (n : Thread nD τ) 1 1) kt) Q) := by
  subst hp ha hb
  iintro ⟨#HI, HO, Ht, #Hr, Hk, Hv, #Ha, #Hb⟩ Hw
  iapply (st_signal w K (pr (e.val + 1) p) 1 p n hn e 3 0 l) $$ [HO Ht Hk Hv]
  · isplitr; · iexact HI
    isplitl [HO]; · iexact HO
    isplitl [Ht]; · iexact Ht
    isplitl [Hk Hv]
    · rw [payload_bar1 w p e]
      unfold barPay1
      isplitl [Hk]; · iexists fr; iexact Hk
      isplitl [Hv]; · iexists fa; iexact Hv
      isplitr; · iexact Ha
      iexact Hb
    iexact Hr
  iexact Hw

/-- Send device `p` its slab of the partial output. -/
theorem st_sendR (p n : Dev nD) (hn : n = p) (j : Fin 3) (hs : c = pr (3 - j.val) p) (a b : Fin 40) (i i' : Fin 26) (ha : a = dmaNo i) (hb : b = dmaNo i') (ha' : ¬ a.val < 14) (hb' : ¬ b.val < 14)
    (hpa : dmaPay w c a.val = sPts p c (sendB w c)) (hpb : dmaPay w p b.val = rPts j p (landR w p))
    (off : Fin 3 → ℕ) (h) (ho : off = ![p.val, 0, 0]) (off' : Fin 3 → ℕ) (h') (ho' : off' = ![j.val, 0, 0])
    (sS sem : DmaSem sig) (hS : sS = a) (hR : sem = b) (l : List (Pay nD τ sig))
    {hsc : (slotOf rM off' h').view.ref.isScScratch = false} {hsrc : (slabOf sM off h).view.WordExact} {hdst : (slotOf rM off' h').view.WordExact}
    {hsem : DmaTarget.Typed (nD := nD) (τ := τ) .vmem (.dma sem) (.remote (n : Thread nD τ) (slotOf rM off' h') (.dma sS) hsc)}
    {kt : PUnit → Prog (TpuEff nD τ sig (Elt F) Λ₀ .tc) α} :
    iprop(invs w K ∗ sPts p c (sendB w c) ∗ (∃ f, rPts j p f)
        ∗ owesE c (0 + tallyL ((dmaC b p, 4, NR) :: l))
        ∗ dutyTok ER (dmaC a c) 0 0 ∗ reached ER (dmaC a c) 0 ∗ dutyTok ER (dmaC b p) 0 0 ∗ reached ER (dmaC b p) 0)
      ⊢ iprop(((cred (tallyAt (dmaC a c) 0 NR) ∗ owesE c (0 + tallyL l)) -∗ wp frame (wpE (defs₀ (F := F)) 𝒱₀ c none) Set.univ (kt ⟨⟩) Q)
          -∗ wp frame (wpE (defs₀ (F := F)) 𝒱₀ c none) Set.univ
              (.op (.enqueueDma (slabOf sM off h) (.remote (n : Thread nD τ) (slotOf rM off' h') (.dma sS) hsc) (.dma sem) hsrc hdst hsem) kt) Q) := by
  subst ha hb
  iintro ⟨#HI, Hs, ⟨%fd, Hd⟩, HO, Ht, #Hr, Ht', #Hr'⟩ Hw
  ihave Hs := (Entails.of_eq (s_view p c off h ho (sendB w c)).symm) $$ Hs
  ihave Hd := (Entails.of_eq (r_view p j off' h' ho' fd).symm) $$ Hd
  iapply (st_send w K c i i' p n hn (src := slabOf sM off h) (dst := slotOf rM off' h') sS sem hS hR (q := fullShare) (fs := sendB w c) (fd := fd)
    4 NR (credit_slot _ _ _) (amount_R w c _ ha' 0) (amount_R w p _ hb' 0) 0 l
    (Entails.of_eq ((s_view p c off h ho (sendB w c)).trans hpa.symm))
    (Entails.of_eq ((r_land p j w off h ho off' h' ho' c hs fd).trans hpb.symm))) $$ [Hs Hd HO Ht Ht']
  · isplitr; · iexact HI
    isplitl [Hs]; · iexact Hs
    isplitl [Hd]; · iexact Hd
    isplitl [HO]; · iexact HO
    isplitl [Ht]; · iexact Ht
    isplitr; · iexact Hr
    isplitl [Ht']; · iexact Ht'
    iexact Hr'
  iexact Hw

/-- Send device `p` the reduced slab. -/
theorem st_sendG (p n : Dev nD) (hn : n = p) (j : Fin 3) (hs : c = pr (3 - j.val) p) (a b : Fin 40) (i i' : Fin 26) (ha : a = dmaNo i) (hb : b = dmaNo i') (ha' : ¬ a.val < 14) (hb' : ¬ b.val < 14)
    (q : PosShare TreeShare) (hpa : dmaPay w c a.val = qPts q c (redB w c)) (hpb : dmaPay w p b.val = aPts j p (landG w p))
    (off' : Fin 3 → ℕ) (h') (ho' : off' = ![j.val, 0, 0])
    (sS sem : DmaSem sig) (hS : sS = a) (hR : sem = b) (l : List (Pay nD τ sig))
    {hsc : (slotOf aM off' h').view.ref.isScScratch = false} {hsrc : qM.view.WordExact} {hdst : (slotOf aM off' h').view.WordExact}
    {hsem : DmaTarget.Typed (nD := nD) (τ := τ) .vmem (.dma sem) (.remote (n : Thread nD τ) (slotOf aM off' h') (.dma sS) hsc)}
    {kt : PUnit → Prog (TpuEff nD τ sig (Elt F) Λ₀ .tc) α} :
    iprop(invs w K ∗ qPts q c (redB w c) ∗ (∃ f, aPts j p f)
        ∗ owesE c (0 + tallyL ((dmaC b p, 5, NR) :: l))
        ∗ dutyTok ER (dmaC a c) 0 0 ∗ reached ER (dmaC a c) 0 ∗ dutyTok ER (dmaC b p) 0 0 ∗ reached ER (dmaC b p) 0)
      ⊢ iprop(((cred (tallyAt (dmaC a c) 0 NR) ∗ owesE c (0 + tallyL l)) -∗ wp frame (wpE (defs₀ (F := F)) 𝒱₀ c none) Set.univ (kt ⟨⟩) Q)
          -∗ wp frame (wpE (defs₀ (F := F)) 𝒱₀ c none) Set.univ
              (.op (.enqueueDma qM (.remote (n : Thread nD τ) (slotOf aM off' h') (.dma sS) hsc) (.dma sem) hsrc hdst hsem) kt) Q) := by
  subst ha hb
  iintro ⟨#HI, Hs, ⟨%fd, Hd⟩, HO, Ht, #Hr, Ht', #Hr'⟩ Hw
  ihave Hs := (Entails.of_eq (q_view c q (redB w c)).symm) $$ Hs
  ihave Hd := (Entails.of_eq (a_view p j off' h' ho' fd).symm) $$ Hd
  iapply (st_send w K c i i' p n hn (src := qM) (dst := slotOf aM off' h') sS sem hS hR (q := q) (fs := redB w c) (fd := fd)
    5 NR (credit_slot _ _ _) (amount_R w c _ ha' 0) (amount_R w p _ hb' 0) 0 l
    (Entails.of_eq ((q_view c q (redB w c)).trans hpa.symm))
    (Entails.of_eq ((a_land p j w off' h' ho' c hs fd).trans hpb.symm))) $$ [Hs Hd HO Ht Ht']
  · isplitr; · iexact HI
    isplitl [Hs]; · iexact Hs
    isplitl [Hd]; · iexact Hd
    isplitl [HO]; · iexact HO
    isplitl [Ht]; · iexact Ht
    isplitr; · iexact Hr
    isplitl [Ht']; · iexact Ht'
    iexact Hr'
  iexact Hw

/-- Wait for a copy, owing what `l` lists. -/
theorem st_wait2 (a : Fin 40) (i : Fin 26) (ha : a = dmaNo i) (ha' : ¬ a.val < 14) {sp sp' : Space} {s : Shape} {e : EltTy} {src : Memref sig .tc sp s e} {dst : Memref sig .tc sp' s e}
    (sem : DmaSem sig) (hS : sem = a) {hsrc : src.view.WordExact} {hdst : dst.view.WordExact}
    (ι : ℕ) (hι : ι < NL) (hN : dst.view.dmaCredit = NR) (P : sProp (MT nD τ sig ℕ (Elt F) ℕ UU ℕ)) (hP : dmaPay w c a.val = P)
    (l : List (Pay nD τ sig)) (hl : ∀ x ∈ l, x.1.1.2 = .tc ∧ ι < x.2.1 ∧ x.2.1 < NL)
    {kt : PUnit → Prog (TpuEff nD τ sig (Elt F) Λ₀ .tc) α} :
    iprop(invs w K ∗ levAts (L NL) lv ∗ cred (tallyAt (dmaC a c) ι NR) ∗ owesE c (0 + tallyL l) ∗ atPos ER (dmaC a c) 0 ∅ 0)
      ⊢ iprop(((owesE c (0 + tallyL l) ∗ semVal (dmaC a c) 0 ∗ P) -∗ wp frame (wpE (defs₀ (F := F)) 𝒱₀ c none) Set.univ (kt ⟨⟩) Q)
          -∗ wp frame (wpE (defs₀ (F := F)) 𝒱₀ c none) Set.univ (.op (.waitDma2 sem src dst hsrc hdst) kt) Q) := by
  subst ha hP
  iintro ⟨#HI, #HL, Hc, HO, Ha⟩ Hw
  iapply (st_wait w K c i (src := src) (dst := dst) sem hS ι NR hN (expect_R w c _ ha') (0 + tallyL l)) $$ [Hc HO Ha]
  · isplitr; · iexact HI
    isplitl [Hc]; · iexact Hc
    isplitl [HO]; · iexact HO
    isplitr; · iapply (mayWait_rest hι (le_refl NL) above_none c (.dma (dmaNo i)) l hl); iexact HL
    iexact Ha
  iexact Hw

/-- A store into a buffer held whole. -/
theorem st_store {cs : CoreSpace} {s : Shape} {e : EltTy} {m : Memref sig .tc cs s e} {r : Rect s} {v : r.shape.Idx → Elt F e} {hx : (m.access r).Stores Finset.univ}
    {hm : (Finset.univ : Finset r.shape.Idx) = Finset.univ ∨ ∀ a, r.stride a = 1}
    {kt : PUnit → Prog (TpuEff nD τ sig (Elt F) Λ₀ .tc) α} {f : Buf (Elt F) (m.view.loc (c : Thread nD τ))} :
    (m.view.loc (c : Thread nD τ) ↦{fullShare} f)
      ⊢ iprop(((m.view.loc (c : Thread nD τ) ↦{fullShare} ((m.access r).write (Elt F) f v Finset.univ)) -∗ wp frame (wpE (defs₀ (F := F)) 𝒱₀ c none) Set.univ (kt ⟨⟩) Q)
        -∗ wp frame (wpE (defs₀ (F := F)) 𝒱₀ c none) Set.univ (.op (.store m r v Finset.univ hx hm) kt) Q) :=
  wp_store 𝒱₀ (c : Thread nD τ) none Set.univ (m := m) (r := r) (Mk := Finset.univ) (f := f) (Finset.subset_univ _)

end Steps2

/-! ## What a device enters with and leaves with -/

/-- The duties it pays. -/
def toks2 (c : Dev nD) : sProp 𝕄 := iprop(dutyTok ER (barC 1 (pr 1 c)) 0 2 ∗ dutyTok ER (barC 1 (pr 2 c)) 0 1 ∗ dutyTok ER (barC 1 (pr 3 c)) 0 0 ∗ dutyTok ER (dmaC 28 c) 0 0 ∗ dutyTok ER (dmaC 29 c) 0 0 ∗ dutyTok ER (dmaC 30 c) 0 0 ∗ dutyTok ER (dmaC 34 c) 0 0 ∗ dutyTok ER (dmaC 35 c) 0 0 ∗ dutyTok ER (dmaC 36 c) 0 0
    ∗ dutyTok ER (dmaC 31 (pr 1 c)) 0 0 ∗ dutyTok ER (dmaC 32 (pr 2 c)) 0 0 ∗ dutyTok ER (dmaC 33 (pr 3 c)) 0 0 ∗ dutyTok ER (dmaC 37 (pr 1 c)) 0 0 ∗ dutyTok ER (dmaC 38 (pr 2 c)) 0 0 ∗ dutyTok ER (dmaC 39 (pr 3 c)) 0 0)
/-- Where it stands on its own cells; that they are open; that the barrier cells it signals are; the credits it waits with. -/
def pos2 (c : Dev nD) : sProp 𝕄 := iprop(atPos ER (dmaC 28 c) 0 ∅ 0 ∗ atPos ER (dmaC 29 c) 0 ∅ 0 ∗ atPos ER (dmaC 30 c) 0 ∅ 0 ∗ atPos ER (dmaC 31 c) 0 ∅ 0 ∗ atPos ER (dmaC 32 c) 0 ∅ 0 ∗ atPos ER (dmaC 33 c) 0 ∅ 0 ∗ atPos ER (dmaC 34 c) 0 ∅ 0 ∗ atPos ER (dmaC 35 c) 0 ∅ 0 ∗ atPos ER (dmaC 36 c) 0 ∅ 0 ∗ atPos ER (dmaC 37 c) 0 ∅ 0 ∗ atPos ER (dmaC 38 c) 0 ∅ 0 ∗ atPos ER (dmaC 39 c) 0 ∅ 0)
def open2 (c : Dev nD) : sProp 𝕄 := iprop(reached ER (dmaC 28 c) 0 ∗ reached ER (dmaC 29 c) 0 ∗ reached ER (dmaC 30 c) 0 ∗ reached ER (dmaC 31 c) 0 ∗ reached ER (dmaC 32 c) 0 ∗ reached ER (dmaC 33 c) 0 ∗ reached ER (dmaC 34 c) 0 ∗ reached ER (dmaC 35 c) 0 ∗ reached ER (dmaC 36 c) 0 ∗ reached ER (dmaC 37 c) 0 ∗ reached ER (dmaC 38 c) 0 ∗ reached ER (dmaC 39 c) 0)
def bars2 (c : Dev nD) : sProp 𝕄 := iprop(reached ER (barC 1 (pr 1 c)) 0 ∗ reached ER (barC 1 (pr 2 c)) 0 ∗ reached ER (barC 1 (pr 3 c)) 0)
def creds2 (c : Dev nD) : sProp 𝕄 := iprop(cred (tallyAt (barC 1 c) 3 3) ∗ cred (tallyAt (dmaC 31 c) 4 NR) ∗ cred (tallyAt (dmaC 32 c) 4 NR) ∗ cred (tallyAt (dmaC 33 c) 4 NR) ∗ cred (tallyAt (dmaC 37 c) 5 NR) ∗ cred (tallyAt (dmaC 38 c) 5 NR) ∗ cred (tallyAt (dmaC 39 c) 5 NR))
/-- Its own cells, closed. -/
def sems2 (c : Dev nD) : sProp 𝕄 := iprop(semVal (dmaC 28 c) 0 ∗ semVal (dmaC 29 c) 0 ∗ semVal (dmaC 30 c) 0 ∗ semVal (dmaC 31 c) 0 ∗ semVal (dmaC 32 c) 0 ∗ semVal (dmaC 33 c) 0 ∗ semVal (dmaC 34 c) 0 ∗ semVal (dmaC 35 c) 0 ∗ semVal (dmaC 36 c) 0 ∗ semVal (dmaC 37 c) 0 ∗ semVal (dmaC 38 c) 0 ∗ semVal (dmaC 39 c) 0)
instance open2_persistent (c : Dev nD) : BI.Persistent (open2 c : sProp 𝕄) := by unfold open2; infer_instance
instance bars2_persistent (c : Dev nD) : BI.Persistent (bars2 c : sProp 𝕄) := by unfold bars2; infer_instance
/-- The four scratch buffers, at contents not chosen. -/
def scr2 (c : Dev nD) : sProp 𝕄 := iprop((∃ f, (c : Thread nD τ).loc cc2_scratch0 ↦{fullShare} f) ∗ (∃ f, (c : Thread nD τ).loc cc2_scratch1 ↦{fullShare} f)
    ∗ (∃ f, (c : Thread nD τ).loc cc2_scratch2 ↦{fullShare} f) ∗ (∃ f, (c : Thread nD τ).loc cc2_scratch3 ↦{fullShare} f))

set_option maxHeartbeats 2000000 in
/-- One device's all-reduce. -/
theorem arRun (w : Start F) (K : GSem nD τ sig → ℕ) (c : Dev nD) (Q : PUnit → sProp (MT nD τ sig ℕ (Elt F) ℕ UU ℕ)) :
    iprop(invs w K ∗ levAts (L NL) lv ∗ owesE c (0 + tallyL (due2 c)) ∗ toks2 c ∗ pos2 c ∗ atPos ER (barC 1 c) 0 ∅ 0 ∗ open2 c ∗ bars2 c ∗ creds2 c
        ∗ ((c : Thread nD τ).loc cc2_stg0_0 ↦{fullShare} w.p c) ∗ (∃ f, (c : Thread nD τ).loc cc2_stg1_0 ↦{fullShare} f) ∗ scr2 c)
      ⊢ iprop(((owesE c 0 ∗ semVal (barC 1 c) 0 ∗ sems2 c
            ∗ ((c : Thread nD τ).loc cc2_stg0_0 ↦{fullShare} w.p c) ∗ ((c : Thread nD τ).loc cc2_stg1_0 ↦{fullShare} outO w c) ∗ scr2 c) -∗ Q ⟨⟩)
          -∗ wp frame (wpE (defs₀ (F := F)) 𝒱₀ c none) Set.univ
            (cc2__ar_body (F := F) pM (Memref.isWhole_whole _) oM (Memref.isWhole_whole _) sM (Memref.isWhole_whole _) qM (Memref.isWhole_whole _) rM (Memref.isWhole_whole _) aM (Memref.isWhole_whole _) cc2_scratch4 cc2_scratch5 cc2_scratch6 cc2_scratch7) Q) := by
  unfold toks2 pos2 open2 bars2 creds2 sems2 scr2
  simp only [cc2__ar_body_eq_skeleton]
  unfold cc2__ar_body_skel
  simp only [k2_part1_eq_skeleton, k2_part2_eq_skeleton, k2_part3_eq_skeleton, k2_part4_eq_skeleton, k2_part5_eq_skeleton, k2_part6_eq_skeleton, k2_part7_eq_skeleton]
  unfold k2_part1_skel k2_part2_skel k2_part3_skel k2_part4_skel k2_part5_skel k2_part6_skel k2_part7_skel
  simp only [semSignalWord, semWaitWord, Prog.lift, Prog.bind_op, Prog.bind_ret, Prog.pure_eq_ret, wp_deviceId]
  iintro ⟨#HI, #HL, HO, ⟨TB1, TB2, TB3, T28, T29, T30, T34, T35, T36, P31, P32, P33, P37, P38, P39⟩, ⟨A28, A29, A30, A31, A32, A33, A34, A35, A36, A37, A38, A39⟩, AB, ⟨#R28, #R29, #R30, #R31, #R32, #R33, #R34, #R35, #R36, #R37, #R38, #R39⟩, ⟨#RB1, #RB2, #RB3⟩, ⟨CB, C31, C32, C33, C37, C38, C39⟩, Hp, ⟨%fo, Ho⟩, ⟨%fs, Hs⟩, ⟨%fq, Hq⟩, ⟨%fr, Hr⟩, ⟨%fa, Ha⟩⟩ Hend
  ihave Hr := (Entails.of_eq (split_r c fr)) $$ Hr
  icases Hr with ⟨r0, r1, r2⟩
  ihave Ha := (Entails.of_eq (split_a c fa)) $$ Ha
  icases Ha with ⟨a0, a1, a2⟩
  unfold due2
  iapply (st_ready2 w K c (pr 1 c) _ (dev2_1 c) 2 (pr_pr31 c) 33 39 rfl rfl [(barC 1 (pr 2 c), 3, 1), (barC 1 (pr 3 c), 3, 1), (dmaC 31 (pr 1 c), 4, NR), (dmaC 32 (pr 2 c), 4, NR), (dmaC 33 (pr 3 c), 4, NR), (dmaC 37 (pr 1 c), 5, NR), (dmaC 38 (pr 2 c), 5, NR), (dmaC 39 (pr 3 c), 5, NR)] fr fa) $$ [HO TB1 r2 a2]
  · isplitr; · iexact HI
    isplitl [HO]; · iexact HO
    isplitl [TB1]; · iexact TB1
    isplitr; · iexact RB1
    isplitl [r2]; · iexact r2
    isplitl [a2]; · iexact a2
    isplitr; · iexact R33
    iexact R39
  iintro HO
  iapply (st_ready2 w K c (pr 2 c) _ (dev2_2 c) 1 (pr_pr22 c) 32 38 rfl rfl [(barC 1 (pr 3 c), 3, 1), (dmaC 31 (pr 1 c), 4, NR), (dmaC 32 (pr 2 c), 4, NR), (dmaC 33 (pr 3 c), 4, NR), (dmaC 37 (pr 1 c), 5, NR), (dmaC 38 (pr 2 c), 5, NR), (dmaC 39 (pr 3 c), 5, NR)] fr fa) $$ [HO TB2 r1 a1]
  · isplitr; · iexact HI
    isplitl [HO]; · iexact HO
    isplitl [TB2]; · iexact TB2
    isplitr; · iexact RB2
    isplitl [r1]; · iexact r1
    isplitl [a1]; · iexact a1
    isplitr; · iexact R32
    iexact R38
  iintro HO
  iapply (st_ready2 w K c (pr 3 c) _ (dev2_3 c) 0 (pr_pr13 c) 31 37 rfl rfl [(dmaC 31 (pr 1 c), 4, NR), (dmaC 32 (pr 2 c), 4, NR), (dmaC 33 (pr 3 c), 4, NR), (dmaC 37 (pr 1 c), 5, NR), (dmaC 38 (pr 2 c), 5, NR), (dmaC 39 (pr 3 c), 5, NR)] fr fa) $$ [HO TB3 r0 a0]
  · isplitr; · iexact HI
    isplitl [HO]; · iexact HO
    isplitl [TB3]; · iexact TB3
    isplitr; · iexact RB3
    isplitl [r0]; · iexact r0
    isplitl [a0]; · iexact a0
    isplitr; · iexact R31
    iexact R37
  iintro HO
  iapply (st_barwait w K c 1 3 (0 + tallyL [(dmaC 31 (pr 1 c), 4, NR), (dmaC 32 (pr 2 c), 4, NR), (dmaC 33 (pr 3 c), 4, NR), (dmaC 37 (pr 1 c), 5, NR), (dmaC 38 (pr 2 c), 5, NR), (dmaC 39 (pr 3 c), 5, NR)])) $$ [HO CB AB]
  · isplitr; · iexact HI
    isplitl [CB]; · iexact CB
    isplitl [HO]; · iexact HO
    isplitr
    · iapply (mayWait_rest (i := 3) (by decide) (le_refl NL) above_none c (.reg 1) [(dmaC 31 (pr 1 c), 4, NR), (dmaC 32 (pr 2 c), 4, NR), (dmaC 33 (pr 3 c), 4, NR), (dmaC 37 (pr 1 c), 5, NR), (dmaC 38 (pr 2 c), 5, NR), (dmaC 39 (pr 3 c), 5, NR)] (fun x hx => by
      simp only [List.mem_cons, List.not_mem_nil, or_false] at hx
      rcases hx with h | h | h | h | h | h <;> subst h <;> exact ⟨rfl, by dsimp only; omega, by dsimp only [NL]; omega⟩))
      iexact HL
    iexact AB
  iintro ⟨HO, SB, HP⟩
  ihave HP := (Entails.of_eq (rest_bar1 w c)) $$ HP
  unfold barPay1
  icases HP with ⟨⟨G31, G37, #Q31, #Q37⟩, ⟨G32, G38, #Q32, #Q38⟩, ⟨G33, G39, #Q33, #Q39⟩⟩
  iapply (wp_load 𝒱₀ (c : Thread nD τ) none Set.univ (m := pM) (Finset.subset_univ _)) $$ Hp; iintro Hp
  rw [load_p]
  iapply (wp_load 𝒱₀ (c : Thread nD τ) none Set.univ (m := sM) (Finset.subset_univ _)) $$ Hs; iintro Hs
  iapply (st_store c (m := sM)) $$ Hs; iintro Hs
  rw [store_s]
  ihave Hs := (show (sM.view.loc (c : Thread nD τ) ↦{fullShare} k2_pay1 (w.p c) : sProp 𝕄) ⊢ _ from Entails.of_eq (split_s c (sendB w c))) $$ Hs
  icases Hs with ⟨s0, s1, s2, s3⟩
  iapply (st_sendR w K c (pr 1 c) _ (dev2_4 c) 0 (pr_pr31 c).symm 28 31 14 17 rfl rfl (by decide) (by decide) rfl rfl _ _ (off2_1 c 0) _ _ rfl _ _ rfl rfl [(dmaC 32 (pr 2 c), 4, NR), (dmaC 33 (pr 3 c), 4, NR), (dmaC 37 (pr 1 c), 5, NR), (dmaC 38 (pr 2 c), 5, NR), (dmaC 39 (pr 3 c), 5, NR)]) $$ [s1 G31 HO T28 P31]
  · isplitr; · iexact HI
    isplitl [s1]; · iexact s1
    isplitl [G31]; · iexact G31
    isplitl [HO]; · iexact HO
    isplitl [T28]; · iexact T28
    isplitr; · iexact R28
    isplitl [P31]; · iexact P31
    iexact Q31
  iintro ⟨C28, HO⟩
  iapply (st_sendR w K c (pr 2 c) _ (dev2_5 c) 1 (pr_pr22 c).symm 29 32 15 18 rfl rfl (by decide) (by decide) rfl rfl _ _ (off2_1 c 1) _ _ rfl _ _ rfl rfl [(dmaC 33 (pr 3 c), 4, NR), (dmaC 37 (pr 1 c), 5, NR), (dmaC 38 (pr 2 c), 5, NR), (dmaC 39 (pr 3 c), 5, NR)]) $$ [s2 G32 HO T29 P32]
  · isplitr; · iexact HI
    isplitl [s2]; · iexact s2
    isplitl [G32]; · iexact G32
    isplitl [HO]; · iexact HO
    isplitl [T29]; · iexact T29
    isplitr; · iexact R29
    isplitl [P32]; · iexact P32
    iexact Q32
  iintro ⟨C29, HO⟩
  iapply (st_sendR w K c (pr 3 c) _ (dev2_6 c) 2 (pr_pr13 c).symm 30 33 16 19 rfl rfl (by decide) (by decide) rfl rfl _ _ (off2_1 c 2) _ _ rfl _ _ rfl rfl [(dmaC 37 (pr 1 c), 5, NR), (dmaC 38 (pr 2 c), 5, NR), (dmaC 39 (pr 3 c), 5, NR)]) $$ [s3 G33 HO T30 P33]
  · isplitr; · iexact HI
    isplitl [s3]; · iexact s3
    isplitl [G33]; · iexact G33
    isplitl [HO]; · iexact HO
    isplitl [T30]; · iexact T30
    isplitr; · iexact R30
    isplitl [P33]; · iexact P33
    iexact Q33
  iintro ⟨C30, HO⟩
  iapply (st_wait2 w K c 31 17 rfl (by decide) _ rfl 4 (by decide) (credit_slot _ _ _) (rPts 0 c (landR w c)) rfl [(dmaC 37 (pr 1 c), 5, NR), (dmaC 38 (pr 2 c), 5, NR), (dmaC 39 (pr 3 c), 5, NR)] (fun x hx => by
      simp only [List.mem_cons, List.not_mem_nil, or_false] at hx
      rcases hx with h | h | h <;> subst h <;> exact ⟨rfl, by dsimp only; omega, by dsimp only [NL]; omega⟩)) $$ [C31 HO A31]
  · isplitr; · iexact HI
    isplitr; · iexact HL
    isplitl [C31]; · iexact C31
    isplitl [HO]; · iexact HO
    iexact A31
  iintro ⟨HO, S31, E31⟩
  iapply (st_wait2 w K c 32 18 rfl (by decide) _ rfl 4 (by decide) (credit_slot _ _ _) (rPts 1 c (landR w c)) rfl [(dmaC 37 (pr 1 c), 5, NR), (dmaC 38 (pr 2 c), 5, NR), (dmaC 39 (pr 3 c), 5, NR)] (fun x hx => by
      simp only [List.mem_cons, List.not_mem_nil, or_false] at hx
      rcases hx with h | h | h <;> subst h <;> exact ⟨rfl, by dsimp only; omega, by dsimp only [NL]; omega⟩)) $$ [C32 HO A32]
  · isplitr; · iexact HI
    isplitr; · iexact HL
    isplitl [C32]; · iexact C32
    isplitl [HO]; · iexact HO
    iexact A32
  iintro ⟨HO, S32, E32⟩
  iapply (st_wait2 w K c 33 19 rfl (by decide) _ rfl 4 (by decide) (credit_slot _ _ _) (rPts 2 c (landR w c)) rfl [(dmaC 37 (pr 1 c), 5, NR), (dmaC 38 (pr 2 c), 5, NR), (dmaC 39 (pr 3 c), 5, NR)] (fun x hx => by
      simp only [List.mem_cons, List.not_mem_nil, or_false] at hx
      rcases hx with h | h | h <;> subst h <;> exact ⟨rfl, by dsimp only; omega, by dsimp only [NL]; omega⟩)) $$ [C33 HO A33]
  · isplitr; · iexact HI
    isplitr; · iexact HL
    isplitl [C33]; · iexact C33
    isplitl [HO]; · iexact HO
    iexact A33
  iintro ⟨HO, S33, E33⟩
  iapply (wp_load 𝒱₀ (c : Thread nD τ) none Set.univ (m := pM) (Finset.subset_univ _)) $$ Hp; iintro Hp
  rw [load_slab w c _ _ (off2_2 c)]
  iapply (wp_load 𝒱₀ (c : Thread nD τ) none Set.univ (m := rM) (loads_slotR 0 _ _ rfl)) $$ E31; iintro E31
  rw [load_slotR 0 _ _ rfl]
  iapply (wp_load 𝒱₀ (c : Thread nD τ) none Set.univ (m := rM) (loads_slotR 1 _ _ rfl)) $$ E32; iintro E32
  rw [load_slotR 1 _ _ rfl]
  iapply (wp_load 𝒱₀ (c : Thread nD τ) none Set.univ (m := rM) (loads_slotR 2 _ _ rfl)) $$ E33; iintro E33
  rw [load_slotR 2 _ _ rfl]
  iapply (wp_load 𝒱₀ (c : Thread nD τ) none Set.univ (m := oM) (Finset.subset_univ _)) $$ Ho; iintro Ho
  iapply (st_store c (m := oM)) $$ Ho; iintro Ho
  rw [store_slab c _ _ (off2_2 c)]
  iapply (wp_load 𝒱₀ (c : Thread nD τ) none Set.univ (m := qM) (Finset.subset_univ _)) $$ Hq; iintro Hq
  iapply (st_store c (m := qM)) $$ Hq; iintro Hq
  rw [store_q]
  ihave Hq := (show (qM.view.loc (c : Thread nD τ) ↦{fullShare} k2_pay4 (slabP w c) (slotV (landR w c) 0) (slotV (landR w c) 1) (slotV (landR w c) 2) : sProp 𝕄) ⊢ _ from (Idealize.ShloMosaic.Ring.pointsTo_thirds (ℓ := (c : Thread nD τ).loc cc2_scratch1) (I := Finset.univ) (q := fullShare) (f := redB w c)).1) $$ Hq
  icases Hq with ⟨q0, q1, q2⟩
  iapply (st_sendG w K c (pr 1 c) _ (dev2_7 c) 0 (pr_pr31 c).symm 34 37 20 23 rfl rfl (by decide) (by decide) _ rfl rfl _ _ rfl _ _ rfl rfl [(dmaC 38 (pr 2 c), 5, NR), (dmaC 39 (pr 3 c), 5, NR)]) $$ [q0 G37 HO T34 P37]
  · isplitr; · iexact HI
    isplitl [q0]; · iexact q0
    isplitl [G37]; · iexact G37
    isplitl [HO]; · iexact HO
    isplitl [T34]; · iexact T34
    isplitr; · iexact R34
    isplitl [P37]; · iexact P37
    iexact Q37
  iintro ⟨C34, HO⟩
  iapply (st_sendG w K c (pr 2 c) _ (dev2_8 c) 1 (pr_pr22 c).symm 35 38 21 24 rfl rfl (by decide) (by decide) _ rfl rfl _ _ rfl _ _ rfl rfl [(dmaC 39 (pr 3 c), 5, NR)]) $$ [q1 G38 HO T35 P38]
  · isplitr; · iexact HI
    isplitl [q1]; · iexact q1
    isplitl [G38]; · iexact G38
    isplitl [HO]; · iexact HO
    isplitl [T35]; · iexact T35
    isplitr; · iexact R35
    isplitl [P38]; · iexact P38
    iexact Q38
  iintro ⟨C35, HO⟩
  iapply (st_sendG w K c (pr 3 c) _ (dev2_9 c) 2 (pr_pr13 c).symm 36 39 22 25 rfl rfl (by decide) (by decide) _ rfl rfl _ _ rfl _ _ rfl rfl []) $$ [q2 G39 HO T36 P39]
  · isplitr; · iexact HI
    isplitl [q2]; · iexact q2
    isplitl [G39]; · iexact G39
    isplitl [HO]; · iexact HO
    isplitl [T36]; · iexact T36
    isplitr; · iexact R36
    isplitl [P39]; · iexact P39
    iexact Q39
  iintro ⟨C36, HO⟩
  iapply (st_wait2 w K c 37 23 rfl (by decide) _ rfl 5 (by decide) (credit_slot _ _ _) (aPts 0 c (landG w c)) rfl [] (fun x hx => by simp at hx)) $$ [C37 HO A37]
  · isplitr; · iexact HI
    isplitr; · iexact HL
    isplitl [C37]; · iexact C37
    isplitl [HO]; · iexact HO
    iexact A37
  iintro ⟨HO, S37, E37⟩
  iapply (wp_load 𝒱₀ (c : Thread nD τ) none Set.univ (m := aM) (loads_slotA 0 _ _ rfl)) $$ E37; iintro E37
  rw [load_slotA 0 _ _ rfl]
  iapply (wp_load 𝒱₀ (c : Thread nD τ) none Set.univ (m := oM) (Finset.subset_univ _)) $$ Ho; iintro Ho
  iapply (st_store c (m := oM)) $$ Ho; iintro Ho
  rw [store_slab (pr 3 c) _ _ (show k2_off3 c 1#32 = ![(pr 3 c).val, 0, 0] from off2_3 c 0)]
  iapply (st_wait2 w K c 38 24 rfl (by decide) _ rfl 5 (by decide) (credit_slot _ _ _) (aPts 1 c (landG w c)) rfl [] (fun x hx => by simp at hx)) $$ [C38 HO A38]
  · isplitr; · iexact HI
    isplitr; · iexact HL
    isplitl [C38]; · iexact C38
    isplitl [HO]; · iexact HO
    iexact A38
  iintro ⟨HO, S38, E38⟩
  iapply (wp_load 𝒱₀ (c : Thread nD τ) none Set.univ (m := aM) (loads_slotA 1 _ _ rfl)) $$ E38; iintro E38
  rw [load_slotA 1 _ _ rfl]
  iapply (wp_load 𝒱₀ (c : Thread nD τ) none Set.univ (m := oM) (Finset.subset_univ _)) $$ Ho; iintro Ho
  iapply (st_store c (m := oM)) $$ Ho; iintro Ho
  rw [store_slab (pr 2 c) _ _ (show k2_off3 c 2#32 = ![(pr 2 c).val, 0, 0] from off2_3 c 1)]
  iapply (st_wait2 w K c 39 25 rfl (by decide) _ rfl 5 (by decide) (credit_slot _ _ _) (aPts 2 c (landG w c)) rfl [] (fun x hx => by simp at hx)) $$ [C39 HO A39]
  · isplitr; · iexact HI
    isplitr; · iexact HL
    isplitl [C39]; · iexact C39
    isplitl [HO]; · iexact HO
    iexact A39
  iintro ⟨HO, S39, E39⟩
  iapply (wp_load 𝒱₀ (c : Thread nD τ) none Set.univ (m := aM) (loads_slotA 2 _ _ rfl)) $$ E39; iintro E39
  rw [load_slotA 2 _ _ rfl]
  iapply (wp_load 𝒱₀ (c : Thread nD τ) none Set.univ (m := oM) (Finset.subset_univ _)) $$ Ho; iintro Ho
  iapply (st_store c (m := oM)) $$ Ho; iintro Ho
  rw [store_slab (pr 1 c) _ _ (show k2_off3 c 3#32 = ![(pr 1 c).val, 0, 0] from off2_3 c 2)]
  iapply (st_wait2 w K c 28 14 rfl (by decide) _ rfl 0 (by decide) (credit_slab _ _ _) (sPts (pr 1 c) c (sendB w c)) rfl [] (fun x hx => by simp at hx)) $$ [C28 HO A28]
  · isplitr; · iexact HI
    isplitr; · iexact HL
    isplitl [C28]; · iexact C28
    isplitl [HO]; · iexact HO
    iexact A28
  iintro ⟨HO, S28, E28⟩
  iapply (st_wait2 w K c 29 15 rfl (by decide) _ rfl 0 (by decide) (credit_slab _ _ _) (sPts (pr 2 c) c (sendB w c)) rfl [] (fun x hx => by simp at hx)) $$ [C29 HO A29]
  · isplitr; · iexact HI
    isplitr; · iexact HL
    isplitl [C29]; · iexact C29
    isplitl [HO]; · iexact HO
    iexact A29
  iintro ⟨HO, S29, E29⟩
  iapply (st_wait2 w K c 30 16 rfl (by decide) _ rfl 0 (by decide) (credit_slab _ _ _) (sPts (pr 3 c) c (sendB w c)) rfl [] (fun x hx => by simp at hx)) $$ [C30 HO A30]
  · isplitr; · iexact HI
    isplitr; · iexact HL
    isplitl [C30]; · iexact C30
    isplitl [HO]; · iexact HO
    iexact A30
  iintro ⟨HO, S30, E30⟩
  iapply (st_wait2 w K c 34 20 rfl (by decide) _ rfl 0 (by decide) rfl (qPts (Idealize.ShloMosaic.Ring.shares3 fullShare 0) c (redB w c)) rfl [] (fun x hx => by simp at hx)) $$ [C34 HO A34]
  · isplitr; · iexact HI
    isplitr; · iexact HL
    isplitl [C34]; · iexact C34
    isplitl [HO]; · iexact HO
    iexact A34
  iintro ⟨HO, S34, E34⟩
  iapply (st_wait2 w K c 35 21 rfl (by decide) _ rfl 0 (by decide) rfl (qPts (Idealize.ShloMosaic.Ring.shares3 fullShare 1) c (redB w c)) rfl [] (fun x hx => by simp at hx)) $$ [C35 HO A35]
  · isplitr; · iexact HI
    isplitr; · iexact HL
    isplitl [C35]; · iexact C35
    isplitl [HO]; · iexact HO
    iexact A35
  iintro ⟨HO, S35, E35⟩
  iapply (st_wait2 w K c 36 22 rfl (by decide) _ rfl 0 (by decide) rfl (qPts (Idealize.ShloMosaic.Ring.shares3 fullShare 2) c (redB w c)) rfl [] (fun x hx => by simp at hx)) $$ [C36 HO A36]
  · isplitr; · iexact HI
    isplitr; · iexact HL
    isplitl [C36]; · iexact C36
    isplitl [HO]; · iexact HO
    iexact A36
  iintro ⟨HO, S36, E36⟩
  rw [wp_ret]; imodintro
  ihave HO := (Entails.of_eq (show owesE c (0 + tallyL []) = owesE c 0 from by rw [tallyL, add_zero])) $$ HO
  rw [outO_eq w c fo]
  iapply Hend
  isplitl [HO]; · iexact HO
  isplitl [SB]; · iexact SB
  isplitl [S28 S29 S30 S31 S32 S33 S34 S35 S36 S37 S38 S39]
  · isplitl [S28]; · iexact S28
    isplitl [S29]; · iexact S29
    isplitl [S30]; · iexact S30
    isplitl [S31]; · iexact S31
    isplitl [S32]; · iexact S32
    isplitl [S33]; · iexact S33
    isplitl [S34]; · iexact S34
    isplitl [S35]; · iexact S35
    isplitl [S36]; · iexact S36
    isplitl [S37]; · iexact S37
    isplitl [S38]; · iexact S38
    iexact S39
  isplitl [Hp]; · iexact Hp
  isplitl [Ho]; · iexact Ho
  isplitl [s0 E28 E29 E30]
  · iexists (sendB w c); iapply (Entails.of_eq (split_s c (sendB w c)).symm)
    isplitl [s0]; · iexact s0
    isplitl [E28]; · iexact E28
    isplitl [E29]; · iexact E29
    iexact E30
  isplitl [E34 E35 E36]
  · iexists (redB w c); iapply (Idealize.ShloMosaic.Ring.pointsTo_thirds (ℓ := (c : Thread nD τ).loc cc2_scratch1) (I := Finset.univ) (q := fullShare) (f := redB w c)).2
    isplitl [E34]; · iexact E34
    isplitl [E35]; · iexact E35
    iexact E36
  isplitl [E31 E32 E33]
  · iexists (landR w c); iapply (Entails.of_eq (split_r c (landR w c)).symm)
    isplitl [E31]; · iexact E31
    isplitl [E32]; · iexact E32
    iexact E33
  iexists (landG w c); iapply (Entails.of_eq (split_a c (landG w c)).symm)
  isplitl [E37]; · iexact E37
  isplitl [E38]; · iexact E38
  iexact E39

end Cert.Tp
-- ==== Proof.Attention.lean ====
/-
The attention call.  Its grid has 4 row groups and, for each, 8 heads; the result's block of a row group stays in
place over the heads, the first head storing its contribution and every later head adding to it.

This module runs the body at one point (`firstRun`, `laterRun`), says what the result's block holds after each point
(`acc1`), and proves the pipeline's obligation for the body, from any contents of the arrays at the region's entry.
-/
module

public import proofs.«01_k».proof.Proof.Steps
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp
public import Idealize.ShloMosaic.Lib.VecWindow

@[expose] public section

set_option backward.proofsInPublic true
set_option maxRecDepth 16384

noncomputable section

namespace Cert.Tp

open Idealize.ShloMosaic Idealize.ShloMosaic.TcCoe Idealize.ShloMosaic.Rounds Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig ℕ (Elt F) ℕ UU ℕ

/-! ## Which points are first -/

/-- The first conditional is taken at the first head of a row group. -/
theorem cond_first (t : Fin cfg1.N) : k1_cond1 (grid1.coords t) = 1#1 ↔ t.val % 8 = 0 := by
  have ht : t.val < 32 := Nat.lt_of_lt_of_eq t.isLt N_1
  have e1 : (grid1.coords t 1).val = t.val / 1 % 8 := Pipeline.Grid.coords_val t 1 (by decide) rfl
  simp only [k1_cond1, e1]
  word_cmp

/-- The second conditional is taken at every other head. -/
theorem cond_later (t : Fin cfg1.N) : k1_cond2 (grid1.coords t) = 1#1 ↔ 1 ≤ t.val % 8 := by
  have ht : t.val < 32 := Nat.lt_of_lt_of_eq t.isLt N_1
  have e1 : (grid1.coords t 1).val = t.val / 1 % 8 := Pipeline.Grid.coords_val t 1 (by decide) rfl
  simp only [k1_cond2, e1]
  word_cmp

/-! ## The body at one point -/

set_option maxHeartbeats 1000000 in
/-- At a row group's first head the body leaves the head's contribution in the result's block. -/
theorem firstRun (c : Dev nD) (i : grid1.Coords) (arg2 : Memref sig .tc .vmem S8x1x64x1024 .bf16) (harg2 : arg2.IsWhole) (arg3 : Memref sig .tc .vmem S1024x128 .bf16) (harg3 : arg3.IsWhole) (arg4 : Memref sig .tc .vmem S4x1x8x1x64x128 .bf16) (harg4 : arg4.IsWhole) (arg5 : Memref sig .tc .vmem S4x1x8x1x64x128 .bf16) (harg5 : arg5.IsWhole) (arg6 : Memref sig .tc .vmem S128x1024 .bf16) (harg6 : arg6.IsWhole) (arg7 : Memref sig .tc .vmem S8x1x64x1024 .f32) (harg7 : arg7.IsWhole)
    (hc0 : k1_cond1 i = 1#1) (hc1 : ¬k1_cond2 i = 1#1)
    (x0 : Vec F S8x1x64x1024 .bf16) (x1 : Vec F S1024x128 .bf16) (x2 : Vec F S4x1x8x1x64x128 .bf16) (x3 : Vec F S4x1x8x1x64x128 .bf16) (x4 : Vec F S128x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
          ∗ owns (c : Thread nD τ) arg7 fullShare (k1_pay2 x0 x1 x2 x3 x4)) -∗ K ⟨⟩))
      ⊢ wp frame (wpE (defs₀ (F := F)) 𝒱₀ c none) E (cc1__attn_body i arg2 harg2 arg3 harg3 arg4 harg4 arg5 harg5 arg6 harg6 arg7 harg7) K := by
  simp only [cc1__attn_body_eq_skeleton]; unfold cc1__attn_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H5
  ipureintro
  rw [View.read_writes_full]
  unfold firstRun.sl.r
  rw [show View.readAt (Elt F) arg2.view (Rect.unit ![0, 0, 0, 0] ![8, 1, 64, 1024] inb_S8x1x64x1024_S8x1x64x1024_0_0_0_0).toLoadRect _ = x0 from (View.readAt_full _ _ _).trans hf0,
    show View.readAt (Elt F) arg3.view (Rect.unit ![0, 0] ![1024, 128] inb_S1024x128_S1024x128_0_0).toLoadRect _ = x1 from (View.readAt_full _ _ _).trans hf1,
    show View.readAt (Elt F) arg4.view (Rect.unit ![0, 0, 0, 0, 0, 0] ![4, 1, 8, 1, 64, 128] inb_S4x1x8x1x64x128_S4x1x8x1x64x128_0_0_0_0_0_0).toLoadRect _ = x2 from (View.readAt_full _ _ _).trans hf2,
    show View.readAt (Elt F) arg5.view (Rect.unit ![0, 0, 0, 0, 0, 0] ![4, 1, 8, 1, 64, 128] inb_S4x1x8x1x64x128_S4x1x8x1x64x128_0_0_0_0_0_0).toLoadRect _ = x3 from (View.readAt_full _ _ _).trans hf3,
    show View.readAt (Elt F) arg6.view (Rect.unit ![0, 0] ![128, 1024] inb_S128x1024_S128x1024_0_0).toLoadRect _ = x4 from (View.readAt_full _ _ _).trans hf4]

set_option maxHeartbeats 1000000 in
/-- At a later head the body adds the head's contribution to what the result's block holds. -/
theorem laterRun (c : Dev nD) (i : grid1.Coords) (arg2 : Memref sig .tc .vmem S8x1x64x1024 .bf16) (harg2 : arg2.IsWhole) (arg3 : Memref sig .tc .vmem S1024x128 .bf16) (harg3 : arg3.IsWhole) (arg4 : Memref sig .tc .vmem S4x1x8x1x64x128 .bf16) (harg4 : arg4.IsWhole) (arg5 : Memref sig .tc .vmem S4x1x8x1x64x128 .bf16) (harg5 : arg5.IsWhole) (arg6 : Memref sig .tc .vmem S128x1024 .bf16) (harg6 : arg6.IsWhole) (arg7 : Memref sig .tc .vmem S8x1x64x1024 .f32) (harg7 : arg7.IsWhole)
    (hc0 : ¬k1_cond1 i = 1#1) (hc1 : k1_cond2 i = 1#1)
    (x0 : Vec F S8x1x64x1024 .bf16) (x1 : Vec F S1024x128 .bf16) (x2 : Vec F S4x1x8x1x64x128 .bf16) (x3 : Vec F S4x1x8x1x64x128 .bf16) (x4 : Vec F S128x1024 .bf16) (x5 : Vec F S8x1x64x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
          ∗ owns (c : Thread nD τ) arg7 fullShare (k1_pay1 (k1_pay2 x0 x1 x2 x3 x4) x5)) -∗ K ⟨⟩))
      ⊢ wp frame (wpE (defs₀ (F := F)) 𝒱₀ c none) E (cc1__attn_body i arg2 harg2 arg3 harg3 arg4 harg4 arg5 harg5 arg6 harg6 arg7 harg7) K := by
  simp only [cc1__attn_body_eq_skeleton]; unfold cc1__attn_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact H5
  ipureintro
  rw [View.read_writes_full]
  unfold laterRun.sl.r laterRun.sl.v35
  rw [show View.readAt (Elt F) arg2.view (Rect.unit ![0, 0, 0, 0] ![8, 1, 64, 1024] inb_S8x1x64x1024_S8x1x64x1024_0_0_0_0).toLoadRect _ = x0 from (View.readAt_full _ _ _).trans hf0,
    show View.readAt (Elt F) arg3.view (Rect.unit ![0, 0] ![1024, 128] inb_S1024x128_S1024x128_0_0).toLoadRect _ = x1 from (View.readAt_full _ _ _).trans hf1,
    show View.readAt (Elt F) arg4.view (Rect.unit ![0, 0, 0, 0, 0, 0] ![4, 1, 8, 1, 64, 128] inb_S4x1x8x1x64x128_S4x1x8x1x64x128_0_0_0_0_0_0).toLoadRect _ = x2 from (View.readAt_full _ _ _).trans hf2,
    show View.readAt (Elt F) arg5.view (Rect.unit ![0, 0, 0, 0, 0, 0] ![4, 1, 8, 1, 64, 128] inb_S4x1x8x1x64x128_S4x1x8x1x64x128_0_0_0_0_0_0).toLoadRect _ = x3 from (View.readAt_full _ _ _).trans hf3,
    show View.readAt (Elt F) arg6.view (Rect.unit ![0, 0] ![128, 1024] inb_S128x1024_S128x1024_0_0).toLoadRect _ = x4 from (View.readAt_full _ _ _).trans hf4,
    show View.readAt (Elt F) arg7.view (Rect.unit ![0, 0, 0, 0] ![8, 1, 64, 1024] inb_S8x1x64x1024_S8x1x64x1024_0_0_0_0).toLoadRect _ = x5 from (View.readAt_full _ _ _).trans hf5]

/-! ## What each block holds -/

/-- A window's block at a point, cut from the array's contents `V` at the region's entry. -/
def blk1 (V : Dev nD → Valuation τ sig (Elt F)) (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- One head's contribution to a row group's block of the result. -/
def head1 (V : Dev nD → Valuation τ sig (Elt F)) (c : Dev nD) (t : Fin cfg1.N) : FVec F S8x1x64x1024 .f32 :=
  k1_pay2 (blk1 V c 0 t) (blk1 V c 1 t) (blk1 V c 2 t) (blk1 V c 3 t) (blk1 V c 4 t)

/-- The result's block after each point: the contributions of the row group's heads so far. -/
def acc1 (V : Dev nD → Valuation τ sig (Elt F)) (c : Dev nD) : (n : ℕ) → n < cfg1.N → Vec F S8x1x64x1024 .f32
  | 0, h => head1 V c ⟨0, h⟩
  | n + 1, h => if (n + 1) % 8 = 0 then head1 V c ⟨n + 1, h⟩
      else k1_pay1 (head1 V c ⟨n + 1, h⟩) (acc1 V c n (Nat.lt_of_succ_lt h))

theorem acc1_first (V : Dev nD → Valuation τ sig (Elt F)) (c : Dev nD) (t : Fin cfg1.N) (h : t.val % 8 = 0) :
    acc1 V c t.val t.isLt = head1 V c t := by
  obtain ⟨n, hn⟩ := t
  cases n with
  | zero => rfl
  | succ n => exact if_pos h

theorem acc1_later (V : Dev nD → Valuation τ sig (Elt F)) (c : Dev nD) (t : Fin cfg1.N) (h : ¬t.val % 8 = 0) :
    acc1 V c t.val t.isLt = k1_pay1 (head1 V c t) (acc1 V c (t.val - 1) (Nat.lt_of_le_of_lt (Nat.sub_le _ _) t.isLt)) := by
  obtain ⟨n, hn⟩ := t
  cases n with
  | zero => exact absurd (Nat.zero_mod _) h
  | succ n => exact if_neg h

/-! ## The proof data and the obligation -/

/-- The pipeline's proof data: the inputs keep their blocks, the result's block is `acc1`; the device owes the
    all-reduce's tallies throughout. -/
def dat1 (V : Dev nD → Valuation τ sig (Elt F)) (c : Dev nD) : Dat τ (Elt F) ℕ ℕ UU ℕ cfg1 c where
  A w := V c (Proc.devRef .tc (Pipeline.arrRef spec1 w))
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => acc1 V c t.val t.isLt
  Φ _ := iprop(Pipeline.scopedRest spec1 c ∗ ∃ r, prngReg c r)
  q _ := fullShare
  owed _ := D2 c

variable (V : Dev nD → Valuation τ sig (Elt F))

theorem dat1_A (c : Dev nD) (w : Fin cfg1.W) : (dat1 V c).A w = V c (Proc.devRef .tc (Pipeline.arrRef spec1 w)) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = acc1 V c t.val t.isLt := by dsimp only [dat1]

theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [dat1_A]) t d).trans
    (by unfold Dat.fetched Dat.blockOf blk1; rw [dat1_A]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [dat1_A]) t d).trans
    (by unfold Dat.fetched Dat.blockOf blk1; rw [dat1_A]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [dat1_A]) t d).trans
    (by unfold Dat.fetched Dat.blockOf blk1; rw [dat1_A]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [dat1_A]) t d).trans
    (by unfold Dat.fetched Dat.blockOf blk1; rw [dat1_A]; try rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [dat1_A]) t d).trans
    (by unfold Dat.fetched Dat.blockOf blk1; rw [dat1_A]; try rfl)

/-- The body stores into the result's block at every point. -/
theorem live1_5 (t : Fin cfg1.N) : cfg1.idle 5 (grid1.coords t) = false := by
  show (!(k1_cond1 (grid1.coords t) == 1#1) && !(k1_cond2 (grid1.coords t) == 1#1)) = false
  by_cases h : t.val % 8 = 0
  · rw [(cond_first t).mpr h]; rfl
  · rw [(cond_later t).mpr (by omega)]; simp

/-- Whether a position finds the result's block newly taken up: at the start of each row group. -/
def freshAt (n : ℕ) : Bool := n % 8 == 0

theorem freshAt_step (t : Fin cfg1.N) :
    freshAt (t.val + 1) = ((cfg1.win 5).flush t || (cfg1.idle 5 (cfg1.grid.coords t) && freshAt t.val)) := by
  rw [show cfg1.idle 5 (cfg1.grid.coords t) = false from live1_5 t, Bool.false_and, Bool.or_false]
  unfold freshAt
  by_cases h : t.val % 8 = 7
  · rw [(flush1_5 t).mpr h]; simp; omega
  · rw [Bool.eq_false_iff.mpr (fun hf => h ((flush1_5 t).mp hf))]; simp; omega

/-- At a later head the result's block is not newly taken up. -/
theorem not_fresh (t : Fin cfg1.N) (h : ¬t.val % 8 = 0) : cfg1.fresh 5 t.val = false := by
  rw [Pipeline.Cfg.fresh_tab cfg1 5 freshAt rfl freshAt_step t.val (Nat.le_of_lt t.isLt)]
  unfold freshAt; simpa using h

/-- At a later head the result's block still holds what the head before left. -/
theorem before1_5 (c : Dev nD) (t : Fin cfg1.N) (h : ¬t.val % 8 = 0) (d) :
    (dat1 V c).before 5 t d = acc1 V c (t.val - 1) (Nat.lt_of_le_of_lt (Nat.sub_le _ _) t.isLt) := by
  rw [Dat.before_out_traj _ 5 rfl (fun _ _ => rfl) (fun t _ hi _ => absurd (hi.symm.trans (live1_5 t)) (by decide)) t.val t rfl d,
    if_neg (by rw [not_fresh t h]; exact Bool.false_ne_true)]
  dsimp only [dat1]

/-- The body at any point. -/
theorem body1 (c : Dev nD) (t : Fin cfg1.N) :
    iprop((dat1 V c).Φ t.castSucc ∗ (dat1 V c).owesAt 0 t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d)))
    ⊢ wp frame (wpE (defs₀ (F := F)) 𝒱₀ c none) Set.univ (bodyAt1 t) (fun _ =>
      iprop((dat1 V c).Φ t.succ ∗ (dat1 V c).owesAt 0 t.succ
        ∗ (dat1 V c).leavesExact 0 t ∗ (dat1 V c).leavesExact 1 t ∗ (dat1 V c).leavesExact 2 t
        ∗ (dat1 V c).leavesExact 3 t ∗ (dat1 V c).leavesExact 4 t ∗ (dat1 V c).leavesExact 5 t)) := by
  unfold bodyAt1
  simp only [before1_0, before1_1, before1_2, before1_3, before1_4]
  rw [show (dat1 V c).Φ t.succ = (dat1 V c).Φ t.castSucc from rfl,
    show (dat1 V c).owesAt 0 t.succ = (dat1 V c).owesAt 0 t.castSucc from rfl]
  rw [show (dat1 V c).leavesExact 0 t = owns (c : Thread nD τ) (st1_0 t) fullShare ((dat1 V c).after 0 t) from by
    unfold Dat.leavesExact; rw [show cfg1.idle 0 (cfg1.grid.coords t) = false from rfl], after1_0]
  rw [show (dat1 V c).leavesExact 1 t = owns (c : Thread nD τ) (st1_1 t) fullShare ((dat1 V c).after 1 t) from by
    unfold Dat.leavesExact; rw [show cfg1.idle 1 (cfg1.grid.coords t) = false from rfl], after1_1]
  rw [show (dat1 V c).leavesExact 2 t = owns (c : Thread nD τ) (st1_2 t) fullShare ((dat1 V c).after 2 t) from by
    unfold Dat.leavesExact; rw [show cfg1.idle 2 (cfg1.grid.coords t) = false from rfl], after1_2]
  rw [show (dat1 V c).leavesExact 3 t = owns (c : Thread nD τ) (st1_3 t) fullShare ((dat1 V c).after 3 t) from by
    unfold Dat.leavesExact; rw [show cfg1.idle 3 (cfg1.grid.coords t) = false from rfl], after1_3]
  rw [show (dat1 V c).leavesExact 4 t = owns (c : Thread nD τ) (st1_4 t) fullShare ((dat1 V c).after 4 t) from by
    unfold Dat.leavesExact; rw [show cfg1.idle 4 (cfg1.grid.coords t) = false from rfl], after1_4]
  rw [show (dat1 V c).leavesExact 5 t = owns (c : Thread nD τ) (st1_5 t) fullShare ((dat1 V c).after 5 t) from by
    unfold Dat.leavesExact; rw [show cfg1.idle 5 (cfg1.grid.coords t) = false from live1_5 t], after1_5]
  by_cases h : t.val % 8 = 0
  · rw [acc1_first V c t h]
    iintro ⟨HΦ, Ho, ⟨%d0, H0⟩, ⟨%d1, H1⟩, ⟨%d2, H2⟩, ⟨%d3, H3⟩, ⟨%d4, H4⟩, ⟨%d5, H5⟩⟩
    iapply (firstRun c (grid1.coords t) _ _ _ _ _ _ _ _ _ _ _ _ ((cond_first t).mpr h) (fun h' => absurd ((cond_later t).mp h') (by omega)) (blk1 V c 0 t) (blk1 V c 1 t) (blk1 V c 2 t) (blk1 V c 3 t) (blk1 V c 4 t) Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc1_later V c t h]
    simp only [before1_5 V c t h]
    iintro ⟨HΦ, Ho, ⟨%d0, H0⟩, ⟨%d1, H1⟩, ⟨%d2, H2⟩, ⟨%d3, H3⟩, ⟨%d4, H4⟩, ⟨%d5, H5⟩⟩
    iapply (laterRun c (grid1.coords t) _ _ _ _ _ _ _ _ _ _ _ _ (fun h' => h ((cond_first t).mp h')) ((cond_later t).mpr (by omega)) (blk1 V c 0 t) (blk1 V c 1 t) (blk1 V c 2 t) (blk1 V c 3 t) (blk1 V c 4 t) _ Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The pipeline's obligation for the attention body. -/
theorem obligation1 (c : Dev nD) : BodyObligation (dat1 V c) (defs₀ (F := F)) 𝒱₀ 0 Set.univ := fun t => by
  rw [bigSep_W1, bigSep_W1, show defs₀ (F := F) .tc cfg1.body (cfg1.bodyArgs t (cfg1.slots t)) = bodyAt1 t from by
    unfold defs₀; rw [Defs.onTc_tc]]
  exact triple_restated (body1 V c t) rfl .rfl fun _ => .rfl

end Cert.Tp

end
-- ==== Proof.Talk.lean ====
/-
  The two exchanges as regions of the program: what each is entered with, its proof data and its body obligation.
-/
module

public import proofs.«01_k».proof.Proof.Reduce
public import proofs.«01_k».proof.Proof.Attention
public import Idealize.ShloMosaic.Lib.Pipeline.TalkSched
public import Idealize.ShloMosaic.Lib.Pipeline.RegionTalk

@[expose] public section

set_option backward.proofsInPublic true
set_option maxRecDepth 16384

noncomputable section

namespace Cert.Tp

open Idealize.ShloMosaic Idealize.ShloMosaic.TcCoe Idealize.ShloMosaic.Rounds
open Idealize.ShloMosaic.SiteBlocks Idealize.ShloMosaic.TalkSites
open Idealize.SL Idealize.SL.RA Idealize.SL.BI
open scoped Idealize.SL.BI
open Idealize.SL.BI.BIBase Idealize.SL.Sem
open Idealize.ShloMosaic.Pipeline (Dat Cfg Window BodyObligation)
open Cert.KernelIdeal Cert.KernelIdeal.Gen

variable {F : FTy → Type} [FloatOps F] [Named F]

local notation "𝕄" => MT nD τ sig ℕ (Elt F) ℕ UU ℕ

/-! ## Opening a call's own cells -/

/-- The DMA semaphores of the all-to-all and of the all-reduce. -/
def osem0 : Fin 14 → SemLoc sig := fun n => .dma (⟨n.val, by omega⟩ : Fin 40)
def osem2 : Fin 12 → SemLoc sig := fun n => .dma (⟨n.val + 28, by omega⟩ : Fin 40)

def slot0 (n : Fin 14) : Fin 26 := ⟨n.val, by omega⟩
def slot2 (n : Fin 12) : Fin 26 := ⟨n.val + 14, by omega⟩

theorem osem0_cell (n : Fin 14) (c : Dev nD) : ((c : Thread nD τ), osem0 n) = dmaC (dmaNo (slot0 n)) c := by
  revert n; rw [Fin.forall_iff]; intro i hi
  have : dmaNo (slot0 ⟨i, hi⟩) = ⟨i, by omega⟩ := by unfold dmaNo slot0; exact dif_pos hi
  rw [this]; rfl
theorem osem2_cell (n : Fin 12) (c : Dev nD) : ((c : Thread nD τ), osem2 n) = dmaC (dmaNo (slot2 n)) c := by
  revert n; rw [Fin.forall_iff]; intro i hi
  have : dmaNo (slot2 ⟨i, hi⟩) = ⟨i + 28, by omega⟩ := by
    unfold dmaNo slot2; exact dif_neg (by show ¬ i + 14 < 14; omega)
  rw [this]; rfl

/-- The rights to open them. -/
def rights0 (c : Dev nD) : sProp 𝕄 := bigSep Finset.univ fun n : Fin 14 => openTok ER (dmaC (dmaNo (slot0 n)) c)
def rights2 (c : Dev nD) : sProp 𝕄 := bigSep Finset.univ fun n : Fin 12 => openTok ER (dmaC (dmaNo (slot2 n)) c)

theorem open_one (w : Start F) (K : GSem nD τ sig → ℕ) (i : Fin 26) (c : Dev nD) :
    iprop(invs w K ∗ (openTok ER (dmaC (dmaNo i) c) ∗ semVal (dmaC (dmaNo i) c) 0))
      ⊢ (|={Set.univ}=> (atPos ER (dmaC (dmaNo i) c) 0 ∅ 0 ∗ reached ER (dmaC (dmaNo i) c) 0) : sProp 𝕄) := by
  iintro ⟨#HI, Ho, Hs⟩
  iapply (Rounds.cell_open ER (sched w) (g := dmaC (dmaNo i) c) (Set.mem_univ (K (dmaC (dmaNo i) c))))
  isplitr; · iapply (inv_dma w K i c); iexact HI
  isplitl [Ho] <;> iassumption

theorem list14 {M : Type} [URA M] (Φ : Fin 14 → sProp M) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ
theorem list12 {M : Type} [URA M] (Φ : Fin 12 → sProp M) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

theorem open_all0 (w : Start F) (K : GSem nD τ sig → ℕ) (c : Dev nD) :
    iprop(invs w K ∗ rights0 c ∗ Pipeline.ownSems0 osem0 c) ⊢ (|={Set.univ}=> (pos0 c ∗ open0 c) : sProp 𝕄) := by
  have h1 : (Pipeline.ownSems0 osem0 c : sProp 𝕄) = bigSep Finset.univ fun n : Fin 14 => semVal (dmaC (dmaNo (slot0 n)) c) 0 :=
    bigSep_congr fun n _ => by rw [osem0_cell]
  have h2 : (iprop(pos0 c ∗ open0 c) : sProp 𝕄)
      = bigSep Finset.univ fun n : Fin 14 => iprop(atPos ER (dmaC (dmaNo (slot0 n)) c) 0 ∅ 0 ∗ reached ER (dmaC (dmaNo (slot0 n)) c) 0) := by
    rw [BI.bigSep_sep', list14, list14]; rfl
  rw [h1, h2]
  unfold rights0
  iintro ⟨#HI, Ho, Hs⟩
  iapply (bigSep_fupd Finset.univ fun n : Fin 14 => (iprop(atPos ER (dmaC (dmaNo (slot0 n)) c) 0 ∅ 0 ∗ reached ER (dmaC (dmaNo (slot0 n)) c) 0) : sProp 𝕄))
  iapply (bigSep_with_persistent (R := invs w K) (Φ := fun n : Fin 14 => iprop(openTok ER (dmaC (dmaNo (slot0 n)) c) ∗ semVal (dmaC (dmaNo (slot0 n)) c) 0)) fun n _ => open_one w K (slot0 n) c)
  isplitr; · iexact HI
  iapply (Entails.of_eq (BI.bigSep_sep' _ _ _).symm)
  isplitl [Ho] <;> iassumption

theorem open_all2 (w : Start F) (K : GSem nD τ sig → ℕ) (c : Dev nD) :
    iprop(invs w K ∗ rights2 c ∗ Pipeline.ownSems0 osem2 c) ⊢ (|={Set.univ}=> (pos2 c ∗ open2 c) : sProp 𝕄) := by
  have h1 : (Pipeline.ownSems0 osem2 c : sProp 𝕄) = bigSep Finset.univ fun n : Fin 12 => semVal (dmaC (dmaNo (slot2 n)) c) 0 :=
    bigSep_congr fun n _ => by rw [osem2_cell]
  have h2 : (iprop(pos2 c ∗ open2 c) : sProp 𝕄)
      = bigSep Finset.univ fun n : Fin 12 => iprop(atPos ER (dmaC (dmaNo (slot2 n)) c) 0 ∅ 0 ∗ reached ER (dmaC (dmaNo (slot2 n)) c) 0) := by
    rw [BI.bigSep_sep', list12, list12]; rfl
  rw [h1, h2]
  unfold rights2
  iintro ⟨#HI, Ho, Hs⟩
  iapply (bigSep_fupd Finset.univ fun n : Fin 12 => (iprop(atPos ER (dmaC (dmaNo (slot2 n)) c) 0 ∅ 0 ∗ reached ER (dmaC (dmaNo (slot2 n)) c) 0) : sProp 𝕄))
  iapply (bigSep_with_persistent (R := invs w K) (Φ := fun n : Fin 12 => iprop(openTok ER (dmaC (dmaNo (slot2 n)) c) ∗ semVal (dmaC (dmaNo (slot2 n)) c) 0)) fun n _ => open_one w K (slot2 n) c)
  isplitr; · iexact HI
  iapply (Entails.of_eq (BI.bigSep_sep' _ _ _).symm)
  isplitl [Ho] <;> iassumption

theorem sems0_eq (c : Dev nD) : (Pipeline.ownSems0 osem0 c : sProp 𝕄) = sems0 c := by
  unfold Pipeline.ownSems0
  rw [list14]; rfl
theorem sems2_eq (c : Dev nD) : (Pipeline.ownSems0 osem2 c : sProp 𝕄) = sems2 c := by
  unfold Pipeline.ownSems0
  rw [list12]; rfl

/-! ## What a device keeps for a call, and brings into it -/

def keep0 (w : Start F) (c : Dev nD) : sProp 𝕄 :=
  iprop((∃ K, invs w K) ∗ toks0 c ∗ rights0 c ∗ atPos ER (barC 0 c) 0 ∅ 0 ∗ bars0 c ∗ creds0 c)
def keep2 (w : Start F) (c : Dev nD) : sProp 𝕄 :=
  iprop((∃ K, invs w K) ∗ toks2 c ∗ rights2 c ∗ atPos ER (barC 1 c) 0 ∅ 0 ∗ bars2 c ∗ creds2 c)
def bring0 (w : Start F) (c : Dev nD) : sProp 𝕄 :=
  iprop((∃ K, invs w K) ∗ levAts (L NL) lv ∗ toks0 c ∗ pos0 c ∗ atPos ER (barC 0 c) 0 ∅ 0 ∗ open0 c ∗ bars0 c ∗ creds0 c)
def bring2 (w : Start F) (c : Dev nD) : sProp 𝕄 :=
  iprop((∃ K, invs w K) ∗ levAts (L NL) lv ∗ toks2 c ∗ pos2 c ∗ atPos ER (barC 1 c) 0 ∅ 0 ∗ open2 c ∗ bars2 c ∗ creds2 c)

theorem enter0 (w : Start F) (c : Dev nD) : iprop(keep0 w c ∗ Pipeline.ownSems0 osem0 c ∗ levAts (L NL) lv) ⊢ (|={Set.univ}=> bring0 w c : sProp 𝕄) := by
  unfold keep0 bring0
  iintro ⟨⟨⟨%K, #HI⟩, Ht, Hr, Hb, Hbs, Hc⟩, Hs, #HL⟩
  imod (open_all0 w K c) $$ [Hr Hs] with ⟨Hp, Ho⟩
  · isplitr; · iexact HI
    isplitl [Hr] <;> iassumption
  imodintro
  isplitr; · iexists K; iexact HI
  isplitr; · iexact HL
  isplitl [Ht]; · iexact Ht
  isplitl [Hp]; · iexact Hp
  isplitl [Hb]; · iexact Hb
  isplitl [Ho]; · iexact Ho
  isplitl [Hbs] <;> iassumption
theorem enter2 (w : Start F) (c : Dev nD) : iprop(keep2 w c ∗ Pipeline.ownSems0 osem2 c ∗ levAts (L NL) lv) ⊢ (|={Set.univ}=> bring2 w c : sProp 𝕄) := by
  unfold keep2 bring2
  iintro ⟨⟨⟨%K, #HI⟩, Ht, Hr, Hb, Hbs, Hc⟩, Hs, #HL⟩
  imod (open_all2 w K c) $$ [Hr Hs] with ⟨Hp, Ho⟩
  · isplitr; · iexact HI
    isplitl [Hr] <;> iassumption
  imodintro
  isplitr; · iexists K; iexact HI
  isplitr; · iexact HL
  isplitl [Ht]; · iexact Ht
  isplitl [Hp]; · iexact Hp
  isplitl [Hb]; · iexact Hb
  isplitl [Ho]; · iexact Ho
  isplitl [Hbs] <;> iassumption

/-! ## The all-to-all's region -/

/-- The four buffers it reads and writes, before and after. -/
def bufsIn0 (w : Start F) (c : Dev nD) : sProp 𝕄 :=
  iprop(((c : Thread nD τ).loc main_v3 ↦{fullShare} w.k c) ∗ ((c : Thread nD τ).loc main_v6 ↦{fullShare} w.v c)
        ∗ (∃ f, (c : Thread nD τ).loc main_v7_0 ↦{fullShare} f) ∗ (∃ f, (c : Thread nD τ).loc main_v7_1 ↦{fullShare} f))
def bufsOut0 (w : Start F) (c : Dev nD) : sProp 𝕄 :=
  iprop(((c : Thread nD τ).loc main_v3 ↦{fullShare} w.k c) ∗ ((c : Thread nD τ).loc main_v6 ↦{fullShare} w.v c)
        ∗ ((c : Thread nD τ).loc main_v7_0 ↦{fullShare} gathK w c) ∗ ((c : Thread nD τ).loc main_v7_1 ↦{fullShare} gathV w c))

def dat0 (w : Start F) (c : Dev nD) : Dat τ (Elt F) ℕ ℕ UU ℕ cfg0 c where
  A w := w.elim0
  after w := w.elim0
  Φ t := if t.val = 0 then iprop((Pipeline.scopedRest cfg0.spec c ∗ ∃ r, prngReg c r) ∗ bufsIn0 w c ∗ bring0 w c)
    else iprop((Pipeline.scopedRest cfg0.spec c ∗ ∃ r, prngReg c r) ∗ bufsOut0 w c ∗ sems0 c ∗ semVal (barC 0 c) 0)
  q w := w.elim0
  owed t := if t.val = 0 then D2 c + tallyL (due0 c) else D2 c

theorem bigSep_none {M : Type} [URA M] (Φ : Fin 0 → sProp M) : bigSep Finset.univ Φ = (BI.emp : sProp M) :=
  bigSep_univ_eq_bigSepL [] (by decide) (by decide) Φ

theorem owed0_first (w : Start F) (c : Dev nD) : (dat0 w c).owed t0_0.castSucc = D2 c + tallyL (due0 c) := rfl
theorem owed0_last (w : Start F) (c : Dev nD) : (dat0 w c).owed t0_0.succ = D2 c := rfl

theorem obligation0 (w : Start F) (c : Dev nD) : BodyObligation (dat0 w c) (defs₀ (F := F)) 𝒱₀ 0 Set.univ := fun t => by
  obtain rfl := fin_N0 t
  rw [bigSep_none, bigSep_none]
  rw [show (dat0 w c).Φ t0_0.castSucc = iprop((Pipeline.scopedRest cfg0.spec c ∗ ∃ r, prngReg c r) ∗ bufsIn0 w c ∗ bring0 w c) from rfl,
    show (dat0 w c).Φ t0_0.succ = iprop((Pipeline.scopedRest cfg0.spec c ∗ ∃ r, prngReg c r) ∗ bufsOut0 w c ∗ sems0 c ∗ semVal (barC 0 c) 0) from rfl]
  unfold bufsIn0 bufsOut0 bring0
  iintro ⟨⟨HR, ⟨Hk, Hv, Hgk, Hgv⟩, ⟨%K, HI⟩, HL, Ht, Hp, Hb, Ho, Hbs, Hc⟩, HO, -⟩
  ihave HO' := (TalkSites.owesAt_elim (dat0 w c) 0 _ (D2 c + tallyL (due0 c)) (owed0_first w c)) $$ HO
  iapply (a2aRun w K c _) $$ [HI HL HO' Ht Hp Hb Ho Hbs Hc Hk Hv Hgk Hgv]
  · isplitl [HI]; · iexact HI
    isplitl [HL]; · iexact HL
    isplitl [HO']; · unfold owesE; iexact HO'
    isplitl [Ht]; · iexact Ht
    isplitl [Hp]; · iexact Hp
    isplitl [Hb]; · iexact Hb
    isplitl [Ho]; · iexact Ho
    isplitl [Hbs]; · iexact Hbs
    isplitl [Hc]; · iexact Hc
    isplitl [Hk]; · iexact Hk
    isplitl [Hv]; · iexact Hv
    isplitl [Hgk] <;> iassumption
  unfold owesE
  iintro ⟨⟨%W', HO⟩, Hb0, Hs, Hk, Hv, Hgk, Hgv⟩
  isplitr [HO]
  · isplitl [HR]; · iexact HR
    isplitl [Hk Hv Hgk Hgv]
    · isplitl [Hk]; · iexact Hk
      isplitl [Hv]; · iexact Hv
      isplitl [Hgk] <;> iassumption
    isplitl [Hs] <;> iassumption
  isplitl [HO]; · iapply (TalkSites.owesAt_intro (dat0 w c) 0 t0_0.succ (D2 c) (owed0_last w c) rfl W'); iexact HO
  iempintro

/-! ## The all-reduce's region -/

/-- The scoped buffers that are neither staged nor the call's scratch. -/
def others2 (c : Dev nD) : sProp 𝕄 := iprop((∃ f : Buf (Elt F) ((c : Thread nD τ).loc cc1_stg0_0), ((c : Thread nD τ).loc cc1_stg0_0) ↦{fullShare} f)
  ∗ (∃ f : Buf (Elt F) ((c : Thread nD τ).loc cc1_stg0_1), ((c : Thread nD τ).loc cc1_stg0_1) ↦{fullShare} f)
  ∗ (∃ f : Buf (Elt F) ((c : Thread nD τ).loc cc1_stg1_0), ((c : Thread nD τ).loc cc1_stg1_0) ↦{fullShare} f)
  ∗ (∃ f : Buf (Elt F) ((c : Thread nD τ).loc cc1_stg1_1), ((c : Thread nD τ).loc cc1_stg1_1) ↦{fullShare} f)
  ∗ (∃ f : Buf (Elt F) ((c : Thread nD τ).loc cc1_stg2_0), ((c : Thread nD τ).loc cc1_stg2_0) ↦{fullShare} f)
  ∗ (∃ f : Buf (Elt F) ((c : Thread nD τ).loc cc1_stg2_1), ((c : Thread nD τ).loc cc1_stg2_1) ↦{fullShare} f)
  ∗ (∃ f : Buf (Elt F) ((c : Thread nD τ).loc cc1_stg3_0), ((c : Thread nD τ).loc cc1_stg3_0) ↦{fullShare} f)
  ∗ (∃ f : Buf (Elt F) ((c : Thread nD τ).loc cc1_stg3_1), ((c : Thread nD τ).loc cc1_stg3_1) ↦{fullShare} f)
  ∗ (∃ f : Buf (Elt F) ((c : Thread nD τ).loc cc1_stg4_0), ((c : Thread nD τ).loc cc1_stg4_0) ↦{fullShare} f)
  ∗ (∃ f : Buf (Elt F) ((c : Thread nD τ).loc cc1_stg4_1), ((c : Thread nD τ).loc cc1_stg4_1) ↦{fullShare} f)
  ∗ (∃ f : Buf (Elt F) ((c : Thread nD τ).loc cc1_stg5_0), ((c : Thread nD τ).loc cc1_stg5_0) ↦{fullShare} f)
  ∗ (∃ f : Buf (Elt F) ((c : Thread nD τ).loc cc1_stg5_1), ((c : Thread nD τ).loc cc1_stg5_1) ↦{fullShare} f))

theorem rest2_split (c : Dev nD) : (Pipeline.scopedRest spec2 c : sProp 𝕄) ⊢ iprop(others2 c ∗ scr2 c) := by
  rw [scopedRest2_eq]
  unfold others2 scr2
  iintro ⟨H0, H1, H2, H3, H4, H5, H6, H7, H8, H9, Ha, Hb, Hs⟩
  isplitr [Hs]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [Ha] <;> iassumption
  iexact Hs
theorem rest2_join (c : Dev nD) : iprop(others2 c ∗ scr2 c) ⊢ (Pipeline.scopedRest spec2 c : sProp 𝕄) := by
  rw [scopedRest2_eq]
  unfold others2 scr2
  iintro ⟨⟨H0, H1, H2, H3, H4, H5, H6, H7, H8, H9, Ha, Hb⟩, Hs⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Ha]; · iexact Ha
  isplitl [Hb]; · iexact Hb
  iexact Hs

def dat2 (w : Start F) (V : Dev nD → Valuation τ sig (Elt F)) (c : Dev nD) : Dat τ (Elt F) ℕ ℕ UU ℕ cfg2 c where
  A k := V c (Proc.devRef .tc (Pipeline.arrRef spec2 k))
  after k t := match k with
    | ⟨0, _⟩ => w.p c
    | ⟨1, _⟩ => outO w c
  Φ t := if t.val = 0 then iprop((Pipeline.scopedRest spec2 c ∗ ∃ r, prngReg c r) ∗ bring2 w c)
    else iprop((Pipeline.scopedRest spec2 c ∗ ∃ r, prngReg c r) ∗ sems2 c ∗ semVal (barC 1 c) 0)
  q _ := fullShare
  owed t := if t.val = 0 then 0 + tallyL (due2 c) else 0

section
variable (w : Start F) (V : Dev nD → Valuation τ sig (Elt F)) (c : Dev nD)

theorem owed2_first : (dat2 w V c).owed t2_0.castSucc = 0 + tallyL (due2 c) := rfl
theorem owed2_last : (dat2 w V c).owed t2_0.succ = 0 := rfl

/-- A window that is the whole array reads the array. -/
theorem whole2_0 (t : Fin cfg2.N) (f : Buf (Elt F) ((c : Thread nD τ).loc main_v16)) : ((cfg2.win 0).blk t).view.read (Elt F) f = f := by
  funext i
  show f _ = f i
  refine congrArg f (funext fun k => Fin.ext ?_)
  exact Window.rect_emb_val_of_index_zero (cfg2.win 0) t k rfl i
theorem whole2_1 (t : Fin cfg2.N) (f : Buf (Elt F) ((c : Thread nD τ).loc main_v17)) : ((cfg2.win 1).blk t).view.read (Elt F) f = f := by
  funext i
  show f _ = f i
  refine congrArg f (funext fun k => Fin.ext ?_)
  exact Window.rect_emb_val_of_index_zero (cfg2.win 1) t k rfl i

theorem before2_0 (hp : w.p c = V c main_v16) (t : Fin cfg2.N) (d) : (dat2 w V c).before 0 t d = w.p c := by
  refine ((dat2 w V c).before_fetched 0 t (fetch2_0 t) d).trans ?_
  unfold Dat.fetched Dat.blockOf
  rw [hp]
  exact whole2_0 c t (V c main_v16)

theorem obligation2 (hp : ∀ c, w.p c = V c main_v16) : BodyObligation (dat2 w V c) (defs₀ (F := F)) 𝒱₀ 0 Set.univ := fun t => by
  obtain rfl := fin_N2 t
  rw [bigSep_W2, bigSep_W2]
  rw [show (dat2 w V c).Φ t2_0.castSucc = iprop((Pipeline.scopedRest spec2 c ∗ ∃ r, prngReg c r) ∗ bring2 w c) from rfl,
    show (dat2 w V c).Φ t2_0.succ = iprop((Pipeline.scopedRest spec2 c ∗ ∃ r, prngReg c r) ∗ sems2 c ∗ semVal (barC 1 c) 0) from rfl]
  simp only [before2_0 w V c (hp c)]
  have e0 : ∀ f, (owns (c : Thread nD τ) (Memref.whole cc2_stg0_0) fullShare f : sProp 𝕄) = ((c : Thread nD τ).loc cc2_stg0_0 ↦{fullShare} f) := fun f => owns_whole (c : Thread nD τ) cc2_stg0_0 fullShare f
  have e1 : ∀ f, (owns (c : Thread nD τ) (Memref.whole cc2_stg1_0) fullShare f : sProp 𝕄) = ((c : Thread nD τ).loc cc2_stg1_0 ↦{fullShare} f) := fun f => owns_whole (c : Thread nD τ) cc2_stg1_0 fullShare f
  unfold bring2
  iintro ⟨⟨⟨HR, Hg⟩, ⟨%K, HI⟩, HL, Ht, Hp, Hb, Ho, Hbs, Hc⟩, HO, ⟨%d0, H0⟩, ⟨%d1, H1⟩⟩
  ihave HO' := (TalkSites.owesAt_elim (dat2 w V c) 0 _ (0 + tallyL (due2 c)) (owed2_first w V c)) $$ HO
  ihave HR' := (rest2_split c) $$ HR
  icases HR' with ⟨HR, Hsc⟩
  iapply (arRun w K c _) $$ [HI HL HO' Ht Hp Hb Ho Hbs Hc H0 H1 Hsc]
  · isplitl [HI]; · iexact HI
    isplitl [HL]; · iexact HL
    isplitl [HO']; · unfold owesE; iexact HO'
    isplitl [Ht]; · iexact Ht
    isplitl [Hp]; · iexact Hp
    isplitl [Hb]; · iexact Hb
    isplitl [Ho]; · iexact Ho
    isplitl [Hbs]; · iexact Hbs
    isplitl [Hc]; · iexact Hc
    isplitl [H0]; · iapply (Entails.of_eq (e0 (w.p c))); iexact H0
    isplitl [H1]; · iexists _; iapply (Entails.of_eq (e1 _)); iexact H1
    iexact Hsc
  unfold owesE
  iintro ⟨⟨%W', HO⟩, Hb0, Hs, H0, H1, Hsc⟩
  isplitr [HO H0 H1]
  · isplitl [HR Hg Hsc]
    · isplitr [Hg]
      · iapply (rest2_join c); isplitl [HR] <;> iassumption
      iexact Hg
    isplitl [Hs] <;> iassumption
  isplitl [HO]; · iapply (TalkSites.owesAt_intro (dat2 w V c) 0 t2_0.succ 0 (owed2_last w V c) rfl W'); iexact HO
  isplitl [H0]
  · iapply (show _ ⊢ (dat2 w V c).leavesExact 0 t2_0 from Entails.of_eq (e0 (w.p c)).symm); iexact H0
  · iapply (show _ ⊢ (dat2 w V c).leavesExact 1 t2_0 from Entails.of_eq (e1 (outO w c)).symm); iexact H1

end

end Cert.Tp

end
-- ==== Proof.Regs.lean ====
/-
  What the program's arrays hold between its items, and its three regions as links of the chain from the launch to the
  end: each is entered with the arrays at one valuation and left with them at the next.
-/
module

public import proofs.«01_k».proof.Proof.Talk
public import proofs.«01_k».proof.Proof.Gen.KernelIdeal.Regions

@[expose] public section

set_option backward.proofsInPublic true
set_option maxRecDepth 16384

noncomputable section

namespace Cert.Tp

open Idealize.ShloMosaic Idealize.ShloMosaic.TcCoe Idealize.ShloMosaic.Rounds
open Idealize.ShloMosaic.SiteBlocks Idealize.ShloMosaic.TalkSites
open Idealize.SL Idealize.SL.RA Idealize.SL.BI
open scoped Idealize.SL.BI
open Idealize.SL.BI.BIBase Idealize.SL.Sem
open Idealize.ShloMosaic.Pipeline (Dat Cfg Window BodyObligation)
open Cert.KernelIdeal Cert.KernelIdeal.Gen

variable {F : FTy → Type} [FloatOps F] [Named F]

local notation "𝕄" => MT nD τ sig ℕ (Elt F) ℕ UU ℕ

variable (m : (ℓ : Loc nD τ sig) → Buf (Elt F) ℓ)

/-! ## What the regions leave -/

/-- The all-to-all's inputs as the launch's memory gives them (its third field is not read before the all-reduce). -/
def ini : Start F := ⟨fun c => V1 m c main_v3, fun c => V1 m c main_v6, fun c => V1 m c main_v16⟩

/-- After the all-to-all. -/
def afterA (c : Dev nD) : Valuation τ sig (Elt F) :=
  Function.update (Function.update (V1 m c) main_v7_0 (gathK (ini m) c)) main_v7_1 (gathV (ini m) c)
def outsA : Outs (F := F) := fun _ r c => afterA m c r

/-- After the attention. -/
def afterB (c : Dev nD) : Valuation τ sig (Elt F) :=
  Function.update (V3 m (outsA m) c) main_v15 ((dat1 (V3 m (outsA m)) c).arrAt 5 cfg1.N)
def outsB : Outs (F := F)
  | 2, r, c => afterA m c r
  | _, r, c => afterB m c r

/-- The exchanges' inputs: keys, values, and the partial sums the all-reduce adds up. -/
def start : Start F := ⟨fun c => V1 m c main_v3, fun c => V1 m c main_v6, fun c => V5 m (outsB m) c main_v16⟩

/-- After the all-reduce. -/
def afterC (c : Dev nD) : Valuation τ sig (Elt F) :=
  Function.update (V5 m (outsB m) c) main_v17 (outO (start m) c)
def outs : Outs (F := F)
  | 2, r, c => afterA m c r
  | 4, r, c => afterB m c r
  | _, r, c => afterC m c r

theorem outs_v3 (c : Dev nD) : outs m 2 main_v3 c = (start m).k c := by
  show afterA m c main_v3 = _
  unfold afterA
  rw [Function.update_of_ne (by decide), Function.update_of_ne (by decide)]; rfl
theorem outs_v6 (c : Dev nD) : outs m 2 main_v6 c = (start m).v c := by
  show afterA m c main_v6 = _
  unfold afterA
  rw [Function.update_of_ne (by decide), Function.update_of_ne (by decide)]; rfl
theorem outs_v7_0 (c : Dev nD) : outs m 2 main_v7_0 c = gathK (start m) c := by
  show afterA m c main_v7_0 = _
  unfold afterA
  rw [Function.update_of_ne (by decide), Function.update_self]; rfl
theorem outs_v7_1 (c : Dev nD) : outs m 2 main_v7_1 c = gathV (start m) c := by
  show afterA m c main_v7_1 = _
  unfold afterA
  rw [Function.update_self]; rfl
theorem outs_v15 (c : Dev nD) : outs m 4 main_v15 c = (dat1 (V3 m (outs m)) c).arrAt 5 cfg1.N := by
  show afterB m c main_v15 = _
  unfold afterB
  rw [Function.update_self]; rfl
theorem outs_v17 (c : Dev nD) : outs m 6 main_v17 c = outO (start m) c := by
  show afterC m c main_v17 = _
  unfold afterC
  rw [Function.update_self]

theorem V2_v3 (c : Dev nD) : V2 m (outs m) c main_v3 = (start m).k c := by
  unfold V2
  rw [Function.update_of_ne (by decide), Function.update_of_ne (by decide), Function.update_of_ne (by decide), Function.update_self, outs_v3]
theorem V2_v6 (c : Dev nD) : V2 m (outs m) c main_v6 = (start m).v c := by
  unfold V2
  rw [Function.update_of_ne (by decide), Function.update_of_ne (by decide), Function.update_self, outs_v6]
theorem V2_v7_0 (c : Dev nD) : V2 m (outs m) c main_v7_0 = gathK (start m) c := by
  unfold V2
  rw [Function.update_of_ne (by decide), Function.update_self, outs_v7_0]
theorem V2_v7_1 (c : Dev nD) : V2 m (outs m) c main_v7_1 = gathV (start m) c := by
  unfold V2
  rw [Function.update_self, outs_v7_1]

/-! ## The proof data of the three regions -/

def pdats : (p : Fin 3) → (c : Dev nD) → Dat τ (Elt F) ℕ ℕ UU ℕ (cfgs p) c
  | ⟨0, _⟩ => dat0 (start m)
  | ⟨1, _⟩ => dat1 (V3 m (outs m))
  | ⟨2, _⟩ => dat2 (start m) (V5 m (outs m))
  | ⟨_ + 3, h⟩ => absurd h (Nat.not_lt.2 (Nat.le_add_left _ _))

/-- The unscoped references. -/
abbrev uc : Finset (DevRef τ sig) := Pipeline.ucRefs τ sig
/-- Those the all-to-all's body addresses. -/
def touched : Finset (DevRef τ sig) := {Proc.devRef .tc main_v3, Proc.devRef .tc main_v6, Proc.devRef .tc main_v7_0, Proc.devRef .tc main_v7_1}

theorem touched_sub : touched ⊆ uc := by decide

theorem touched_held (c : Dev nD) (W : Valuation τ sig (Elt F)) : (StableHlo.held (c : Thread nD τ) touched W : sProp 𝕄)
    = iprop(((c : Thread nD τ).loc main_v3 ↦{fullShare} W main_v3) ∗ ((c : Thread nD τ).loc main_v6 ↦{fullShare} W main_v6)
      ∗ ((c : Thread nD τ).loc main_v7_0 ↦{fullShare} W main_v7_0) ∗ ((c : Thread nD τ).loc main_v7_1 ↦{fullShare} W main_v7_1)) := by
  unfold StableHlo.held
  rw [bigSep_eq_bigSepL_of_eq [Proc.devRef .tc main_v3, Proc.devRef .tc main_v6, Proc.devRef .tc main_v7_0, Proc.devRef .tc main_v7_1] (by decide) (by decide)]
  rfl

theorem V2_off (c : Dev nD) (b : DevRef τ sig) (hb : b ∈ uc \ touched) : V2 m (outs m) c b = V1 m c b := by
  have h : b ∉ touched := (Finset.mem_sdiff.1 hb).2
  simp only [touched, Finset.mem_insert, Finset.mem_singleton, not_or] at h
  unfold V2
  rw [Function.update_of_ne h.2.2.2, Function.update_of_ne h.2.2.1, Function.update_of_ne h.2.1, Function.update_of_ne h.1]

/-! ## Region 0 -/

theorem above_all : Above NL 1 (fun c : Dev nD => (D2 c + tallyL (due0 c) : CellTallies nD τ sig ℕ)) :=
  talk_above (N := NL) (b := 1) (w := 2) (by decide) above_D2 due0 (fun c x hx => by
    simp only [due0, List.mem_cons, List.not_mem_nil, or_false] at hx
    rcases hx with h | h | h | h | h | h | h | h | h <;> subst h <;> exact ⟨rfl, by dsimp only; omega, by dsimp only; omega⟩)

theorem cut0 (c : Dev nD) (t : Fin (cfg0.N + 1)) (g : GSem nD τ sig) (i : ℕ) (h : 0 < (dat0 (start m) c).owed t g i) :
    i ∈ L NL g ∧ 0 < lv g i := by
  have e : (dat0 (start m) c).owed t = if t.val = 0 then D2 c + tallyL (due0 c) else D2 c := rfl
  rw [e] at h
  split at h
  · exact above_all.cut (by decide) c g i h
  · exact above_D2.cut (by decide) c g i h

theorem in0 (c : Dev nD) : iprop(Pipeline.scopedRest cfg0.spec c ∗ (∃ r, prngReg c r) ∗ StableHlo.held (c.tc : Thread nD τ) touched (V1 m c) ∗ bring0 (start m) c)
    ⊢ (dat0 (start m) c).Φ 0 := by
  rw [show (dat0 (start m) c).Φ 0 = iprop((Pipeline.scopedRest cfg0.spec c ∗ ∃ r, prngReg c r) ∗ bufsIn0 (start m) c ∗ bring0 (start m) c) from rfl,
    touched_held]
  unfold bufsIn0
  iintro ⟨HR, Hp, ⟨Hk, Hv, Hgk, Hgv⟩, HB⟩
  isplitl [HR Hp]; · isplitl [HR] <;> iassumption
  isplitr [HB]
  · isplitl [Hk]; · iexact Hk
    isplitl [Hv]; · iexact Hv
    isplitl [Hgk]; · iexists _; iexact Hgk
    iexists _; iexact Hgv
  iexact HB

theorem out0 (c : Dev nD) : (dat0 (start m) c).Φ (Fin.last cfg0.N)
    ⊢ iprop(Pipeline.scopedRest cfg0.spec c ∗ (∃ r, prngReg c r) ∗ StableHlo.held (c.tc : Thread nD τ) touched (V2 m (outs m) c)
      ∗ Pipeline.ownSems0 osem0 c ∗ semVal (barC 0 c) 0) := by
  rw [show (dat0 (start m) c).Φ (Fin.last cfg0.N) = iprop((Pipeline.scopedRest cfg0.spec c ∗ ∃ r, prngReg c r) ∗ bufsOut0 (start m) c ∗ sems0 c ∗ semVal (barC 0 c) 0) from rfl,
    touched_held, V2_v3, V2_v6, V2_v7_0, V2_v7_1, sems0_eq]
  unfold bufsOut0
  iintro ⟨⟨HR, Hp⟩, Hb, Hs, Hb0⟩
  isplitl [HR]; · iexact HR
  isplitl [Hp]; · iexact Hp
  isplitl [Hb]; · iexact Hb
  isplitl [Hs] <;> iassumption

set_option backward.isDefEq.respectTransparency.types false in
def reg0 : Pipeline.RegionSeg (pcfgs (F := F)) adm (pdats m) 0 defs₀ 𝒱₀ (L NL) lv 0 :=
  Pipeline.RegionSeg.ofTalk (pcfgs (F := F)) adm (pdats m) 0 defs₀ 𝒱₀ (L NL) lv 0 osem0 (by decide : Pipeline.OwnSemFacts cfg0.spec osem0)
    touched uc touched_sub launch0.toP rfl (fun c => (obligation0 (start m) c).loose)
    D2 (fun c => tallyL (due0 c)) (fun c => rfl) (fun c => rfl) (fun _ => rfl) (fun _ w => w.elim0)
    (V1 m) (V2 m (outs m)) (fun c b hb => V2_off m c b hb)
    (keep0 (start m)) (fun c => semVal (barC 0 c) 0) (bring0 (start m)) (fun c => semVal (barC 0 c) 0) (fun c => enter0 (start m) c) (in0 m) (out0 m)
    (fun c => by iintro H; imodintro; iexact H)
    (fun _ => 0)
    ⟨fun _ w => w.elim0, fun _ w => w.elim0, fun c t g i h => cut0 m c t g i h⟩
    (fun c => keep2 (start m) c)
    (fun _ w => w.elim0) (fun _ w => w.elim0)

/-! ## Region 1 -/

theorem V4_arr (c : Dev nD) (w : Fin cfg1.W) : (dat1 (V3 m (outs m)) c).arrAt w cfg1.N = V4 m (outs m) c (Proc.devRef .tc (Pipeline.arrRef spec1 w)) := by
  have hin : ∀ w : Fin cfg1.W, (cfg1.win w).isOut = false → (dat1 (V3 m (outs m)) c).arrAt w cfg1.N = V3 m (outs m) c (Proc.devRef .tc (Pipeline.arrRef spec1 w)) :=
    fun w h => (Dat.arrAt_in (dat1 (V3 m (outs m)) c) w h cfg1.N).trans (dat1_A (V3 m (outs m)) c w)
  match w with
  | ⟨0, _⟩ => exact (hin 0 rfl).trans (V4_of m (outs m) c main_v10 (by decide)).symm
  | ⟨1, _⟩ => exact (hin 1 rfl).trans (V4_of m (outs m) c main_v13 (by decide)).symm
  | ⟨2, _⟩ => exact (hin 2 rfl).trans (V4_of m (outs m) c main_v11 (by decide)).symm
  | ⟨3, _⟩ => exact (hin 3 rfl).trans (V4_of m (outs m) c main_v12 (by decide)).symm
  | ⟨4, _⟩ => exact (hin 4 rfl).trans (V4_of m (outs m) c main_v14 (by decide)).symm
  | ⟨5, _⟩ => exact (outs_v15 m c).symm.trans (show outs m 4 main_v15 c = V4 m (outs m) c main_v15 from by unfold V4; rw [Function.update_self])

theorem V4_off (c : Dev nD) (b : DevRef τ sig) (hb : b ≠ Proc.devRef .tc main_v15) : V4 m (outs m) c b = V3 m (outs m) c b := by
  unfold V4; rw [Function.update_of_ne hb]

set_option backward.isDefEq.respectTransparency.types false in
def reg1 : Pipeline.RegionSeg (pcfgs (F := F)) adm (pdats m) 0 defs₀ 𝒱₀ (L NL) lv 1 :=
  Pipeline.RegionSeg.ofHeld (pcfgs (F := F)) adm (pdats m) 0 defs₀ 𝒱₀ (L NL) lv 1 D2
    (fun c => iprop(∃ r, prngReg c r)) (fun c => iprop(∃ r, prngReg c r)) launch1.toP rfl (fun c => (obligation1 (V3 m (outs m)) c).loose)
    (fun _ _ => rfl) (fun _ => rfl) (fun _ w => by first | rfl | (fin_cases w <;> rfl))
    (fun c => .rfl) (fun c => .rfl)
    (fun _ => 0) (Above.levelCut (pcfgs (F := F)) adm 1 (by decide) (by decide) above_D2)
    (fun c => iprop(StableHlo.held (c : Thread nD τ) (uc \ Pipeline.arrRefs spec1) (V3 m (outs m) c) ∗ keep2 (start m) c ∗ semVal (barC 0 c) 0))
    (V3 m (outs m)) (V4 m (outs m)) (fun c w => rfl) (fun c w => V4_arr m c w)

/-! ## Region 2 -/

theorem start_p (c : Dev nD) : (start m).p c = V5 m (outs m) c main_v16 := rfl

theorem flush2 (t : Fin cfg2.N) : (dat2 (start m) (V5 m (outs m)) 0).flushed 1 t = outO (start m) 0 := rfl

theorem V6_arr (c : Dev nD) (w : Fin cfg2.W) : (dat2 (start m) (V5 m (outs m)) c).arrAt w cfg2.N = V6 m (outs m) c (Proc.devRef .tc (Pipeline.arrRef spec2 w)) := by
  match w with
  | ⟨0, _⟩ =>
    exact (Dat.arrAt_in (dat2 (start m) (V5 m (outs m)) c) 0 rfl cfg2.N).trans (V6_of m (outs m) c main_v16 (by decide)).symm
  | ⟨1, _⟩ =>
    refine Eq.trans ((dat2 (start m) (V5 m (outs m)) c).arrAt_eq_of_cover 1 (outO (start m) c) (fun t _ => ?_) (fun i => ⟨t2_0, flush2_1 t2_0, ?_⟩)) ?_
    · exact (whole2_1 c t (outO (start m) c)).symm
    · have h : ((cfg2.win 1).blk t2_0).view.emb i = i := funext fun k => Fin.ext (Window.rect_emb_val_of_index_zero (cfg2.win 1) t2_0 k rfl i)
      exact h ▸ ((cfg2.win 1).blk t2_0).view.emb_mem_set i
    · exact (outs_v17 m c).symm.trans (show outs m 6 main_v17 c = V6 m (outs m) c main_v17 from by unfold V6; rw [Function.update_self])

theorem V6_off (c : Dev nD) (b : DevRef τ sig) (hb : b ≠ Proc.devRef .tc main_v17) : V6 m (outs m) c b = V5 m (outs m) c b := by
  unfold V6; rw [Function.update_of_ne hb]

theorem above_last : Above NL 3 (fun c : Dev nD => (0 + tallyL (due2 c) : CellTallies nD τ sig ℕ)) := above_D2

theorem cut2 (c : Dev nD) (t : Fin (cfg2.N + 1)) (g : GSem nD τ sig) (i : ℕ) (h : 0 < (dat2 (start m) (V5 m (outs m)) c).owed t g i) :
    i ∈ L NL g ∧ 0 < lv g i := by
  have e : (dat2 (start m) (V5 m (outs m)) c).owed t = if t.val = 0 then 0 + tallyL (due2 c) else 0 := rfl
  rw [e] at h
  split at h
  · exact above_D2.cut (by decide) c g i h
  · exact absurd h (Nat.lt_irrefl 0)

theorem in2 (c : Dev nD) : iprop(Pipeline.scopedRest spec2 c ∗ (∃ r, prngReg c r) ∗ StableHlo.held (c.tc : Thread nD τ) ∅ (V5 m (outs m) c) ∗ bring2 (start m) c)
    ⊢ (dat2 (start m) (V5 m (outs m)) c).Φ 0 := by
  rw [show (dat2 (start m) (V5 m (outs m)) c).Φ 0 = iprop((Pipeline.scopedRest spec2 c ∗ ∃ r, prngReg c r) ∗ bring2 (start m) c) from rfl]
  iintro ⟨HR, Hp, -, HB⟩
  isplitl [HR Hp]; · isplitl [HR] <;> iassumption
  iexact HB

theorem out2 (c : Dev nD) : (dat2 (start m) (V5 m (outs m)) c).Φ (Fin.last cfg2.N)
    ⊢ iprop(Pipeline.scopedRest spec2 c ∗ (∃ r, prngReg c r) ∗ StableHlo.held (c.tc : Thread nD τ) ∅ (V6 m (outs m) c)
      ∗ Pipeline.ownSems0 osem2 c ∗ semVal (barC 1 c) 0) := by
  rw [show (dat2 (start m) (V5 m (outs m)) c).Φ (Fin.last cfg2.N) = iprop((Pipeline.scopedRest spec2 c ∗ ∃ r, prngReg c r) ∗ sems2 c ∗ semVal (barC 1 c) 0) from rfl,
    sems2_eq, show (StableHlo.held (c.tc : Thread nD τ) ∅ (V6 m (outs m) c) : sProp 𝕄) = BI.emp from BI.bigSep_empty]
  iintro ⟨⟨HR, Hp⟩, Hs, Hb0⟩
  isplitl [HR]; · iexact HR
  isplitl [Hp]; · iexact Hp
  isplitr; · iempintro
  isplitl [Hs] <;> iassumption

set_option backward.isDefEq.respectTransparency.types false in
def reg2 : Pipeline.RegionSeg (pcfgs (F := F)) adm (pdats m) 0 defs₀ 𝒱₀ (L NL) lv 2 :=
  Pipeline.RegionSeg.ofTalk (pcfgs (F := F)) adm (pdats m) 0 defs₀ 𝒱₀ (L NL) lv 2 osem2 (by decide : Pipeline.OwnSemFacts spec2 osem2)
    ∅ ∅ (Finset.Subset.refl _) launch2.toP rfl (fun c => (obligation2 (start m) (V5 m (outs m)) c (start_p m)).loose)
    (fun _ => 0) (fun c => tallyL (due2 c)) (fun c => rfl) (fun c => rfl) (fun _ => rfl) (fun _ w => by first | rfl | (fin_cases w <;> rfl))
    (V5 m (outs m)) (V6 m (outs m)) (fun c b hb => absurd hb (by simp))
    (keep2 (start m)) (fun c => semVal (barC 1 c) 0) (bring2 (start m)) (fun c => semVal (barC 1 c) 0) (fun c => enter2 (start m) c) (in2 m) (out2 m)
    (fun c => by iintro H; imodintro; iexact H)
    (fun _ => 0)
    ⟨fun c _ _ => mem_L c _ (by decide), fun _ _ _ => le_refl _, fun c t g i h => cut2 m c t g i h⟩
    (fun c => iprop(StableHlo.held (c : Thread nD τ) (uc \ Pipeline.arrRefs spec2) (V5 m (outs m) c) ∗ semVal (barC 0 c) 0))
    (fun c w => by match w with | ⟨0, _⟩ => rfl | ⟨1, _⟩ => rfl) (fun c w => V6_arr m c w)

end Cert.Tp

end
-- ==== Proof.Deal.lean ====
/-
  Dealing the launch's ghost state: every duty's token to the device that pays it, every credit to the device that
  waits on it, every cell's position to its owner.
-/
module

public import proofs.«01_k».proof.Proof.Talk

@[expose] public section

set_option backward.proofsInPublic true
set_option maxRecDepth 16384

noncomputable section

namespace Cert.Tp

open Idealize.ShloMosaic Idealize.ShloMosaic.TcCoe Idealize.ShloMosaic.Rounds
open Idealize.ShloMosaic.SiteBlocks Idealize.ShloMosaic.TalkSites
open Idealize.SL Idealize.SL.RA Idealize.SL.BI
open scoped Idealize.SL.BI
open Idealize.SL.BI.BIBase Idealize.SL.Sem
open Idealize.ShloMosaic.Pipeline (Dat Cfg Window BodyObligation)
open Cert.KernelIdeal Cert.KernelIdeal.Gen

variable {F : FTy → Type} [FloatOps F] [Named F]

local notation "𝕄" => MT nD τ sig ℕ (Elt F) ℕ UU ℕ

/-! ## Tokens -/

/-- The duties a device's own cells have, numbered: three on each barrier, then one on each copy's cell. -/
def tokCell (n : Fin 32) : SemLoc sig :=
  if h : n.val < 3 then .reg 0 else if h' : n.val < 6 then .reg 1 else .dma (dmaNo ⟨n.val - 6, by omega⟩)
def tokDuty (n : Fin 32) : ℕ := if n.val < 3 then n.val else if n.val < 6 then n.val - 3 else 0
theorem tok_inj : Function.Injective (fun n : Fin 32 => (tokCell n, tokDuty n)) := by decide

/-- Every duty of the two exchanges. -/
def allToks : Finset (GSem nD τ sig × ℕ × ℕ) :=
  Finset.univ.map ⟨fun x : Dev nD × Fin 32 => (((x.1 : Thread nD τ), tokCell x.2), 0, tokDuty x.2), fun x y h =>
    Prod.ext (congrArg (fun t : GSem nD τ sig × ℕ × ℕ => t.1.1.1) h)
      (tok_inj (Prod.ext (congrArg (fun t : GSem nD τ sig × ℕ × ℕ => t.1.2) h) (congrArg (fun t : GSem nD τ sig × ℕ × ℕ => t.2.2) h)))⟩

/-- A token of one of device `c`'s barrier duties, and of one of its copies'. -/
def tkB (k : Fin 2) (d : ℕ) (c : Dev nD) : sProp 𝕄 := dutyTok ER (barC k c) 0 d
def tkD (n : Fin 40) (c : Dev nD) : sProp 𝕄 := dutyTok ER (dmaC n c) 0 0
theorem toks_list (c : Dev nD) : bigSep Finset.univ (fun n : Fin 32 => (dutyTok ER ((c : Thread nD τ), tokCell n) 0 (tokDuty n) : sProp 𝕄))
    = iprop(tkB 0 0 c ∗ tkB 0 1 c ∗ tkB 0 2 c ∗ tkB 1 0 c ∗ tkB 1 1 c ∗ tkB 1 2 c ∗ tkD 0 c ∗ tkD 1 c ∗ tkD 2 c ∗ tkD 3 c ∗ tkD 4 c ∗ tkD 5 c ∗ tkD 6 c ∗ tkD 7 c ∗ tkD 8 c ∗ tkD 9 c ∗ tkD 10 c ∗ tkD 11 c ∗ tkD 12 c ∗ tkD 13 c ∗ tkD 28 c ∗ tkD 29 c ∗ tkD 30 c ∗ tkD 31 c ∗ tkD 32 c ∗ tkD 33 c ∗ tkD 34 c ∗ tkD 35 c ∗ tkD 36 c ∗ tkD 37 c ∗ tkD 38 c ∗ tkD 39 c) := by
  rw [bigSep_univ_eq_bigSepL [0, 1, 2, 3, 4, 5, 6, 7, 8, 9, 10, 11, 12, 13, 14, 15, 16, 17, 18, 19, 20, 21, 22, 23, 24, 25, 26, 27, 28, 29, 30, 31] (by decide) (by decide)]
  rfl
/-- A step around the ring of devices. -/
def turn1 : Dev nD ≃ Dev nD := ⟨pr 1, pr 3, pr_pr31, pr_pr13⟩
def turn2 : Dev nD ≃ Dev nD := ⟨pr 2, pr 2, pr_pr22, pr_pr22⟩
def turn3 : Dev nD ≃ Dev nD := ⟨pr 3, pr 1, pr_pr13, pr_pr31⟩
theorem around1 (Φ : Dev nD → sProp (MT nD τ sig ℕ (Elt F) ℕ UU ℕ)) : bigSep Finset.univ Φ = bigSep Finset.univ fun c => Φ (pr 1 c) := bigSep_univ_equiv turn1 Φ
theorem around2 (Φ : Dev nD → sProp (MT nD τ sig ℕ (Elt F) ℕ UU ℕ)) : bigSep Finset.univ Φ = bigSep Finset.univ fun c => Φ (pr 2 c) := bigSep_univ_equiv turn2 Φ
theorem around3 (Φ : Dev nD → sProp (MT nD τ sig ℕ (Elt F) ℕ UU ℕ)) : bigSep Finset.univ Φ = bigSep Finset.univ fun c => Φ (pr 3 c) := bigSep_univ_equiv turn3 Φ
/-- Every token to the device that pays its duty. -/
theorem toks_dealt : bigSep allToks (fun x => (dutyTok ER x.1 x.2.1 x.2.2 : sProp 𝕄)) ⊢ bigSep Finset.univ fun c : Dev nD => iprop(toks0 c ∗ toks2 c) := by
  unfold allToks
  rw [bigSep_map, bigSep_univ_prod]
  refine (Entails.of_eq (bigSep_congr (Ψ := fun c : Dev nD => iprop(tkB 0 0 c ∗ tkB 0 1 c ∗ tkB 0 2 c ∗ tkB 1 0 c ∗ tkB 1 1 c ∗ tkB 1 2 c ∗ tkD 0 c ∗ tkD 1 c ∗ tkD 2 c ∗ tkD 3 c ∗ tkD 4 c ∗ tkD 5 c ∗ tkD 6 c ∗ tkD 7 c ∗ tkD 8 c ∗ tkD 9 c ∗ tkD 10 c ∗ tkD 11 c ∗ tkD 12 c ∗ tkD 13 c ∗ tkD 28 c ∗ tkD 29 c ∗ tkD 30 c ∗ tkD 31 c ∗ tkD 32 c ∗ tkD 33 c ∗ tkD 34 c ∗ tkD 35 c ∗ tkD 36 c ∗ tkD 37 c ∗ tkD 38 c ∗ tkD 39 c)) fun c _ => toks_list c)).trans ?_
  have hgoal : (fun c : Dev nD => (iprop(toks0 c ∗ toks2 c) : sProp 𝕄)) = fun c => iprop((tkB 0 2 (pr 1 c) ∗ tkB 0 1 (pr 2 c) ∗ tkB 0 0 (pr 3 c) ∗ tkD 0 c ∗ tkD 1 c ∗ tkD 2 c ∗ tkD 3 c ∗ tkD 4 c ∗ tkD 5 c ∗ tkD 6 c ∗ tkD 7 c ∗ tkD 8 (pr 1 c) ∗ tkD 11 (pr 1 c) ∗ tkD 9 (pr 2 c) ∗ tkD 12 (pr 2 c) ∗ tkD 10 (pr 3 c) ∗ tkD 13 (pr 3 c))
      ∗ tkB 1 2 (pr 1 c) ∗ tkB 1 1 (pr 2 c) ∗ tkB 1 0 (pr 3 c) ∗ tkD 28 c ∗ tkD 29 c ∗ tkD 30 c ∗ tkD 34 c ∗ tkD 35 c ∗ tkD 36 c ∗ tkD 31 (pr 1 c) ∗ tkD 32 (pr 2 c) ∗ tkD 33 (pr 3 c) ∗ tkD 37 (pr 1 c) ∗ tkD 38 (pr 2 c) ∗ tkD 39 (pr 3 c)) := rfl
  rw [hgoal]
  simp only [bigSep_sep']
  iintro ⟨HtkB_0_0, HtkB_0_1, HtkB_0_2, HtkB_1_0, HtkB_1_1, HtkB_1_2, HtkD_0, HtkD_1, HtkD_2, HtkD_3, HtkD_4, HtkD_5, HtkD_6, HtkD_7, HtkD_8, HtkD_9, HtkD_10, HtkD_11, HtkD_12, HtkD_13, HtkD_28, HtkD_29, HtkD_30, HtkD_31, HtkD_32, HtkD_33, HtkD_34, HtkD_35, HtkD_36, HtkD_37, HtkD_38, HtkD_39⟩
  isplitl [HtkB_0_2 HtkB_0_1 HtkB_0_0 HtkD_0 HtkD_1 HtkD_2 HtkD_3 HtkD_4 HtkD_5 HtkD_6 HtkD_7 HtkD_8 HtkD_11 HtkD_9 HtkD_12 HtkD_10 HtkD_13]
  · isplitl [HtkB_0_2]; · iapply (Entails.of_eq (around1 (F := F) (tkB 0 2))); iexact HtkB_0_2
    isplitl [HtkB_0_1]; · iapply (Entails.of_eq (around2 (F := F) (tkB 0 1))); iexact HtkB_0_1
    isplitl [HtkB_0_0]; · iapply (Entails.of_eq (around3 (F := F) (tkB 0 0))); iexact HtkB_0_0
    isplitl [HtkD_0]; · iexact HtkD_0
    isplitl [HtkD_1]; · iexact HtkD_1
    isplitl [HtkD_2]; · iexact HtkD_2
    isplitl [HtkD_3]; · iexact HtkD_3
    isplitl [HtkD_4]; · iexact HtkD_4
    isplitl [HtkD_5]; · iexact HtkD_5
    isplitl [HtkD_6]; · iexact HtkD_6
    isplitl [HtkD_7]; · iexact HtkD_7
    isplitl [HtkD_8]; · iapply (Entails.of_eq (around1 (F := F) (tkD 8))); iexact HtkD_8
    isplitl [HtkD_11]; · iapply (Entails.of_eq (around1 (F := F) (tkD 11))); iexact HtkD_11
    isplitl [HtkD_9]; · iapply (Entails.of_eq (around2 (F := F) (tkD 9))); iexact HtkD_9
    isplitl [HtkD_12]; · iapply (Entails.of_eq (around2 (F := F) (tkD 12))); iexact HtkD_12
    isplitl [HtkD_10]; · iapply (Entails.of_eq (around3 (F := F) (tkD 10))); iexact HtkD_10
    iapply (Entails.of_eq (around3 (F := F) (tkD 13))); iexact HtkD_13
  · isplitl [HtkB_1_2]; · iapply (Entails.of_eq (around1 (F := F) (tkB 1 2))); iexact HtkB_1_2
    isplitl [HtkB_1_1]; · iapply (Entails.of_eq (around2 (F := F) (tkB 1 1))); iexact HtkB_1_1
    isplitl [HtkB_1_0]; · iapply (Entails.of_eq (around3 (F := F) (tkB 1 0))); iexact HtkB_1_0
    isplitl [HtkD_28]; · iexact HtkD_28
    isplitl [HtkD_29]; · iexact HtkD_29
    isplitl [HtkD_30]; · iexact HtkD_30
    isplitl [HtkD_34]; · iexact HtkD_34
    isplitl [HtkD_35]; · iexact HtkD_35
    isplitl [HtkD_36]; · iexact HtkD_36
    isplitl [HtkD_31]; · iapply (Entails.of_eq (around1 (F := F) (tkD 31))); iexact HtkD_31
    isplitl [HtkD_32]; · iapply (Entails.of_eq (around2 (F := F) (tkD 32))); iexact HtkD_32
    isplitl [HtkD_33]; · iapply (Entails.of_eq (around3 (F := F) (tkD 33))); iexact HtkD_33
    isplitl [HtkD_37]; · iapply (Entails.of_eq (around1 (F := F) (tkD 37))); iexact HtkD_37
    isplitl [HtkD_38]; · iapply (Entails.of_eq (around2 (F := F) (tkD 38))); iexact HtkD_38
    iapply (Entails.of_eq (around3 (F := F) (tkD 39))); iexact HtkD_39

/-! ## Credits -/

/-- Everything a device owes at the launch. -/
def due (c : Dev nD) : List (Pay nD τ sig) := due2 c ++ due0 c
theorem due_eq : (fun c : Dev nD => D2 c + tallyL (due0 c) : Dev nD → CellTallies nD τ sig ℕ) = fun c => tallyL (due c) := by
  funext c
  unfold D2 due
  rw [zero_add, tallyL_append]
theorem due_tc (c : Dev nD) (x : Pay nD τ sig) (hx : x ∈ due c) : x.1.1.2 = .tc := by
  simp only [due, due0, due2, List.cons_append, List.nil_append, List.mem_cons, List.not_mem_nil, or_false] at hx
  rcases hx with h | h | h | h | h | h | h | h | h | h | h | h | h | h | h | h | h | h <;> subst h <;> rfl

theorem cred_three (g : GSem nD τ sig) (i : ℕ) : iprop(cred (tallyAt g i 1) ∗ cred (tallyAt g i 1) ∗ cred (tallyAt g i 1)) ⊢ (cred (tallyAt g i 3) : sProp 𝕄) := by
  rw [show (tallyAt g i 3 : CellTallies nD τ sig ℕ) = tallyAt g i 1 + (tallyAt g i 1 + tallyAt g i 1) from by rw [tallyAt_add, tallyAt_add]]
  iintro ⟨H1, H2⟩
  iapply (cred_add _ _).2
  isplitl [H1]; · iexact H1
  iapply (cred_add _ _).2
  iexact H2

/-- The credits of the payments addressed to a device, by payer: `n` is the step from the payer to it. -/
def credFrom (c : Dev nD) (j : ℕ) (a b a' b' : Fin 40) : List (Pay nD τ sig) :=
  [(barC 1 c, 3, 1), (dmaC a c, 4, NR), (dmaC b c, 5, NR), (barC 0 c, 1, 1), (dmaC a' c, 2, NK), (dmaC b' c, 2, NK)]
theorem cred_list0 : credOf due (0 : Dev nD) = credFrom 0 3 33 39 10 13 ++ credFrom 0 2 32 38 9 12 ++ credFrom 0 1 31 37 8 11 := by rfl
theorem cred_list1 : credOf due (1 : Dev nD) = credFrom 1 1 31 37 8 11 ++ credFrom 1 3 33 39 10 13 ++ credFrom 1 2 32 38 9 12 := by rfl
theorem cred_list2 : credOf due (2 : Dev nD) = credFrom 2 2 32 38 9 12 ++ credFrom 2 1 31 37 8 11 ++ credFrom 2 3 33 39 10 13 := by rfl
theorem cred_list3 : credOf due (3 : Dev nD) = credFrom 3 3 33 39 10 13 ++ credFrom 3 2 32 38 9 12 ++ credFrom 3 1 31 37 8 11 := by rfl

theorem creds_gather (c : Dev nD) (l : List (Pay nD τ sig)) (h : l = credFrom c 1 31 37 8 11 ++ credFrom c 2 32 38 9 12 ++ credFrom c 3 33 39 10 13) :
    (cred (tallyL l) : sProp 𝕄) ⊢ iprop(creds0 c ∗ creds2 c) := by
  subst h
  rw [cred_tallyL]
  simp only [credFrom, List.cons_append, List.nil_append, bigSepL_cons', Pay.tally]
  unfold creds0 creds2
  iintro ⟨B11, H31, H37, B01, H8, H11, B12, H32, H38, B02, H9, H12, B13, H33, H39, B03, H10, H13, -⟩
  isplitl [B01 B02 B03 H8 H9 H10 H11 H12 H13]
  · isplitl [B01 B02 B03]
    · iapply (cred_three (F := F) _ _); isplitl [B01]; · iexact B01
      isplitl [B02] <;> iassumption
    isplitl [H8]; · iexact H8
    isplitl [H9]; · iexact H9
    isplitl [H10]; · iexact H10
    isplitl [H11]; · iexact H11
    isplitl [H12]; · iexact H12
    iexact H13
  · isplitl [B11 B12 B13]
    · iapply (cred_three (F := F) _ _); isplitl [B11]; · iexact B11
      isplitl [B12] <;> iassumption
    isplitl [H31]; · iexact H31
    isplitl [H32]; · iexact H32
    isplitl [H33]; · iexact H33
    isplitl [H37]; · iexact H37
    isplitl [H38]; · iexact H38
    iexact H39

theorem perm0 (A B C : List (Pay nD τ sig)) : (tallyL (C ++ B ++ A) : CellTallies nD τ sig ℕ) = tallyL (A ++ B ++ C) := by simp only [tallyL_append]; abel
theorem perm1 (A B C : List (Pay nD τ sig)) : (tallyL (A ++ C ++ B) : CellTallies nD τ sig ℕ) = tallyL (A ++ B ++ C) := by simp only [tallyL_append]; abel
theorem perm2 (A B C : List (Pay nD τ sig)) : (tallyL (B ++ A ++ C) : CellTallies nD τ sig ℕ) = tallyL (A ++ B ++ C) := by simp only [tallyL_append]; abel
theorem perm3 (A B C : List (Pay nD τ sig)) : (tallyL (C ++ B ++ A) : CellTallies nD τ sig ℕ) = tallyL (A ++ B ++ C) := perm0 A B C
theorem rot3 (A B C : List (Pay nD τ sig)) (Q : sProp (MT nD τ sig ℕ (Elt F) ℕ UU ℕ)) (h : (cred (tallyL (A ++ B ++ C)) : sProp 𝕄) ⊢ Q)
    (l : List (Pay nD τ sig)) (hl : (tallyL l : CellTallies nD τ sig ℕ) = tallyL (A ++ B ++ C)) : (cred (tallyL l) : sProp 𝕄) ⊢ Q := by
  rw [hl]; exact h

/-- The launch's credits, as each device waits with them. -/
theorem creds_dealt (c : Dev nD) : (Pipeline.launchCred (fun d => D2 d + tallyL (due0 d)) c : sProp 𝕄) ⊢ iprop(creds0 c ∗ creds2 c) := by
  rw [due_eq, launchCred_tallyL due due_tc]
  refine rot3 _ _ _ _ (creds_gather (F := F) c _ rfl) _ ?_
  match c with
  | ⟨0, _⟩ => exact (congrArg tallyL cred_list0).trans (perm0 (credFrom 0 1 31 37 8 11) (credFrom 0 2 32 38 9 12) (credFrom 0 3 33 39 10 13))
  | ⟨1, _⟩ => exact (congrArg tallyL cred_list1).trans (perm1 (credFrom 1 1 31 37 8 11) (credFrom 1 2 32 38 9 12) (credFrom 1 3 33 39 10 13))
  | ⟨2, _⟩ => exact (congrArg tallyL cred_list2).trans (perm2 (credFrom 2 1 31 37 8 11) (credFrom 2 2 32 38 9 12) (credFrom 2 3 33 39 10 13))
  | ⟨3, _⟩ => exact (congrArg tallyL cred_list3).trans (perm3 (credFrom 3 1 31 37 8 11) (credFrom 3 2 32 38 9 12) (credFrom 3 3 33 39 10 13))

end Cert.Tp

end
-- ==== Proof.Run.lean ====
/-
  The run of the whole program: what each thread holds between the items, the launch, and what the final memory holds.
-/
module

public import proofs.«01_k».proof.Proof.Regs
public import proofs.«01_k».proof.Proof.Deal

@[expose] public section

set_option backward.proofsInPublic true
set_option maxRecDepth 16384

noncomputable section

namespace Cert.Tp

open Idealize.ShloMosaic Idealize.ShloMosaic.TcCoe Idealize.ShloMosaic.Rounds
open Idealize.ShloMosaic.SiteBlocks Idealize.ShloMosaic.TalkSites
open Idealize.SL Idealize.SL.RA Idealize.SL.BI
open scoped Idealize.SL.BI
open Idealize.SL.BI.BIBase Idealize.SL.Sem
open Idealize.ShloMosaic.Pipeline (Dat Cfg Window BodyObligation)
open Cert.KernelIdeal Cert.KernelIdeal.Gen

variable {F : FTy → Type} [FloatOps F] [Named F]

local notation "𝕄" => MT nD τ sig ℕ (Elt F) ℕ UU ℕ

variable (m : (ℓ : Loc nD τ sig) → Buf (Elt F) ℓ)

variable (ρ : Dev nD → PrngReg)

/-- Owed at the launch. -/
abbrev O₀ (c : Dev nD) : CellTallies nD τ sig ℕ := D2 c + tallyL (due0 c)

/-- What a device holds beside its arrays: before the all-to-all, up to the all-reduce, and at the end. -/
def rest : Fin 4 → Dev nD → sProp 𝕄
  | ⟨0, _⟩, c => iprop((∃ r, prngReg c r) ∗ keep0 (start m) c ∗ keep2 (start m) c ∗ ∃ W, owes (c : Thread nD τ) (O₀ c) W)
  | ⟨1, _⟩, c => iprop((∃ r, prngReg c r) ∗ keep2 (start m) c ∗ semVal (barC 0 c) 0 ∗ ∃ W, owes (c : Thread nD τ) (D2 c) W)
  | ⟨2, _⟩, c => iprop((∃ r, prngReg c r) ∗ keep2 (start m) c ∗ semVal (barC 0 c) 0 ∗ ∃ W, owes (c : Thread nD τ) (D2 c) W)
  | ⟨_, _⟩, c => iprop((∃ r, prngReg c r) ∗ semVal (barC 0 c) 0 ∗ semVal (barC 1 c) 0 ∗ ∃ W, owes (c : Thread nD τ) (0 : CellTallies nD τ sig ℕ) W)

/-! ## The regions between the thread states -/

theorem no_arr0 (c : Dev nD) (W : Valuation τ sig (Elt F)) : (StableHlo.held (c.tc : Thread nD τ) (Pipeline.arrRefs (τ := τ) (pcfgs (F := F) 0).spec) W : sProp 𝕄) = BI.emp := by
  have : Pipeline.arrRefs (τ := τ) (pcfgs (F := F) 0).spec = ∅ := by
    haveI : IsEmpty (Fin (pcfgs (F := F) 0).W) := inferInstanceAs (IsEmpty (Fin 0))
    unfold Pipeline.arrRefs
    rw [Finset.map_eq_empty, Finset.image_eq_empty, Finset.univ_eq_empty]
  rw [this]
  exact BI.bigSep_empty

theorem pre0 (c : Dev nD) : iprop(StableHlo.held (c : Thread nD τ) uc (V1 m c) ∗ rest m 0 c) ⊢ (reg0 m).pre c := by
  show iprop(StableHlo.held (c : Thread nD τ) uc (V1 m c) ∗ (∃ r, prngReg c r) ∗ keep0 (start m) c ∗ keep2 (start m) c ∗ ∃ W, owes (c : Thread nD τ) (O₀ c) W)
    ⊢ iprop(StableHlo.held (c.tc : Thread nD τ) (Pipeline.arrRefs (τ := τ) (pcfgs (F := F) 0).spec) (V1 m c) ∗ (∃ r, prngReg c r)
      ∗ (StableHlo.held (c.tc : Thread nD τ) uc (V1 m c) ∗ keep2 (start m) c) ∗ keep0 (start m) c ∗ ∃ Wd, owes (c : Thread nD τ) (D2 c + tallyL (due0 c)) Wd)
  rw [no_arr0]
  iintro ⟨Hh, Hp, Hk, Hk2, HO⟩
  isplitr; · iempintro
  isplitl [Hp]; · iexact Hp
  isplitl [Hh Hk2]; · isplitl [Hh] <;> iassumption
  isplitl [Hk] <;> iassumption

theorem post0 (c : Dev nD) : (reg0 m).post c ⊢ iprop(StableHlo.held (c : Thread nD τ) uc (V2 m (outs m) c) ∗ rest m 1 c) := by
  show iprop(StableHlo.held (c.tc : Thread nD τ) (Pipeline.arrRefs (τ := τ) (pcfgs (F := F) 0).spec) (V2 m (outs m) c) ∗ (∃ r, prngReg c r)
      ∗ (StableHlo.held (c.tc : Thread nD τ) uc (V2 m (outs m) c) ∗ keep2 (start m) c) ∗ semVal (barC 0 c) 0 ∗ ∃ Wd, owes (c : Thread nD τ) (D2 c) Wd)
    ⊢ iprop(StableHlo.held (c : Thread nD τ) uc (V2 m (outs m) c) ∗ (∃ r, prngReg c r) ∗ keep2 (start m) c ∗ semVal (barC 0 c) 0 ∗ ∃ W, owes (c : Thread nD τ) (D2 c) W)
  rw [no_arr0]
  iintro ⟨-, Hp, ⟨Hh, Hk2⟩, Hb, HO⟩
  isplitl [Hh]; · iexact Hh
  isplitl [Hp]; · iexact Hp
  isplitl [Hk2]; · iexact Hk2
  isplitl [Hb] <;> iassumption

theorem arr1_sub : Pipeline.arrRefs (τ := τ) spec1 ⊆ uc := by decide
theorem arr2_sub : Pipeline.arrRefs (τ := τ) spec2 ⊆ uc := by decide

theorem pre1 (c : Dev nD) : iprop(StableHlo.held (c : Thread nD τ) uc (V3 m (outs m) c) ∗ rest m 1 c) ⊢ (reg1 m).pre c := by
  show iprop(StableHlo.held (c : Thread nD τ) uc (V3 m (outs m) c) ∗ (∃ r, prngReg c r) ∗ keep2 (start m) c ∗ semVal (barC 0 c) 0 ∗ ∃ W, owes (c : Thread nD τ) (D2 c) W)
    ⊢ iprop(StableHlo.held (c.tc : Thread nD τ) (Pipeline.arrRefs (τ := τ) spec1) (V3 m (outs m) c) ∗ (∃ r, prngReg c r)
      ∗ (StableHlo.held (c : Thread nD τ) (uc \ Pipeline.arrRefs spec1) (V3 m (outs m) c) ∗ keep2 (start m) c ∗ semVal (barC 0 c) 0) ∗ ∃ Wd, owes (c : Thread nD τ) (D2 c) Wd)
  rw [StableHlo.held_sub_split (c : Thread nD τ) arr1_sub (V3 m (outs m) c)]
  iintro ⟨⟨Ha, Hh⟩, Hp, Hk2, Hb, HO⟩
  isplitl [Ha]; · iexact Ha
  isplitl [Hp]; · iexact Hp
  isplitl [Hh Hk2 Hb]
  · isplitl [Hh]; · iexact Hh
    isplitl [Hk2] <;> iassumption
  iexact HO

theorem post1 (c : Dev nD) : (reg1 m).post c ⊢ iprop(StableHlo.held (c : Thread nD τ) uc (V4 m (outs m) c) ∗ rest m 2 c) := by
  show iprop(StableHlo.held (c.tc : Thread nD τ) (Pipeline.arrRefs (τ := τ) spec1) (V4 m (outs m) c) ∗ (∃ r, prngReg c r)
      ∗ (StableHlo.held (c : Thread nD τ) (uc \ Pipeline.arrRefs spec1) (V3 m (outs m) c) ∗ keep2 (start m) c ∗ semVal (barC 0 c) 0) ∗ ∃ Wd, owes (c : Thread nD τ) (D2 c) Wd)
    ⊢ iprop(StableHlo.held (c : Thread nD τ) uc (V4 m (outs m) c) ∗ (∃ r, prngReg c r) ∗ keep2 (start m) c ∗ semVal (barC 0 c) 0 ∗ ∃ W, owes (c : Thread nD τ) (D2 c) W)
  rw [StableHlo.held_sub_split (c : Thread nD τ) arr1_sub (V4 m (outs m) c),
    StableHlo.held_congr (c : Thread nD τ) (V := V3 m (outs m) c) (V' := V4 m (outs m) c) (S := uc \ Pipeline.arrRefs spec1) (fun b hb => (V4_off m c b fun h => by
      subst h; exact absurd hb (by decide)).symm)]
  iintro ⟨Ha, Hp, ⟨Hh, Hk2, Hb⟩, HO⟩
  isplitl [Ha Hh]; · isplitl [Ha] <;> iassumption
  isplitl [Hp]; · iexact Hp
  isplitl [Hk2]; · iexact Hk2
  isplitl [Hb] <;> iassumption

theorem pre2 (c : Dev nD) : iprop(StableHlo.held (c : Thread nD τ) uc (V5 m (outs m) c) ∗ rest m 2 c) ⊢ (reg2 m).pre c := by
  show iprop(StableHlo.held (c : Thread nD τ) uc (V5 m (outs m) c) ∗ (∃ r, prngReg c r) ∗ keep2 (start m) c ∗ semVal (barC 0 c) 0 ∗ ∃ W, owes (c : Thread nD τ) (0 + tallyL (due2 c)) W)
    ⊢ iprop(StableHlo.held (c.tc : Thread nD τ) (Pipeline.arrRefs (τ := τ) spec2) (V5 m (outs m) c) ∗ (∃ r, prngReg c r)
      ∗ (StableHlo.held (c.tc : Thread nD τ) ∅ (V5 m (outs m) c) ∗ StableHlo.held (c : Thread nD τ) (uc \ Pipeline.arrRefs spec2) (V5 m (outs m) c) ∗ semVal (barC 0 c) 0)
      ∗ keep2 (start m) c ∗ ∃ Wd, owes (c : Thread nD τ) (0 + tallyL (due2 c)) Wd)
  rw [StableHlo.held_sub_split (c : Thread nD τ) arr2_sub (V5 m (outs m) c), show (StableHlo.held (c.tc : Thread nD τ) ∅ (V5 m (outs m) c) : sProp 𝕄) = BI.emp from BI.bigSep_empty]
  iintro ⟨⟨Ha, Hh⟩, Hp, Hk2, Hb, HO⟩
  isplitl [Ha]; · iexact Ha
  isplitl [Hp]; · iexact Hp
  isplitl [Hh Hb]
  · isplitr; · iempintro
    isplitl [Hh] <;> iassumption
  isplitl [Hk2] <;> iassumption

theorem post2 (c : Dev nD) : (reg2 m).post c ⊢ iprop(StableHlo.held (c : Thread nD τ) uc (V6 m (outs m) c) ∗ rest m 3 c) := by
  show iprop(StableHlo.held (c.tc : Thread nD τ) (Pipeline.arrRefs (τ := τ) spec2) (V6 m (outs m) c) ∗ (∃ r, prngReg c r)
      ∗ (StableHlo.held (c.tc : Thread nD τ) ∅ (V6 m (outs m) c) ∗ StableHlo.held (c : Thread nD τ) (uc \ Pipeline.arrRefs spec2) (V5 m (outs m) c) ∗ semVal (barC 0 c) 0)
      ∗ semVal (barC 1 c) 0 ∗ ∃ Wd, owes (c : Thread nD τ) (0 : CellTallies nD τ sig ℕ) Wd)
    ⊢ iprop(StableHlo.held (c : Thread nD τ) uc (V6 m (outs m) c) ∗ (∃ r, prngReg c r) ∗ semVal (barC 0 c) 0 ∗ semVal (barC 1 c) 0 ∗ ∃ W, owes (c : Thread nD τ) (0 : CellTallies nD τ sig ℕ) W)
  rw [StableHlo.held_sub_split (c : Thread nD τ) arr2_sub (V6 m (outs m) c),
    StableHlo.held_congr (c : Thread nD τ) (V := V5 m (outs m) c) (V' := V6 m (outs m) c) (S := uc \ Pipeline.arrRefs spec2) (fun b hb => (V6_off m c b fun h => by
      subst h; exact absurd hb (by decide)).symm)]
  iintro ⟨Ha, Hp, ⟨-, Hh, Hb⟩, Hb1, HO⟩
  isplitl [Ha Hh]; · isplitl [Ha] <;> iassumption
  isplitl [Hp]; · iexact Hp
  isplitl [Hb]; · iexact Hb
  isplitl [Hb1] <;> iassumption

/-! ## The launch -/

theorem cells_apart : Disjoint (barCells : Finset (GSem nD τ sig)) dmaCells := by
  rw [Finset.disjoint_left]
  rintro g h₁ h₂
  obtain ⟨x, -, rfl⟩ := Finset.mem_map.mp h₁
  obtain ⟨y, -, h⟩ := Finset.mem_map.mp h₂
  have h' : (SemLoc.dma (dmaNo y.2) : SemLoc sig) = .reg x.2 := congrArg Prod.snd h
  exact absurd h' (by simp)

/-- A resource held by device 0 alone. -/
def atZero (X : sProp 𝕄) (c : Dev nD) : sProp 𝕄 := if c = 0 then X else iprop(emp)
theorem atZero_all (X : sProp (MT nD τ sig ℕ (Elt F) ℕ UU ℕ)) : bigSep Finset.univ (atZero X) = X := by
  rw [bigSep_univ_at _ (0 : Dev nD), bigSep_congr (s := Finset.univ.erase 0) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp

/-- The launch's element of the user algebra: the staging pipelines', and the exchanges'. -/
def u₀ : UU :=
  (initOf (Pipeline.cells (Pipeline.pin (pcfgs (F := F)) adm) cellOf_inj) (Pipeline.launchToks (Pipeline.pin (pcfgs (F := F)) adm) cellOf_inj),
    launchOf barCells dmaCells allToks)
def gift : Dev nD → sProp 𝕄 := atZero (BI.own (ER (launchOf barCells dmaCells allToks)))

/-- What every device may consult. -/
def known (K : GSem nD τ sig → ℕ) : sProp 𝕄 := iprop(invs (start m) K ∗ bigSep barCells fun g => reached ER g 0)
instance known_persistent (K : GSem nD τ sig → ℕ) : BI.Persistent (known m K) := by unfold known; infer_instance

theorem known_bar (k : Fin 2) (c : Dev nD) : (bigSep barCells fun g => (reached ER g 0 : sProp 𝕄)) ⊢ reached ER (barC k c) 0 :=
  bigSep_elim (Finset.mem_map.2 ⟨(c, k), Finset.mem_univ _, rfl⟩)

/-- What is dealt to device `c` alone. -/
def share (c : Dev nD) : sProp 𝕄 :=
  iprop((atPos ER (barC 0 c) 0 ∅ 0 ∗ atPos ER (barC 1 c) 0 ∅ 0) ∗ (rights0 c ∗ rights2 c) ∗ (toks0 c ∗ toks2 c))
/-- What a core holds at the launch beside the exchanges' ghost state. -/
def own0 (c : Dev nD) : sProp 𝕄 :=
  iprop(StableHlo.held (c : Thread nD τ) uc (V0 m c) ∗ (creds0 c ∗ creds2 c) ∗ owes (c : Thread nD τ) (O₀ c) ∅ ∗ ∃ r, prngReg c r)

abbrev T₀ (c : Dev nD) : sProp 𝕄 := iprop(StableHlo.held (c : Thread nD τ) uc (V0 m c) ∗ rest m 0 c)

theorem T₀_intro (K : GSem nD τ sig → ℕ) (c : Dev nD) : iprop(known m K ∗ (share c ∗ own0 m c)) ⊢ T₀ m c := by
  unfold own0 share known
  show _ ⊢ iprop(StableHlo.held (c : Thread nD τ) uc (V0 m c) ∗ (∃ r, prngReg c r) ∗ keep0 (start m) c ∗ keep2 (start m) c ∗ ∃ W, owes (c : Thread nD τ) (O₀ c) W)
  unfold keep0 keep2 bars0 bars2
  iintro ⟨⟨#HI, #HR⟩, ⟨⟨Ha0, Ha1⟩, ⟨Hr0, Hr2⟩, Ht0, Ht2⟩, Hh, ⟨Hc0, Hc2⟩, HO, Hp⟩
  isplitl [Hh]; · iexact Hh
  isplitl [Hp]; · iexact Hp
  isplitl [Ha0 Hr0 Ht0 Hc0]
  · isplitr; · iexists K; iexact HI
    isplitl [Ht0]; · iexact Ht0
    isplitl [Hr0]; · iexact Hr0
    isplitl [Ha0]; · iexact Ha0
    isplitr
    · isplitr; · iapply (known_bar (F := F) 0 (pr 1 c)); iexact HR
      isplitr; · iapply (known_bar (F := F) 0 (pr 2 c)); iexact HR
      iapply (known_bar (F := F) 0 (pr 3 c)); iexact HR
    iexact Hc0
  isplitl [Ha1 Hr2 Ht2 Hc2]
  · isplitr; · iexists K; iexact HI
    isplitl [Ht2]; · iexact Ht2
    isplitl [Hr2]; · iexact Hr2
    isplitl [Ha1]; · iexact Ha1
    isplitr
    · isplitr; · iapply (known_bar (F := F) 1 (pr 1 c)); iexact HR
      isplitr; · iapply (known_bar (F := F) 1 (pr 2 c)); iexact HR
      iapply (known_bar (F := F) 1 (pr 3 c)); iexact HR
    iexact Hc2
  iexists ∅; iexact HO

theorem sems_unscoped (c : Dev nD) : (unscopedSems0 c : sProp 𝕄) = iprop(semVal (barC 0 c) 0 ∗ semVal (barC 1 c) 0) := by
  unfold unscopedSems0
  rw [show (Finset.univ.filter fun sm : SemLoc sig => ¬ sm.isScoped .tc) = {.reg 0, .reg 1} from by decide, bigSep_insert (by decide), bigSep_singleton]
  rfl

theorem over_bars (Φ : GSem nD τ sig → sProp (MT nD τ sig ℕ (Elt F) ℕ UU ℕ)) : bigSep barCells Φ = bigSep Finset.univ fun c : Dev nD => iprop(Φ (barC 0 c) ∗ Φ (barC 1 c)) := by
  unfold barCells
  rw [bigSep_map, bigSep_univ_prod]
  exact bigSep_congr fun c _ => BI.bigSep_fin_two (fun k : Fin 2 => Φ (barC k c))

theorem rights_list (c : Dev nD) : (bigSep Finset.univ fun n : Fin 26 => (openTok ER (dmaC (dmaNo n) c) : sProp 𝕄)) = iprop(rights0 c ∗ rights2 c) := by
  unfold rights0 rights2
  rw [list14, list12, bigSep_univ_eq_bigSepL [0, 1, 2, 3, 4, 5, 6, 7, 8, 9, 10, 11, 12, 13, 14, 15, 16, 17, 18, 19, 20, 21, 22, 23, 24, 25] (by decide) (by decide)]
  refine Entails.antisymm ?_ ?_
  · show iprop(openTok ER (dmaC 0 c) ∗ openTok ER (dmaC 1 c) ∗ openTok ER (dmaC 2 c) ∗ openTok ER (dmaC 3 c) ∗ openTok ER (dmaC 4 c) ∗ openTok ER (dmaC 5 c) ∗ openTok ER (dmaC 6 c) ∗ openTok ER (dmaC 7 c) ∗ openTok ER (dmaC 8 c) ∗ openTok ER (dmaC 9 c) ∗ openTok ER (dmaC 10 c) ∗ openTok ER (dmaC 11 c) ∗ openTok ER (dmaC 12 c) ∗ openTok ER (dmaC 13 c) ∗ openTok ER (dmaC 28 c) ∗ openTok ER (dmaC 29 c) ∗ openTok ER (dmaC 30 c) ∗ openTok ER (dmaC 31 c) ∗ openTok ER (dmaC 32 c) ∗ openTok ER (dmaC 33 c) ∗ openTok ER (dmaC 34 c) ∗ openTok ER (dmaC 35 c) ∗ openTok ER (dmaC 36 c) ∗ openTok ER (dmaC 37 c) ∗ openTok ER (dmaC 38 c) ∗ openTok ER (dmaC 39 c)) ⊢ _
    iintro ⟨H0, H1, H2, H3, H4, H5, H6, H7, H8, H9, H10, H11, H12, H13, H14, H15, H16, H17, H18, H19, H20, H21, H22, H23, H24, H25⟩
    isplitl [H0 H1 H2 H3 H4 H5 H6 H7 H8 H9 H10 H11 H12 H13]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      iexact H25
  · show _ ⊢ iprop(openTok ER (dmaC 0 c) ∗ openTok ER (dmaC 1 c) ∗ openTok ER (dmaC 2 c) ∗ openTok ER (dmaC 3 c) ∗ openTok ER (dmaC 4 c) ∗ openTok ER (dmaC 5 c) ∗ openTok ER (dmaC 6 c) ∗ openTok ER (dmaC 7 c) ∗ openTok ER (dmaC 8 c) ∗ openTok ER (dmaC 9 c) ∗ openTok ER (dmaC 10 c) ∗ openTok ER (dmaC 11 c) ∗ openTok ER (dmaC 12 c) ∗ openTok ER (dmaC 13 c) ∗ openTok ER (dmaC 28 c) ∗ openTok ER (dmaC 29 c) ∗ openTok ER (dmaC 30 c) ∗ openTok ER (dmaC 31 c) ∗ openTok ER (dmaC 32 c) ∗ openTok ER (dmaC 33 c) ∗ openTok ER (dmaC 34 c) ∗ openTok ER (dmaC 35 c) ∗ openTok ER (dmaC 36 c) ∗ openTok ER (dmaC 37 c) ∗ openTok ER (dmaC 38 c) ∗ openTok ER (dmaC 39 c))
    iintro ⟨⟨H0, H1, H2, H3, H4, H5, H6, H7, H8, H9, H10, H11, H12, H13⟩, H14, H15, H16, H17, H18, H19, H20, H21, H22, H23, H24, H25⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

theorem rights_dealt : bigSep dmaCells (fun g => (openTok ER g : sProp 𝕄)) ⊢ bigSep Finset.univ fun c : Dev nD => iprop(rights0 c ∗ rights2 c) := by
  unfold dmaCells
  rw [bigSep_map, bigSep_univ_prod]
  exact Entails.of_eq (bigSep_congr fun c _ => rights_list c)

theorem launch_core (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ gift c)
    ⊢ (iprop(own0 m c ∗ ((semVal (barC 0 c) 0 ∗ semVal (barC 1 c) 0) ∗ gift c)) : sProp 𝕄) := by
  rw [show unscopedBufs c (fun b => m ((c : Thread nD τ).loc b)) = (StableHlo.held (c : Thread nD τ) uc (V0 m c) : sProp 𝕄) from Pipeline.unscopedBufs_held c (V0 m c),
    sems_unscoped]
  unfold own0
  iintro ⟨Hh, Hus, HO, Hcr, Hp, HG⟩
  isplitl [Hh HO Hcr Hp]
  · isplitl [Hh]; · iexact Hh
    isplitl [Hcr]; · iapply (creds_dealt (F := F) c); iexact Hcr
    isplitl [HO]; · iexact HO
    iexists (ρ c); iexact Hp
  isplitl [Hus] <;> iassumption

theorem launch_all :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ gift c)) ∗ levAts (L NL) lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ gift c))
      ⊢ (iprop((bigSep Finset.univ fun c => own0 m c) ∗ (bigSep Finset.univ fun c : Dev nD => iprop(semVal (barC 0 c) 0 ∗ semVal (barC 1 c) 0)) ∗ bigSep Finset.univ gift) : sProp 𝕄) from
      (bigSep_mono fun c _ => launch_core m ρ c).trans ((Entails.of_eq (BI.bigSep_sep' _ _ _)).trans (BI.sep_mono (BI.Entails.refl _) (Entails.of_eq (BI.bigSep_sep' _ _ _))))) $$ H
  icases H' with ⟨HB, Hv, HG⟩
  ihave Hv' := (Entails.of_eq (over_bars (F := F) (fun g => semVal g 0)).symm) $$ Hv
  ihave Hu := (show bigSep Finset.univ (gift (F := F)) ⊢ BI.own (ER (launchOf barCells dmaCells allToks)) from Entails.of_eq (atZero_all (F := F) _)) $$ HG
  imod (Rounds.fund_launch ER (sched (start m)) cells_apart (fun g _ h => h) allToks) $$ [Hv' Hu] with ⟨%K, -, #Hinv, #Hr, Hat, Hopen, Htok⟩
  · isplitl [Hv'] <;> iassumption
  imodintro
  iapply (bigSep_with_persistent (R := known m K) (Φ := fun c => iprop(share c ∗ own0 m c)) fun c _ => T₀_intro m K c)
  isplitr
  · unfold known invs
    isplitr; · iexact Hinv
    iexact Hr
  iapply (Entails.of_eq (BI.bigSep_sep' _ _ _).symm)
  isplitr [HB]
  · unfold share
    iapply (Entails.of_eq (BI.bigSep_sep' _ _ _).symm)
    isplitl [Hat]; · iapply (Entails.of_eq (over_bars (F := F) (fun g => atPos ER g 0 ∅ 0))); iexact Hat
    iapply (Entails.of_eq (BI.bigSep_sep' _ _ _).symm)
    isplitl [Hopen]; · iapply (rights_dealt (F := F)); iexact Hopen
    iapply (toks_dealt (F := F)); iexact Htok
  · iexact HB

/-! ## The run -/

abbrev Tₙ (c : Dev nD) : sProp 𝕄 := iprop(StableHlo.held (c : Thread nD τ) uc (V7 m (outs m) c) ∗ semVal (barC 0 c) 0 ∗ semVal (barC 1 c) 0)

theorem unscoped_sem : ∀ sm : SemLoc sig, sm.isScoped .tc = false → sm = .reg 0 ∨ sm = .reg 1 := by decide

set_option backward.isDefEq.respectTransparency.types false in
/-- From any memory with every counter at zero, every weakly fair execution of the four devices ends, with the arguments as they
    were, the result array at its last valuation, and every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v18) = V7 m (outs m) c main_v18) ∧ r.2.sem = fun _ => 0) :=
  Pipeline.θ_run_regions_kit_dev_sems (pcfgs (F := F)) adm (pdats m) 0 cellOf_inj EP defs₀ 𝒱₀ (L NL) lv m ρ main
    (segs m (outs m) 𝒱₀ (L NL) lv (rest m) 0 (pdats m) (reg0 m) (reg1 m) (reg2 m))
    (fun c Q => by
      rewrite [main_chain c, Pipeline.Seg.run_eq_chain,
        show (segs m (outs m) 𝒱₀ (L NL) lv (rest m) 0 (pdats m) (reg0 m) (reg1 m) (reg2 m) c).map Pipeline.Seg.prog = [
          StableHlo.seq hostOps0, Prog.lift (.customCall (Pipeline.entry 0) ()), StableHlo.seq hostOps1, Prog.lift (.customCall (Pipeline.entry 1) ()),
          StableHlo.seq hostOps2, Prog.lift (.customCall (Pipeline.entry 2) ()), StableHlo.seq hostOps3 ] from rfl]
      dsimp (config := { failIfUnchanged := false }) only
      exact .rfl)
    (fun c => by simp only [segs, Pipeline.Seg.pipes_host, Pipeline.Seg.pipes_region, Pipeline.Seg.pipes_nil]; decide)
    (O₀ := O₀) (hL := SiteBlocks.hL NL) (G := gift) (u₀ := u₀ (F := F))
    (hu₀ := by
      unfold u₀ gift
      iintro Hu
      ihave H := (ownU_pair _ _) $$ Hu
      icases H with ⟨HP, HX⟩
      imodintro
      isplitl [HP]; · iexact HP
      rw [atZero_all]; iexact HX)
    (T₀ := T₀ m) (Tₙ := Tₙ m)
    (hch := fun c => ⟨.rfl, pre0 m c, post0 m c, pre1 m c, post1 m c, pre2 m c, post2 m c, by
      show iprop(StableHlo.held (c : Thread nD τ) uc (V7 m (outs m) c) ∗ (∃ r, prngReg c r) ∗ semVal (barC 0 c) 0 ∗ semVal (barC 1 c) 0 ∗ ∃ W, owes (c : Thread nD τ) (0 : CellTallies nD τ sig ℕ) W)
        ⊢ iprop(Tₙ m c ∗ ∃ W, owes (c : Thread nD τ) (0 : CellTallies nD τ sig ℕ) W)
      iintro ⟨Hh, -, Hb0, Hb1, HO⟩
      isplitr [HO]
      · isplitl [Hh]; · iexact Hh
        isplitl [Hb0] <;> iassumption
      · iexact HO⟩)
    (hinit := launch_all m ρ)
    (QY := fun c s => (∀ b ∈ uc, s.mem ((c : Thread nD τ).1, b) = V7 m (outs m) c b) ∧ s.sem (barC 0 c) = 0 ∧ s.sem (barC 1 c) = 0)
    (hfin := fun c s' => by
      dsimp only [Tₙ]
      unfold StableHlo.held
      iintro ⟨⟨Hh, Hb0, Hb1⟩, HSI⟩
      ihave Hr := (pointsTo_read_all (Pipeline.ucRefs τ sig) (fun b => ((c : Thread nD τ).1, b)) (V7 m (outs m) c) s') $$ [Hh HSI]
      · isplitl [Hh] <;> iassumption
      icases Hr with ⟨%h, HSI⟩
      icombine HSI Hb0 gives %hb0
      icombine HSI Hb1 gives %hb1
      imodintro
      isplitr
      · ipureintro
        exact ⟨h, by simpa using hb0, by simpa using hb1⟩
      iexact HSI)
    (hQ := fun s h hs => ⟨fun c =>
        ⟨((h c).1 (Proc.devRef .tc main_arg0) (Finset.mem_filter.mpr ⟨StableHlo.devRef_mem_tcRefs main_arg0, by decide⟩)).trans (V7_main_arg0 m (outs m) c),
        ((h c).1 (Proc.devRef .tc main_arg1) (Finset.mem_filter.mpr ⟨StableHlo.devRef_mem_tcRefs main_arg1, by decide⟩)).trans (V7_main_arg1 m (outs m) c),
        ((h c).1 (Proc.devRef .tc main_arg2) (Finset.mem_filter.mpr ⟨StableHlo.devRef_mem_tcRefs main_arg2, by decide⟩)).trans (V7_main_arg2 m (outs m) c),
        ((h c).1 (Proc.devRef .tc main_arg3) (Finset.mem_filter.mpr ⟨StableHlo.devRef_mem_tcRefs main_arg3, by decide⟩)).trans (V7_main_arg3 m (outs m) c),
        ((h c).1 (Proc.devRef .tc main_arg4) (Finset.mem_filter.mpr ⟨StableHlo.devRef_mem_tcRefs main_arg4, by decide⟩)).trans (V7_main_arg4 m (outs m) c),
        (h c).1 (Proc.devRef .tc main_v18) (Finset.mem_filter.mpr ⟨StableHlo.devRef_mem_tcRefs main_v18, by decide⟩)⟩,
      sem_eq_zero hs fun c sm hsm => by
        rcases unscoped_sem sm hsm with rfl | rfl
        · exact (h c).2.1
        · exact (h c).2.2⟩)

end Cert.Tp

end
-- ==== Proof.RefOps.lean ====
/-
  The reference's operations as six lists, in the order in which @main runs them, and the run: @main is the lists one
  after another, so every final state has each buffer at the lists' results folded over the launch contents.
-/
module

public import Idealize.ShloMosaic.Lib.StableHlo.Run
public import Idealize.ShloMosaic.Lib.Pipeline.Frame
public import proofs.«01_k».proof.Proof.Gen.ReferenceIdeal

@[expose] public section

set_option backward.proofsInPublic true
set_option maxRecDepth 16384

noncomputable section

namespace Cert.Tp.Ref

open Cert.ReferenceIdeal Cert.ReferenceIdeal.Gen
open Idealize.ShloMosaic Idealize.ShloMosaic.TcCoe Idealize.ShloMosaic.StableHlo Idealize.SL.Sem

variable {F : FTy → Type} [FloatOps F]

/-- The queries: x·Wq, cut into heads. -/
abbrev qOps : List (HloOp τ sig (Elt F)) :=
  [ StableHlo.binary main_arg0 main_arg1 main_v0 ((fun l r => Host.dotGeneral dot_S1x2048x1024_S1024x4096_S1x2048x4096_2_0_01_1_n_n none l r) : (⟨S1x2048x1024, .f32⟩ : BufTy).Contents (Elt F) → (⟨S1024x4096, .f32⟩ : BufTy).Contents (Elt F) → (⟨S1x2048x4096, .f32⟩ : BufTy).Contents (Elt F)),
    StableHlo.reshape main_v0 main_v1 (rfl : (.f32 : EltTy) = .f32) shapeCasts_S1x2048x4096_S1x2048x32x128 ]

/-- Which keys a query sees. -/
abbrev maskOps : List (HloOp τ sig (Elt F)) :=
  [ StableHlo.nullary main_v2 (iotaInDim S2048 32 0),
    StableHlo.nullary main_c (constantI S_ 32 64#32),
    StableHlo.unary main_c main_call0_v0 (id : (⟨S_, .i32⟩ : BufTy).Contents (Elt F) → (⟨S_, .i32⟩ : BufTy).Contents (Elt F)),
    StableHlo.unary main_call0_v0 main_call0_v1 ((broadcastInDim S2048 ![] bcast_S_S2048) : (⟨S_, .i32⟩ : BufTy).Contents (Elt F) → (⟨S2048, .i32⟩ : BufTy).Contents (Elt F)),
    StableHlo.binary main_v2 main_call0_v1 main_call0_v2 (Host.divsi : (⟨S2048, .i32⟩ : BufTy).Contents (Elt F) → (⟨S2048, .i32⟩ : BufTy).Contents (Elt F) → (⟨S2048, .i32⟩ : BufTy).Contents (Elt F)),
    StableHlo.unary main_v2 main_call0_v3 (signi : (⟨S2048, .i32⟩ : BufTy).Contents (Elt F) → (⟨S2048, .i32⟩ : BufTy).Contents (Elt F)),
    StableHlo.unary main_call0_v0 main_call0_v4 (signi : (⟨S_, .i32⟩ : BufTy).Contents (Elt F) → (⟨S_, .i32⟩ : BufTy).Contents (Elt F)),
    StableHlo.unary main_call0_v4 main_call0_v5 ((broadcastInDim S2048 ![] bcast_S_S2048) : (⟨S_, .i32⟩ : BufTy).Contents (Elt F) → (⟨S2048, .i32⟩ : BufTy).Contents (Elt F)),
    StableHlo.binary main_call0_v3 main_call0_v5 main_call0_v6 ((cmpi .ne) : (⟨S2048, .i32⟩ : BufTy).Contents (Elt F) → (⟨S2048, .i32⟩ : BufTy).Contents (Elt F) → (⟨S2048, .i1⟩ : BufTy).Contents (Elt F)),
    StableHlo.unary main_call0_v0 main_call0_v7 ((broadcastInDim S2048 ![] bcast_S_S2048) : (⟨S_, .i32⟩ : BufTy).Contents (Elt F) → (⟨S2048, .i32⟩ : BufTy).Contents (Elt F)),
    StableHlo.binary main_v2 main_call0_v7 main_call0_v8 (Host.remsi : (⟨S2048, .i32⟩ : BufTy).Contents (Elt F) → (⟨S2048, .i32⟩ : BufTy).Contents (Elt F) → (⟨S2048, .i32⟩ : BufTy).Contents (Elt F)),
    StableHlo.nullary main_call0_c ((constantI S_ 32 0#32) : (⟨S_, .i32⟩ : BufTy).Contents (Elt F)),
    StableHlo.unary main_call0_c main_call0_v9 ((broadcastInDim S2048 ![] bcast_S_S2048) : (⟨S_, .i32⟩ : BufTy).Contents (Elt F) → (⟨S2048, .i32⟩ : BufTy).Contents (Elt F)),
    StableHlo.binary main_call0_v8 main_call0_v9 main_call0_v10 ((cmpi .ne) : (⟨S2048, .i32⟩ : BufTy).Contents (Elt F) → (⟨S2048, .i32⟩ : BufTy).Contents (Elt F) → (⟨S2048, .i1⟩ : BufTy).Contents (Elt F)),
    StableHlo.binary main_call0_v6 main_call0_v10 main_call0_v11 (andi : (⟨S2048, .i1⟩ : BufTy).Contents (Elt F) → (⟨S2048, .i1⟩ : BufTy).Contents (Elt F) → (⟨S2048, .i1⟩ : BufTy).Contents (Elt F)),
    StableHlo.nullary main_call0_c_0 ((constantI S_ 32 1#32) : (⟨S_, .i32⟩ : BufTy).Contents (Elt F)),
    StableHlo.unary main_call0_c_0 main_call0_v12 ((broadcastInDim S2048 ![] bcast_S_S2048) : (⟨S_, .i32⟩ : BufTy).Contents (Elt F) → (⟨S2048, .i32⟩ : BufTy).Contents (Elt F)),
    StableHlo.binary main_call0_v2 main_call0_v12 main_call0_v13 (subi : (⟨S2048, .i32⟩ : BufTy).Contents (Elt F) → (⟨S2048, .i32⟩ : BufTy).Contents (Elt F) → (⟨S2048, .i32⟩ : BufTy).Contents (Elt F)),
    StableHlo.ternary main_call0_v11 main_call0_v13 main_call0_v2 main_v3 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v3 main_v4 (broadcastInDim S2048x1 ![0] bcast_S2048_S2048x1_0 : (⟨S2048, .i32⟩ : BufTy).Contents (Elt F) → (⟨S2048x1, .i32⟩ : BufTy).Contents (Elt F)),
    StableHlo.nullary main_v5 (iotaInDim S8192 32 0),
    StableHlo.nullary main_c_0 (constantI S_ 32 64#32),
    StableHlo.unary main_c_0 main_call1_v0 (id : (⟨S_, .i32⟩ : BufTy).Contents (Elt F) → (⟨S_, .i32⟩ : BufTy).Contents (Elt F)),
    StableHlo.unary main_call1_v0 main_call1_v1 ((broadcastInDim S8192 ![] bcast_S_S8192) : (⟨S_, .i32⟩ : BufTy).Contents (Elt F) → (⟨S8192, .i32⟩ : BufTy).Contents (Elt F)),
    StableHlo.binary main_v5 main_call1_v1 main_call1_v2 (Host.divsi : (⟨S8192, .i32⟩ : BufTy).Contents (Elt F) → (⟨S8192, .i32⟩ : BufTy).Contents (Elt F) → (⟨S8192, .i32⟩ : BufTy).Contents (Elt F)),
    StableHlo.unary main_v5 main_call1_v3 (signi : (⟨S8192, .i32⟩ : BufTy).Contents (Elt F) → (⟨S8192, .i32⟩ : BufTy).Contents (Elt F)),
    StableHlo.unary main_call1_v0 main_call1_v4 (signi : (⟨S_, .i32⟩ : BufTy).Contents (Elt F) → (⟨S_, .i32⟩ : BufTy).Contents (Elt F)),
    StableHlo.unary main_call1_v4 main_call1_v5 ((broadcastInDim S8192 ![] bcast_S_S8192) : (⟨S_, .i32⟩ : BufTy).Contents (Elt F) → (⟨S8192, .i32⟩ : BufTy).Contents (Elt F)),
    StableHlo.binary main_call1_v3 main_call1_v5 main_call1_v6 ((cmpi .ne) : (⟨S8192, .i32⟩ : BufTy).Contents (Elt F) → (⟨S8192, .i32⟩ : BufTy).Contents (Elt F) → (⟨S8192, .i1⟩ : BufTy).Contents (Elt F)),
    StableHlo.unary main_call1_v0 main_call1_v7 ((broadcastInDim S8192 ![] bcast_S_S8192) : (⟨S_, .i32⟩ : BufTy).Contents (Elt F) → (⟨S8192, .i32⟩ : BufTy).Contents (Elt F)),
    StableHlo.binary main_v5 main_call1_v7 main_call1_v8 (Host.remsi : (⟨S8192, .i32⟩ : BufTy).Contents (Elt F) → (⟨S8192, .i32⟩ : BufTy).Contents (Elt F) → (⟨S8192, .i32⟩ : BufTy).Contents (Elt F)),
    StableHlo.nullary main_call1_c ((constantI S_ 32 0#32) : (⟨S_, .i32⟩ : BufTy).Contents (Elt F)),
    StableHlo.unary main_call1_c main_call1_v9 ((broadcastInDim S8192 ![] bcast_S_S8192) : (⟨S_, .i32⟩ : BufTy).Contents (Elt F) → (⟨S8192, .i32⟩ : BufTy).Contents (Elt F)),
    StableHlo.binary main_call1_v8 main_call1_v9 main_call1_v10 ((cmpi .ne) : (⟨S8192, .i32⟩ : BufTy).Contents (Elt F) → (⟨S8192, .i32⟩ : BufTy).Contents (Elt F) → (⟨S8192, .i1⟩ : BufTy).Contents (Elt F)),
    StableHlo.binary main_call1_v6 main_call1_v10 main_call1_v11 (andi : (⟨S8192, .i1⟩ : BufTy).Contents (Elt F) → (⟨S8192, .i1⟩ : BufTy).Contents (Elt F) → (⟨S8192, .i1⟩ : BufTy).Contents (Elt F)),
    StableHlo.nullary main_call1_c_0 ((constantI S_ 32 1#32) : (⟨S_, .i32⟩ : BufTy).Contents (Elt F)),
    StableHlo.unary main_call1_c_0 main_call1_v12 ((broadcastInDim S8192 ![] bcast_S_S8192) : (⟨S_, .i32⟩ : BufTy).Contents (Elt F) → (⟨S8192, .i32⟩ : BufTy).Contents (Elt F)),
    StableHlo.binary main_call1_v2 main_call1_v12 main_call1_v13 (subi : (⟨S8192, .i32⟩ : BufTy).Contents (Elt F) → (⟨S8192, .i32⟩ : BufTy).Contents (Elt F) → (⟨S8192, .i32⟩ : BufTy).Contents (Elt F)),
    StableHlo.ternary main_call1_v11 main_call1_v13 main_call1_v2 main_v6 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v6 main_v7 (broadcastInDim S1x8192 ![1] bcast_S8192_S1x8192_1 : (⟨S8192, .i32⟩ : BufTy).Contents (Elt F) → (⟨S1x8192, .i32⟩ : BufTy).Contents (Elt F)),
    StableHlo.unary main_v4 main_v8 (broadcastInDim S2048x8192 ![0, 1] bcast_S2048x1_S2048x8192_0_1 : (⟨S2048x1, .i32⟩ : BufTy).Contents (Elt F) → (⟨S2048x8192, .i32⟩ : BufTy).Contents (Elt F)),
    StableHlo.unary main_v7 main_v9 (broadcastInDim S2048x8192 ![0, 1] bcast_S1x8192_S2048x8192_0_1 : (⟨S1x8192, .i32⟩ : BufTy).Contents (Elt F) → (⟨S2048x8192, .i32⟩ : BufTy).Contents (Elt F)),
    StableHlo.binary main_v8 main_v9 main_v10 (cmpi .eq : (⟨S2048x8192, .i32⟩ : BufTy).Contents (Elt F) → (⟨S2048x8192, .i32⟩ : BufTy).Contents (Elt F) → (⟨S2048x8192, .i1⟩ : BufTy).Contents (Elt F)),
    StableHlo.nullary main_c_1 (constantI S_ 32 4#32),
    StableHlo.unary main_c_1 main_call2_v0 (id : (⟨S_, .i32⟩ : BufTy).Contents (Elt F) → (⟨S_, .i32⟩ : BufTy).Contents (Elt F)),
    StableHlo.nullary main_call2_c ((constantI S_ 32 0#32) : (⟨S_, .i32⟩ : BufTy).Contents (Elt F)),
    StableHlo.binary main_call2_v0 main_call2_c main_call2_v1 ((cmpi .eq) : (⟨S_, .i32⟩ : BufTy).Contents (Elt F) → (⟨S_, .i32⟩ : BufTy).Contents (Elt F) → (⟨S_, .i1⟩ : BufTy).Contents (Elt F)),
    StableHlo.nullary main_call2_c_0 ((constantI S_ 32 1#32) : (⟨S_, .i32⟩ : BufTy).Contents (Elt F)),
    StableHlo.ternary main_call2_v1 main_call2_c_0 main_call2_v0 main_call2_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call2_v2 main_call2_v3 ((broadcastInDim S1x8192 ![] bcast_S_S1x8192) : (⟨S_, .i32⟩ : BufTy).Contents (Elt F) → (⟨S1x8192, .i32⟩ : BufTy).Contents (Elt F)),
    StableHlo.binary main_v7 main_call2_v3 main_call2_v4 (Host.remsi : (⟨S1x8192, .i32⟩ : BufTy).Contents (Elt F) → (⟨S1x8192, .i32⟩ : BufTy).Contents (Elt F) → (⟨S1x8192, .i32⟩ : BufTy).Contents (Elt F)),
    StableHlo.nullary main_call2_c_1 ((constantI S_ 32 0#32) : (⟨S_, .i32⟩ : BufTy).Contents (Elt F)),
    StableHlo.unary main_call2_c_1 main_call2_v5 ((broadcastInDim S1x8192 ![] bcast_S_S1x8192) : (⟨S_, .i32⟩ : BufTy).Contents (Elt F) → (⟨S1x8192, .i32⟩ : BufTy).Contents (Elt F)),
    StableHlo.binary main_call2_v4 main_call2_v5 main_call2_v6 ((cmpi .ne) : (⟨S1x8192, .i32⟩ : BufTy).Contents (Elt F) → (⟨S1x8192, .i32⟩ : BufTy).Contents (Elt F) → (⟨S1x8192, .i1⟩ : BufTy).Contents (Elt F)),
    StableHlo.nullary main_call2_c_2 ((constantI S_ 32 0#32) : (⟨S_, .i32⟩ : BufTy).Contents (Elt F)),
    StableHlo.unary main_call2_c_2 main_call2_v7 ((broadcastInDim S1x8192 ![] bcast_S_S1x8192) : (⟨S_, .i32⟩ : BufTy).Contents (Elt F) → (⟨S1x8192, .i32⟩ : BufTy).Contents (Elt F)),
    StableHlo.binary main_call2_v4 main_call2_v7 main_call2_v8 ((cmpi .slt) : (⟨S1x8192, .i32⟩ : BufTy).Contents (Elt F) → (⟨S1x8192, .i32⟩ : BufTy).Contents (Elt F) → (⟨S1x8192, .i1⟩ : BufTy).Contents (Elt F)),
    StableHlo.nullary main_call2_c_3 ((constantI S_ 32 0#32) : (⟨S_, .i32⟩ : BufTy).Contents (Elt F)),
    StableHlo.binary main_call2_v2 main_call2_c_3 main_call2_v9 ((cmpi .slt) : (⟨S_, .i32⟩ : BufTy).Contents (Elt F) → (⟨S_, .i32⟩ : BufTy).Contents (Elt F) → (⟨S_, .i1⟩ : BufTy).Contents (Elt F)),
    StableHlo.unary main_call2_v9 main_call2_v10 ((broadcastInDim S1x8192 ![] bcast_S_S1x8192) : (⟨S_, .i1⟩ : BufTy).Contents (Elt F) → (⟨S1x8192, .i1⟩ : BufTy).Contents (Elt F)),
    StableHlo.binary main_call2_v8 main_call2_v10 main_call2_v11 ((cmpi .ne) : (⟨S1x8192, .i1⟩ : BufTy).Contents (Elt F) → (⟨S1x8192, .i1⟩ : BufTy).Contents (Elt F) → (⟨S1x8192, .i1⟩ : BufTy).Contents (Elt F)),
    StableHlo.binary main_call2_v11 main_call2_v6 main_call2_v12 (andi : (⟨S1x8192, .i1⟩ : BufTy).Contents (Elt F) → (⟨S1x8192, .i1⟩ : BufTy).Contents (Elt F) → (⟨S1x8192, .i1⟩ : BufTy).Contents (Elt F)),
    StableHlo.unary main_call2_v2 main_call2_v13 ((broadcastInDim S1x8192 ![] bcast_S_S1x8192) : (⟨S_, .i32⟩ : BufTy).Contents (Elt F) → (⟨S1x8192, .i32⟩ : BufTy).Contents (Elt F)),
    StableHlo.binary main_call2_v4 main_call2_v13 main_call2_v14 (addi : (⟨S1x8192, .i32⟩ : BufTy).Contents (Elt F) → (⟨S1x8192, .i32⟩ : BufTy).Contents (Elt F) → (⟨S1x8192, .i32⟩ : BufTy).Contents (Elt F)),
    StableHlo.ternary main_call2_v12 main_call2_v14 main_call2_v4 main_v11 (select : (⟨S1x8192, .i1⟩ : BufTy).Contents (Elt F) → (⟨S1x8192, .i32⟩ : BufTy).Contents (Elt F) → (⟨S1x8192, .i32⟩ : BufTy).Contents (Elt F) → (⟨S1x8192, .i32⟩ : BufTy).Contents (Elt F)),
    StableHlo.nullary main_c_2 (constantI S_ 32 4#32),
    StableHlo.unary main_c_2 main_call3_v0 (id : (⟨S_, .i32⟩ : BufTy).Contents (Elt F) → (⟨S_, .i32⟩ : BufTy).Contents (Elt F)),
    StableHlo.nullary main_call3_c ((constantI S_ 32 0#32) : (⟨S_, .i32⟩ : BufTy).Contents (Elt F)),
    StableHlo.binary main_call3_v0 main_call3_c main_call3_v1 ((cmpi .eq) : (⟨S_, .i32⟩ : BufTy).Contents (Elt F) → (⟨S_, .i32⟩ : BufTy).Contents (Elt F) → (⟨S_, .i1⟩ : BufTy).Contents (Elt F)),
    StableHlo.nullary main_call3_c_0 ((constantI S_ 32 1#32) : (⟨S_, .i32⟩ : BufTy).Contents (Elt F)),
    StableHlo.ternary main_call3_v1 main_call3_c_0 main_call3_v0 main_call3_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call3_v2 main_call3_v3 ((broadcastInDim S2048x1 ![] bcast_S_S2048x1) : (⟨S_, .i32⟩ : BufTy).Contents (Elt F) → (⟨S2048x1, .i32⟩ : BufTy).Contents (Elt F)),
    StableHlo.binary main_v4 main_call3_v3 main_call3_v4 (Host.remsi : (⟨S2048x1, .i32⟩ : BufTy).Contents (Elt F) → (⟨S2048x1, .i32⟩ : BufTy).Contents (Elt F) → (⟨S2048x1, .i32⟩ : BufTy).Contents (Elt F)),
    StableHlo.nullary main_call3_c_1 ((constantI S_ 32 0#32) : (⟨S_, .i32⟩ : BufTy).Contents (Elt F)),
    StableHlo.unary main_call3_c_1 main_call3_v5 ((broadcastInDim S2048x1 ![] bcast_S_S2048x1) : (⟨S_, .i32⟩ : BufTy).Contents (Elt F) → (⟨S2048x1, .i32⟩ : BufTy).Contents (Elt F)),
    StableHlo.binary main_call3_v4 main_call3_v5 main_call3_v6 ((cmpi .ne) : (⟨S2048x1, .i32⟩ : BufTy).Contents (Elt F) → (⟨S2048x1, .i32⟩ : BufTy).Contents (Elt F) → (⟨S2048x1, .i1⟩ : BufTy).Contents (Elt F)),
    StableHlo.nullary main_call3_c_2 ((constantI S_ 32 0#32) : (⟨S_, .i32⟩ : BufTy).Contents (Elt F)),
    StableHlo.unary main_call3_c_2 main_call3_v7 ((broadcastInDim S2048x1 ![] bcast_S_S2048x1) : (⟨S_, .i32⟩ : BufTy).Contents (Elt F) → (⟨S2048x1, .i32⟩ : BufTy).Contents (Elt F)),
    StableHlo.binary main_call3_v4 main_call3_v7 main_call3_v8 ((cmpi .slt) : (⟨S2048x1, .i32⟩ : BufTy).Contents (Elt F) → (⟨S2048x1, .i32⟩ : BufTy).Contents (Elt F) → (⟨S2048x1, .i1⟩ : BufTy).Contents (Elt F)),
    StableHlo.nullary main_call3_c_3 ((constantI S_ 32 0#32) : (⟨S_, .i32⟩ : BufTy).Contents (Elt F)),
    StableHlo.binary main_call3_v2 main_call3_c_3 main_call3_v9 ((cmpi .slt) : (⟨S_, .i32⟩ : BufTy).Contents (Elt F) → (⟨S_, .i32⟩ : BufTy).Contents (Elt F) → (⟨S_, .i1⟩ : BufTy).Contents (Elt F)),
    StableHlo.unary main_call3_v9 main_call3_v10 ((broadcastInDim S2048x1 ![] bcast_S_S2048x1) : (⟨S_, .i1⟩ : BufTy).Contents (Elt F) → (⟨S2048x1, .i1⟩ : BufTy).Contents (Elt F)),
    StableHlo.binary main_call3_v8 main_call3_v10 main_call3_v11 ((cmpi .ne) : (⟨S2048x1, .i1⟩ : BufTy).Contents (Elt F) → (⟨S2048x1, .i1⟩ : BufTy).Contents (Elt F) → (⟨S2048x1, .i1⟩ : BufTy).Contents (Elt F)),
    StableHlo.binary main_call3_v11 main_call3_v6 main_call3_v12 (andi : (⟨S2048x1, .i1⟩ : BufTy).Contents (Elt F) → (⟨S2048x1, .i1⟩ : BufTy).Contents (Elt F) → (⟨S2048x1, .i1⟩ : BufTy).Contents (Elt F)),
    StableHlo.unary main_call3_v2 main_call3_v13 ((broadcastInDim S2048x1 ![] bcast_S_S2048x1) : (⟨S_, .i32⟩ : BufTy).Contents (Elt F) → (⟨S2048x1, .i32⟩ : BufTy).Contents (Elt F)),
    StableHlo.binary main_call3_v4 main_call3_v13 main_call3_v14 (addi : (⟨S2048x1, .i32⟩ : BufTy).Contents (Elt F) → (⟨S2048x1, .i32⟩ : BufTy).Contents (Elt F) → (⟨S2048x1, .i32⟩ : BufTy).Contents (Elt F)),
    StableHlo.ternary main_call3_v12 main_call3_v14 main_call3_v4 main_v12 (select : (⟨S2048x1, .i1⟩ : BufTy).Contents (Elt F) → (⟨S2048x1, .i32⟩ : BufTy).Contents (Elt F) → (⟨S2048x1, .i32⟩ : BufTy).Contents (Elt F) → (⟨S2048x1, .i32⟩ : BufTy).Contents (Elt F)),
    StableHlo.unary main_v11 main_v13 (broadcastInDim S2048x8192 ![0, 1] bcast_S1x8192_S2048x8192_0_1 : (⟨S1x8192, .i32⟩ : BufTy).Contents (Elt F) → (⟨S2048x8192, .i32⟩ : BufTy).Contents (Elt F)),
    StableHlo.unary main_v12 main_v14 (broadcastInDim S2048x8192 ![0, 1] bcast_S2048x1_S2048x8192_0_1 : (⟨S2048x1, .i32⟩ : BufTy).Contents (Elt F) → (⟨S2048x8192, .i32⟩ : BufTy).Contents (Elt F)),
    StableHlo.binary main_v13 main_v14 main_v15 (cmpi .eq : (⟨S2048x8192, .i32⟩ : BufTy).Contents (Elt F) → (⟨S2048x8192, .i32⟩ : BufTy).Contents (Elt F) → (⟨S2048x8192, .i1⟩ : BufTy).Contents (Elt F)),
    StableHlo.binary main_v10 main_v15 main_v16 (ori : (⟨S2048x8192, .i1⟩ : BufTy).Contents (Elt F) → (⟨S2048x8192, .i1⟩ : BufTy).Contents (Elt F) → (⟨S2048x8192, .i1⟩ : BufTy).Contents (Elt F)) ]

/-- The scaled scores, those of unseen keys at −∞. -/
abbrev scoreOps : List (HloOp τ sig (Elt F)) :=
  [ StableHlo.binary main_v1 main_arg2 main_v17 ((fun l r => Host.dotGeneral dot_S1x2048x32x128_S1x8192x32x128_S1x32x2048x8192_3_3_1_1_02_02 none l r) : (⟨S1x2048x32x128, .f32⟩ : BufTy).Contents (Elt F) → (⟨S1x8192x32x128, .f32⟩ : BufTy).Contents (Elt F) → (⟨S1x32x2048x8192, .f32⟩ : BufTy).Contents (Elt F)),
    StableHlo.nullary main_cst (constant S_ .f32 0x3DB504F3#32),
    StableHlo.unary main_cst main_v18 (broadcastInDim S1x32x2048x8192 ![] bcast_S_S1x32x2048x8192 : (⟨S_, .f32⟩ : BufTy).Contents (Elt F) → (⟨S1x32x2048x8192, .f32⟩ : BufTy).Contents (Elt F)),
    StableHlo.binary main_v17 main_v18 main_v19 (mulf : (⟨S1x32x2048x8192, .f32⟩ : BufTy).Contents (Elt F) → (⟨S1x32x2048x8192, .f32⟩ : BufTy).Contents (Elt F) → (⟨S1x32x2048x8192, .f32⟩ : BufTy).Contents (Elt F)),
    StableHlo.unary main_v16 main_v20 (broadcastInDim S1x1x2048x8192 ![2, 3] bcast_S2048x8192_S1x1x2048x8192_2_3 : (⟨S2048x8192, .i1⟩ : BufTy).Contents (Elt F) → (⟨S1x1x2048x8192, .i1⟩ : BufTy).Contents (Elt F)),
    StableHlo.nullary main_cst_3 (constant S_ .f32 0xFF800000#32),
    StableHlo.unary main_cst_3 main_call4_v0 (id : (⟨S_, .f32⟩ : BufTy).Contents (Elt F) → (⟨S_, .f32⟩ : BufTy).Contents (Elt F)),
    StableHlo.unary main_v20 main_call4_v1 ((broadcastInDim S1x32x2048x8192 ![0, 1, 2, 3] bcast_S1x1x2048x8192_S1x32x2048x8192_0_1_2_3) : (⟨S1x1x2048x8192, .i1⟩ : BufTy).Contents (Elt F) → (⟨S1x32x2048x8192, .i1⟩ : BufTy).Contents (Elt F)),
    StableHlo.unary main_call4_v0 main_call4_v2 ((broadcastInDim S1x32x2048x8192 ![] bcast_S_S1x32x2048x8192) : (⟨S_, .f32⟩ : BufTy).Contents (Elt F) → (⟨S1x32x2048x8192, .f32⟩ : BufTy).Contents (Elt F)),
    StableHlo.ternary main_call4_v1 main_v19 main_call4_v2 main_v21 (select : (⟨S1x32x2048x8192, .i1⟩ : BufTy).Contents (Elt F) → (⟨S1x32x2048x8192, .f32⟩ : BufTy).Contents (Elt F) → (⟨S1x32x2048x8192, .f32⟩ : BufTy).Contents (Elt F) → (⟨S1x32x2048x8192, .f32⟩ : BufTy).Contents (Elt F)) ]

/-- The exponentials of the scores less their row's largest. -/
abbrev expOps : List (HloOp τ sig (Elt F)) :=
  [ StableHlo.nullary main_cst_4 (constant S_ .f32 0xFF800000#32),
    StableHlo.binary main_v21 main_cst_4 main_v22 ((fun x v => Host.reduce FloatOps.maximumf x v reducesTo_S1x32x2048x8192_S1x32x2048_d3 h_S_) : (⟨S1x32x2048x8192, .f32⟩ : BufTy).Contents (Elt F) → (⟨S_, .f32⟩ : BufTy).Contents (Elt F) → (⟨S1x32x2048, .f32⟩ : BufTy).Contents (Elt F)),
    StableHlo.unary main_v22 main_v23 (broadcastInDim S1x32x2048x1 ![0, 1, 2] bcast_S1x32x2048_S1x32x2048x1_0_1_2 : (⟨S1x32x2048, .f32⟩ : BufTy).Contents (Elt F) → (⟨S1x32x2048x1, .f32⟩ : BufTy).Contents (Elt F)),
    StableHlo.unary main_v23 main_v24 (broadcastInDim S1x32x2048x8192 ![0, 1, 2, 3] bcast_S1x32x2048x1_S1x32x2048x8192_0_1_2_3 : (⟨S1x32x2048x1, .f32⟩ : BufTy).Contents (Elt F) → (⟨S1x32x2048x8192, .f32⟩ : BufTy).Contents (Elt F)),
    StableHlo.binary main_v21 main_v24 main_v25 (subf : (⟨S1x32x2048x8192, .f32⟩ : BufTy).Contents (Elt F) → (⟨S1x32x2048x8192, .f32⟩ : BufTy).Contents (Elt F) → (⟨S1x32x2048x8192, .f32⟩ : BufTy).Contents (Elt F)),
    StableHlo.unary main_v25 main_v26 (Host.exp : (⟨S1x32x2048x8192, .f32⟩ : BufTy).Contents (Elt F) → (⟨S1x32x2048x8192, .f32⟩ : BufTy).Contents (Elt F)) ]

/-- The weights: the exponentials over their row's sum. -/
abbrev weightOps : List (HloOp τ sig (Elt F)) :=
  [ StableHlo.nullary main_c_5 (constantI S_ 1 0#1),
    StableHlo.binary main_v16 main_c_5 main_v27 ((fun x v => Host.reduce IntOp.ori x v reducesTo_S2048x8192_S2048_d1 h_S_) : (⟨S2048x8192, .i1⟩ : BufTy).Contents (Elt F) → (⟨S_, .i1⟩ : BufTy).Contents (Elt F) → (⟨S2048, .i1⟩ : BufTy).Contents (Elt F)),
    StableHlo.unary main_v27 main_v28 (broadcastInDim S1x1x2048x1 ![2] bcast_S2048_S1x1x2048x1_2 : (⟨S2048, .i1⟩ : BufTy).Contents (Elt F) → (⟨S1x1x2048x1, .i1⟩ : BufTy).Contents (Elt F)),
    StableHlo.nullary main_cst_6 (constant S_ .f32 0x00000000#32),
    StableHlo.binary main_v26 main_cst_6 main_v29 ((fun x v => Host.reduceAdd x v reducesTo_S1x32x2048x8192_S1x32x2048_d3 h_S_) : (⟨S1x32x2048x8192, .f32⟩ : BufTy).Contents (Elt F) → (⟨S_, .f32⟩ : BufTy).Contents (Elt F) → (⟨S1x32x2048, .f32⟩ : BufTy).Contents (Elt F)),
    StableHlo.unary main_v29 main_v30 (broadcastInDim S1x32x2048x1 ![0, 1, 2] bcast_S1x32x2048_S1x32x2048x1_0_1_2 : (⟨S1x32x2048, .f32⟩ : BufTy).Contents (Elt F) → (⟨S1x32x2048x1, .f32⟩ : BufTy).Contents (Elt F)),
    StableHlo.nullary main_cst_7 (constant S_ .f32 0x3F800000#32),
    StableHlo.unary main_cst_7 main_call5_v0 (id : (⟨S_, .f32⟩ : BufTy).Contents (Elt F) → (⟨S_, .f32⟩ : BufTy).Contents (Elt F)),
    StableHlo.unary main_v28 main_call5_v1 ((broadcastInDim S1x32x2048x1 ![0, 1, 2, 3] bcast_S1x1x2048x1_S1x32x2048x1_0_1_2_3) : (⟨S1x1x2048x1, .i1⟩ : BufTy).Contents (Elt F) → (⟨S1x32x2048x1, .i1⟩ : BufTy).Contents (Elt F)),
    StableHlo.unary main_call5_v0 main_call5_v2 ((broadcastInDim S1x32x2048x1 ![] bcast_S_S1x32x2048x1) : (⟨S_, .f32⟩ : BufTy).Contents (Elt F) → (⟨S1x32x2048x1, .f32⟩ : BufTy).Contents (Elt F)),
    StableHlo.ternary main_call5_v1 main_v30 main_call5_v2 main_v31 (select : (⟨S1x32x2048x1, .i1⟩ : BufTy).Contents (Elt F) → (⟨S1x32x2048x1, .f32⟩ : BufTy).Contents (Elt F) → (⟨S1x32x2048x1, .f32⟩ : BufTy).Contents (Elt F) → (⟨S1x32x2048x1, .f32⟩ : BufTy).Contents (Elt F)),
    StableHlo.unary main_v31 main_v32 (broadcastInDim S1x32x2048x8192 ![0, 1, 2, 3] bcast_S1x32x2048x1_S1x32x2048x8192_0_1_2_3 : (⟨S1x32x2048x1, .f32⟩ : BufTy).Contents (Elt F) → (⟨S1x32x2048x8192, .f32⟩ : BufTy).Contents (Elt F)),
    StableHlo.binary main_v26 main_v32 main_v33 (Host.divf : (⟨S1x32x2048x8192, .f32⟩ : BufTy).Contents (Elt F) → (⟨S1x32x2048x8192, .f32⟩ : BufTy).Contents (Elt F) → (⟨S1x32x2048x8192, .f32⟩ : BufTy).Contents (Elt F)),
    StableHlo.unary main_v27 main_v34 (broadcastInDim S1x1x2048x1 ![2] bcast_S2048_S1x1x2048x1_2 : (⟨S2048, .i1⟩ : BufTy).Contents (Elt F) → (⟨S1x1x2048x1, .i1⟩ : BufTy).Contents (Elt F)),
    StableHlo.nullary main_cst_8 (constant S_ .f32 0x00000000#32),
    StableHlo.unary main_cst_8 main_call6_v0 (id : (⟨S_, .f32⟩ : BufTy).Contents (Elt F) → (⟨S_, .f32⟩ : BufTy).Contents (Elt F)),
    StableHlo.unary main_v34 main_call6_v1 ((broadcastInDim S1x32x2048x8192 ![0, 1, 2, 3] bcast_S1x1x2048x1_S1x32x2048x8192_0_1_2_3) : (⟨S1x1x2048x1, .i1⟩ : BufTy).Contents (Elt F) → (⟨S1x32x2048x8192, .i1⟩ : BufTy).Contents (Elt F)),
    StableHlo.unary main_call6_v0 main_call6_v2 ((broadcastInDim S1x32x2048x8192 ![] bcast_S_S1x32x2048x8192) : (⟨S_, .f32⟩ : BufTy).Contents (Elt F) → (⟨S1x32x2048x8192, .f32⟩ : BufTy).Contents (Elt F)),
    StableHlo.ternary main_call6_v1 main_v33 main_call6_v2 main_v35 (select : (⟨S1x32x2048x8192, .i1⟩ : BufTy).Contents (Elt F) → (⟨S1x32x2048x8192, .f32⟩ : BufTy).Contents (Elt F) → (⟨S1x32x2048x8192, .f32⟩ : BufTy).Contents (Elt F) → (⟨S1x32x2048x8192, .f32⟩ : BufTy).Contents (Elt F)) ]

/-- The mix of the values, and its product with Wo. -/
abbrev outOps : List (HloOp τ sig (Elt F)) :=
  [ StableHlo.binary main_arg3 main_v35 main_v36 ((fun l r => Host.dotGeneral dot_S1x8192x32x128_S1x32x2048x8192_S1x32x128x2048_1_3_3_2_02_01 none l r) : (⟨S1x8192x32x128, .f32⟩ : BufTy).Contents (Elt F) → (⟨S1x32x2048x8192, .f32⟩ : BufTy).Contents (Elt F) → (⟨S1x32x128x2048, .f32⟩ : BufTy).Contents (Elt F)),
    StableHlo.unary main_v36 main_v37 ((transpose S1x2048x32x128 [0, 3, 1, 2] · transposes_S1x32x128x2048_S1x2048x32x128_0_3_1_2) : (⟨S1x32x128x2048, .f32⟩ : BufTy).Contents (Elt F) → (⟨S1x2048x32x128, .f32⟩ : BufTy).Contents (Elt F)),
    StableHlo.reshape main_v37 main_v38 (rfl : (.f32 : EltTy) = .f32) shapeCasts_S1x2048x32x128_S1x2048x4096,
    StableHlo.binary main_v38 main_arg4 main_v39 ((fun l r => Host.dotGeneral dot_S1x2048x4096_S4096x1024_S1x2048x1024_2_0_01_1_n_n none l r) : (⟨S1x2048x4096, .f32⟩ : BufTy).Contents (Elt F) → (⟨S4096x1024, .f32⟩ : BufTy).Contents (Elt F) → (⟨S1x2048x1024, .f32⟩ : BufTy).Contents (Elt F)) ]

/-- All of them. -/
abbrev ops : List (HloOp τ sig (Elt F)) := qOps ++ (maskOps ++ (scoreOps ++ (expOps ++ (weightOps ++ (outOps)))))

set_option maxHeartbeats 4000000 in
/-- @main is these operations one after another. -/
theorem main_eq (c : Dev nD) : main (F := F) c = seq ops := rfl

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

theorem qOps_sub : (qOps : List (HloOp τ sig (Elt F))).Forall fun op => op.bufs ⊆ tcRefs τ sig :=
  ⟨binary_bufs_sub .., reshape_bufs_sub ..⟩
theorem qOps_fresh : ∀ op ∈ (qOps : List (HloOp τ sig (Elt F))), op.fresh = ∅ := by
  intro _ h; (repeat (cases h with | head => rfl | tail _ h => ?_)); exact nomatch h

/-- What `qOps` writes; every other buffer keeps its contents. -/
abbrev qOpsW : List (Ref sig .tc) :=
  [main_v0, main_v1]
theorem qOps_keep (V : Valuation τ sig (Elt F)) (r : Ref sig .tc) (hr : r ∉ qOpsW) :
    after qOps V (Proc.devRef .tc r) = V (Proc.devRef .tc r) :=
  after_of_writes_sub qOps V (forall_writes_sub_of_map (W := qOpsW) rfl) hr

theorem maskOps_sub : (maskOps : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., unary_bufs_sub .., binary_bufs_sub .., binary_bufs_sub ..⟩
theorem maskOps_fresh : ∀ op ∈ (maskOps : List (HloOp τ sig (Elt F))), op.fresh = ∅ := by
  intro _ h; (repeat (cases h with | head => rfl | tail _ h => ?_)); exact nomatch h

/-- What `maskOps` writes; every other buffer keeps its contents. -/
abbrev maskOpsW : List (Ref sig .tc) :=
  [main_v2, main_c, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v3, main_v4, main_v5, main_c_0, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v6, main_v7, main_v8, main_v9, main_v10, main_c_1, main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v11, main_c_2, main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v12, main_v13, main_v14, main_v15, main_v16]
theorem maskOps_keep (V : Valuation τ sig (Elt F)) (r : Ref sig .tc) (hr : r ∉ maskOpsW) :
    after maskOps V (Proc.devRef .tc r) = V (Proc.devRef .tc r) :=
  after_of_writes_sub maskOps V (forall_writes_sub_of_map (W := maskOpsW) rfl) hr

theorem scoreOps_sub : (scoreOps : List (HloOp τ sig (Elt F))).Forall fun op => op.bufs ⊆ tcRefs τ sig :=
  ⟨binary_bufs_sub .., nullary_bufs_sub .., unary_bufs_sub .., binary_bufs_sub .., unary_bufs_sub .., nullary_bufs_sub .., unary_bufs_sub .., unary_bufs_sub .., unary_bufs_sub .., ternary_bufs_sub ..⟩
theorem scoreOps_fresh : ∀ op ∈ (scoreOps : List (HloOp τ sig (Elt F))), op.fresh = ∅ := by
  intro _ h; (repeat (cases h with | head => rfl | tail _ h => ?_)); exact nomatch h

/-- What `scoreOps` writes; every other buffer keeps its contents. -/
abbrev scoreOpsW : List (Ref sig .tc) :=
  [main_v17, main_cst, main_v18, main_v19, main_v20, main_cst_3, main_call4_v0, main_call4_v1, main_call4_v2, main_v21]
theorem scoreOps_keep (V : Valuation τ sig (Elt F)) (r : Ref sig .tc) (hr : r ∉ scoreOpsW) :
    after scoreOps V (Proc.devRef .tc r) = V (Proc.devRef .tc r) :=
  after_of_writes_sub scoreOps V (forall_writes_sub_of_map (W := scoreOpsW) rfl) hr

theorem expOps_sub : (expOps : List (HloOp τ sig (Elt F))).Forall fun op => op.bufs ⊆ tcRefs τ sig :=
  ⟨nullary_bufs_sub .., binary_bufs_sub .., unary_bufs_sub .., unary_bufs_sub .., binary_bufs_sub .., unary_bufs_sub ..⟩
theorem expOps_fresh : ∀ op ∈ (expOps : List (HloOp τ sig (Elt F))), op.fresh = ∅ := by
  intro _ h; (repeat (cases h with | head => rfl | tail _ h => ?_)); exact nomatch h

/-- What `expOps` writes; every other buffer keeps its contents. -/
abbrev expOpsW : List (Ref sig .tc) :=
  [main_cst_4, main_v22, main_v23, main_v24, main_v25, main_v26]
theorem expOps_keep (V : Valuation τ sig (Elt F)) (r : Ref sig .tc) (hr : r ∉ expOpsW) :
    after expOps V (Proc.devRef .tc r) = V (Proc.devRef .tc r) :=
  after_of_writes_sub expOps V (forall_writes_sub_of_map (W := expOpsW) rfl) hr

theorem weightOps_sub : (weightOps : List (HloOp τ sig (Elt F))).Forall fun op => op.bufs ⊆ tcRefs τ sig :=
  ⟨nullary_bufs_sub .., binary_bufs_sub .., unary_bufs_sub .., nullary_bufs_sub .., binary_bufs_sub .., unary_bufs_sub .., nullary_bufs_sub .., unary_bufs_sub .., unary_bufs_sub .., unary_bufs_sub .., ternary_bufs_sub .., unary_bufs_sub .., binary_bufs_sub .., unary_bufs_sub .., nullary_bufs_sub .., unary_bufs_sub .., unary_bufs_sub .., unary_bufs_sub .., ternary_bufs_sub ..⟩
theorem weightOps_fresh : ∀ op ∈ (weightOps : List (HloOp τ sig (Elt F))), op.fresh = ∅ := by
  intro _ h; (repeat (cases h with | head => rfl | tail _ h => ?_)); exact nomatch h

/-- What `weightOps` writes; every other buffer keeps its contents. -/
abbrev weightOpsW : List (Ref sig .tc) :=
  [main_c_5, main_v27, main_v28, main_cst_6, main_v29, main_v30, main_cst_7, main_call5_v0, main_call5_v1, main_call5_v2, main_v31, main_v32, main_v33, main_v34, main_cst_8, main_call6_v0, main_call6_v1, main_call6_v2, main_v35]
theorem weightOps_keep (V : Valuation τ sig (Elt F)) (r : Ref sig .tc) (hr : r ∉ weightOpsW) :
    after weightOps V (Proc.devRef .tc r) = V (Proc.devRef .tc r) :=
  after_of_writes_sub weightOps V (forall_writes_sub_of_map (W := weightOpsW) rfl) hr

theorem outOps_sub : (outOps : List (HloOp τ sig (Elt F))).Forall fun op => op.bufs ⊆ tcRefs τ sig :=
  ⟨binary_bufs_sub .., unary_bufs_sub .., reshape_bufs_sub .., binary_bufs_sub ..⟩
theorem outOps_fresh : ∀ op ∈ (outOps : List (HloOp τ sig (Elt F))), op.fresh = ∅ := by
  intro _ h; (repeat (cases h with | head => rfl | tail _ h => ?_)); exact nomatch h

/-- What `outOps` writes; every other buffer keeps its contents. -/
abbrev outOpsW : List (Ref sig .tc) :=
  [main_v36, main_v37, main_v38, main_v39]
theorem outOps_keep (V : Valuation τ sig (Elt F)) (r : Ref sig .tc) (hr : r ∉ outOpsW) :
    after outOps V (Proc.devRef .tc r) = V (Proc.devRef .tc r) :=
  after_of_writes_sub outOps V (forall_writes_sub_of_map (W := outOpsW) rfl) hr

/-- Every operation touches TensorCore references only. -/
theorem ops_sub : (ops : List (HloOp τ sig (Elt F))).Forall fun op => op.bufs ⊆ tcRefs τ sig := by
  rw [List.forall_iff_forall_mem]
  intro op h
  rcases List.mem_append.1 h with h | h
  · exact List.forall_iff_forall_mem.1 qOps_sub op h
  rcases List.mem_append.1 h with h | h
  · exact List.forall_iff_forall_mem.1 maskOps_sub op h
  rcases List.mem_append.1 h with h | h
  · exact List.forall_iff_forall_mem.1 scoreOps_sub op h
  rcases List.mem_append.1 h with h | h
  · exact List.forall_iff_forall_mem.1 expOps_sub op h
  rcases List.mem_append.1 h with h | h
  · exact List.forall_iff_forall_mem.1 weightOps_sub op h
  exact List.forall_iff_forall_mem.1 outOps_sub op h

/-- Every operation determines its results. -/
theorem ops_fresh : ∀ op ∈ (ops : List (HloOp τ sig (Elt F))), op.fresh = ∅ := by
  intro op h
  rcases List.mem_append.1 h with h | h
  · exact qOps_fresh op h
  rcases List.mem_append.1 h with h | h
  · exact maskOps_fresh op h
  rcases List.mem_append.1 h with h | h
  · exact scoreOps_fresh op h
  rcases List.mem_append.1 h with h | h
  · exact expOps_fresh op h
  rcases List.mem_append.1 h with h | h
  · exact weightOps_fresh op h
  exact outOps_fresh op h

/-- All the operations' results, list by list. -/
theorem after_ops (V : Valuation τ sig (Elt F)) : after ops V = after outOps (after weightOps (after expOps (after scoreOps (after maskOps (after qOps V))))) := by
  simp only [ops, after_append]

/-- The arguments keep what they held. -/
theorem args_keep (V : Valuation τ sig (Elt F)) (r : Ref sig .tc)
    (hr : r ∉ qOpsW ++ maskOpsW ++ scoreOpsW ++ expOpsW ++ weightOpsW ++ outOpsW) :
    after ops V (Proc.devRef .tc r) = V (Proc.devRef .tc r) := by
  simp only [List.mem_append, not_or] at hr
  rw [after_ops, outOps_keep _ _ hr.2, weightOps_keep _ _ hr.1.2, expOps_keep _ _ hr.1.1.2, scoreOps_keep _ _ hr.1.1.1.2,
    maskOps_keep _ _ hr.1.1.1.1.2, qOps_keep _ _ hr.1.1.1.1.1]

/-- Every weakly fair execution terminates; each buffer ends at the operations' results folded over the launch contents,
    and there is no semaphore whose counter could be other than zero. -/
theorem run_ops (m : (ℓ : Loc nD τ sig) → Buf (Elt F) ℓ) (ρ : Dev nD → PrngReg) :
    θ_run defs (onTc (τ := τ) (main (F := F))) ⟨m, fun _ => 0, ρ⟩ fun r =>
      (∀ (d : Dev nD) (b : Ref sig .tc), r.2.mem ((d.tc : Thread nD τ).loc b) = after ops (launchContents m d) (Proc.devRef .tc b))
        ∧ r.2.sem = fun _ => 0 :=
  (θ_run defs _ _).mono (fun r h => ⟨h, funext fun g => by rcases g with ⟨_, s⟩; exact nomatch s⟩)
    (run_seq scopedRefs_eq scopedSems_eq defs main (fun _ => ops) main_eq (fun _ => ops_sub) m ρ (fun _ => ops_fresh))

end Cert.Tp.Ref
-- ==== Proof.Frames.lean ====
/-
  The frames: the kernel's run over any float values taken at machine words and at extended reals, and the reference's run.
  The kernel and its ideal program differ in one constant, which the ideal program reads by name: at machine words the name
  stands for the word beside it, which makes the two programs one.
-/
module

public import proofs.«01_k».proof.Defs
public import proofs.«01_k».proof.Proof.Run
public import proofs.«01_k».proof.Proof.RefOps
public import proofs.«01_k».proof.Proof.Gen.Kernel
public import proofs.«01_k».proof.Proof.Gen.Pre_finite_KernelIdeal
public import proofs.«01_k».proof.Proof.Gen.Pre_finite_ReferenceIdeal

@[expose] public section

set_option backward.proofsInPublic true
set_option maxRecDepth 16384

noncomputable section

namespace Cert.Tp

open Idealize.ShloMosaic Idealize.ShloMosaic.TcCoe Idealize.ShloMosaic.StableHlo Idealize.SL.Sem

/-- At machine words a named constant is the word beside the name. -/
instance namedBits : Named Bits where
  named _ _ _ b := Scalar.ofBits _ b

/-- With that reading the ideal program's kernels are the kernel's. -/
theorem main_bits : Cert.KernelIdeal.main (F := Bits) = Cert.Kernel.main (F := Bits) := rfl
theorem bodies_bits : Cert.KernelIdeal.defs₀ (F := Bits) = Cert.Kernel.defs₀ (F := Bits) := by
  unfold Cert.KernelIdeal.defs₀ Cert.Kernel.defs₀
  refine congrArg Defs.onTc (funext fun l => funext fun a => ?_)
  match l, a with
  | 0, (t, s) => rfl
  | 1, (t, s) => rfl
  | 2, (t, s) => rfl
  | ⟨_ + 3, h⟩, _ => exact absurd h (Nat.not_lt.2 (Nat.le_add_left _ _))
theorem defs_bits : Cert.KernelIdeal.defs (F := Bits) = Cert.Kernel.defs (F := Bits) :=
  congrArg (Pipeline.defs _) bodies_bits

theorem frame_kernel : Cert.quiescent_Kernel := fun m ρ _ => by
  have h := (θ_run Cert.KernelIdeal.defs _ _).mono
    (Q' := fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)
    (fun _ h => ⟨fun c => ⟨(h.1 c).1, (h.1 c).2.1, (h.1 c).2.2.1, (h.1 c).2.2.2.1, (h.1 c).2.2.2.2.1⟩, h.2⟩)
    (run_main (F := Bits) m ρ)
  rw [defs_bits] at h
  exact h

theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1, (h.1 c).2.2.2.2.1⟩, h.2⟩)
    (run_main (F := Ideal) m ρ)

theorem frame_ideal_finite : Cert.quiescent_KernelIdeal_pre_finite_KernelIdeal := fun m ρ _ =>
  (θ_run Cert.KernelIdeal.defs _ _).mono
    (fun _ h => ⟨fun c => ⟨(h.1 c).1, (h.1 c).2.1, (h.1 c).2.2.1, (h.1 c).2.2.2.1, (h.1 c).2.2.2.2.1⟩, h.2⟩)
    (run_main (F := Ideal) m ρ)

/-- The reference's run, of which the arguments end as they began. -/
theorem run_ref (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_v39) = after Ref.ops (launchContents m c) (Proc.devRef .tc Cert.ReferenceIdeal.main_v39))
      ∧ r.2.sem = fun _ => 0 :=
  (θ_run Cert.ReferenceIdeal.defs _ _).mono
    (fun _ h => ⟨fun c => ⟨(h.1 c Cert.ReferenceIdeal.main_arg0).trans (Ref.args_keep _ _ (by decide)), (h.1 c Cert.ReferenceIdeal.main_arg1).trans (Ref.args_keep _ _ (by decide)),
      (h.1 c Cert.ReferenceIdeal.main_arg2).trans (Ref.args_keep _ _ (by decide)), (h.1 c Cert.ReferenceIdeal.main_arg3).trans (Ref.args_keep _ _ (by decide)),
      (h.1 c Cert.ReferenceIdeal.main_arg4).trans (Ref.args_keep _ _ (by decide)), h.1 c Cert.ReferenceIdeal.main_v39⟩, h.2⟩)
    (Ref.run_ops m ρ)

theorem frame_ref : Cert.quiescent_ReferenceIdeal := fun m ρ _ =>
  (θ_run Cert.ReferenceIdeal.defs _ _).mono
    (fun _ h => ⟨fun c => ⟨(h.1 c).1, (h.1 c).2.1, (h.1 c).2.2.1, (h.1 c).2.2.2.1, (h.1 c).2.2.2.2.1⟩, h.2⟩)
    (run_ref m ρ)

theorem frame_ref_finite : Cert.quiescent_ReferenceIdeal_pre_finite_ReferenceIdeal := fun m ρ _ =>
  (θ_run Cert.ReferenceIdeal.defs _ _).mono
    (fun _ h => ⟨fun c => ⟨(h.1 c).1, (h.1 c).2.1, (h.1 c).2.2.1, (h.1 c).2.2.2.1, (h.1 c).2.2.2.2.1⟩, h.2⟩)
    (run_ref m ρ)

/-- What the ideal program's one named constant stands for. -/
theorem preserves : Cert.preserves_Kernel_KernelIdeal :=
  IdealRules.named_const.statement Cert.KernelIdeal.κ "scale_log2e" .f32 0x3E0293EE#32 (((11863283 / 134217728) * (Real.log 2)⁻¹ : ℝ) : EReal) rfl

end Cert.Tp
-- ==== Proof.Soft.lean ====
/-
  The mathematics between the kernel and the reference, over extended reals and with no program in sight: block-masked
  attention written twice. The reference weighs every key by the softmax less the row's largest score; the kernel walks
  only the seen keys, takes powers of two with no largest score subtracted, and divides by their sum at the end. Both
  are equal when the inputs and the keys are finite; the values and the output matrix may be infinite.
-/
module

public import Idealize.ShloMosaic.PureOps.Ideal
public import Idealize.ShloMosaic.Lib.Pointwise.Sums

@[expose] public section

set_option backward.proofsInPublic true

noncomputable section

namespace Cert.Tp

open Idealize.ShloMosaic

/-! ## Sums of extended reals -/

/-- A sum of reals, as an extended real. -/
theorem coe_sum_real {ι : Type*} (s : Finset ι) (f : ι → ℝ) : ((∑ k ∈ s, f k : ℝ) : EReal) = ∑ k ∈ s, (f k : EReal) := by
  induction s using Finset.cons_induction with
  | empty => simp
  | cons a s ha ih => rw [Finset.sum_cons, Finset.sum_cons, EReal.coe_add, ih]

/-- A real factor that is not negative distributes over any sum, whatever infinities it holds. -/
theorem sum_mul_real {ι : Type*} (s : Finset ι) (f : ι → EReal) (r : ℝ) (hr : 0 ≤ r) :
    (∑ k ∈ s, f k) * (r : EReal) = ∑ k ∈ s, f k * (r : EReal) := by
  induction s using Finset.cons_induction with
  | empty => simp
  | cons a s ha ih =>
    rw [Finset.sum_cons, Finset.sum_cons,
      EReal.right_distrib_of_nonneg_of_ne_top (EReal.coe_nonneg.mpr hr) (EReal.coe_ne_top r), ih]

/-! ## The seen keys -/

/-- Query `i` sees key `j`: their blocks of 64 positions agree modulo 4. -/
def Seen (i : Fin 2048) (j : Fin 8192) : Prop := j.val / 64 % 4 = i.val / 64 % 4
instance (i : Fin 2048) (j : Fin 8192) : Decidable (Seen i j) := by unfold Seen; infer_instance

/-- The `q`-th key that row group `r` sees: shard `q / 512`, that shard's `(q / 64 % 8)`-th block of the group, lane
    `q % 64`. -/
def keyOf (r : Fin 4) (q : Fin 2048) : Fin 8192 :=
  ⟨q.val / 512 * 2048 + (q.val / 64 % 8 * 4 + r.val) * 64 + q.val % 64, by have := q.isLt; have := r.isLt; omega⟩

/-- The row group of a query. -/
def groupOf (i : Fin 2048) : Fin 4 := ⟨i.val / 64 % 4, by omega⟩

/-- A sum over the keys of which only the seen ones count is the sum over the group's keys. -/
theorem sum_seen {M : Type*} [AddCommMonoid M] (i : Fin 2048) (f : Fin 8192 → M) :
    ∑ j, (if Seen i j then f j else 0) = ∑ q, f (keyOf (groupOf i) q) := by
  rw [← Finset.sum_filter]
  refine Finset.sum_nbij' (fun j => (⟨j.val / 2048 * 512 + j.val / 256 % 8 * 64 + j.val % 64, by have := j.isLt; omega⟩ : Fin 2048)) (fun q => keyOf (groupOf i) q) ?_ ?_ ?_ ?_ ?_
  · intro j _; exact Finset.mem_univ _
  · intro q _
    rw [Finset.mem_filter]
    refine ⟨Finset.mem_univ _, ?_⟩
    show (keyOf (groupOf i) q).val / 64 % 4 = i.val / 64 % 4
    have := q.isLt
    simp only [keyOf, groupOf]; omega
  · intro j hj
    have h : j.val / 64 % 4 = i.val / 64 % 4 := (Finset.mem_filter.mp hj).2
    have := j.isLt
    apply Fin.ext; simp only [keyOf, groupOf]; omega
  · intro q _
    have := q.isLt
    apply Fin.ext; simp only [keyOf, groupOf]; omega
  · intro j hj
    have h : j.val / 64 % 4 = i.val / 64 % 4 := (Finset.mem_filter.mp hj).2
    have := j.isLt
    refine congrArg f (Fin.ext ?_); simp only [keyOf, groupOf]; omega

/-! ## The two programs' functions -/

section Functions
variable (X : Fin 2048 → Fin 1024 → EReal) (W : Fin 1024 → Fin 4096 → EReal) (K V : Fin 8192 → Fin 32 → Fin 128 → EReal)
  (O : Fin 4096 → Fin 1024 → EReal)

/-- A head's column of the flat axis. -/
def flatF (g : Fin 32) (d : Fin 128) : Fin 4096 := ⟨g.val * 128 + d.val, by have := g.isLt; have := d.isLt; omega⟩

/-- The queries. -/
def query (i : Fin 2048) (f : Fin 4096) : EReal := ∑ k, X i k * W k f

/-- The scale as the reference's word denotes it. -/
def scaleR : ℝ := 11863283 / 134217728
/-- The constant that the kernel folds into the queries. -/
def foldedR : ℝ := (11863283 / 134217728) * (Real.log 2)⁻¹

/-- The reference's masked score, row maximum, exponential and mix. -/
def maskedS (i : Fin 2048) (g : Fin 32) (j : Fin 8192) : EReal :=
  if Seen i j then (∑ d, query X W i (flatF g d) * K j g d) * (scaleR : EReal) else ⊥
def rowMax (i : Fin 2048) (g : Fin 32) : EReal := Finset.univ.fold max ⊥ (maskedS X W K i g)
def expS (i : Fin 2048) (g : Fin 32) (j : Fin 8192) : EReal := Ideal.exp (maskedS X W K i g j - rowMax X W K i g)
def mixRef (i : Fin 2048) (g : Fin 32) (d : Fin 128) : EReal :=
  ∑ j, V j g d * Ideal.div (expS X W K i g j) (∑ j', expS X W K i g j')
/-- The reference's result. -/
def resRef (i : Fin 2048) (n : Fin 1024) : EReal :=
  ∑ f : Fin 4096, mixRef X W K V i ⟨f.val / 128, by have := f.isLt; omega⟩ ⟨f.val % 128, by omega⟩ * O f n

/-- The kernel's power of two and mix. -/
def powS (i : Fin 2048) (g : Fin 32) (q : Fin 2048) : EReal :=
  Ideal.exp2 (∑ d, query X W i (flatF g d) * (foldedR : EReal) * K (keyOf (groupOf i) q) g d)
def mixKer (i : Fin 2048) (g : Fin 32) (d : Fin 128) : EReal :=
  Ideal.div (∑ q, powS X W K i g q * V (keyOf (groupOf i) q) g d) (∑ q, powS X W K i g q)
/-- What one device adds to the kernel's result: its eight heads. -/
def partKer (c : Fin 4) (i : Fin 2048) (n : Fin 1024) : EReal :=
  ∑ h : Fin 8, ∑ d, mixKer X W K V i ⟨c.val * 8 + h.val, by have := c.isLt; have := h.isLt; omega⟩ d
    * O (flatF ⟨c.val * 8 + h.val, by have := c.isLt; have := h.isLt; omega⟩ d) n

/-! ## They agree -/

/-- Some extended real that is a real. -/
def IsReal (x : EReal) : Prop := ∃ r : ℝ, x = (r : EReal)

variable {X W K}

theorem query_real (hX : ∀ i k, IsReal (X i k)) (hW : ∀ k f, IsReal (W k f)) (i : Fin 2048) (f : Fin 4096) : IsReal (query X W i f) := by
  choose x hx using hX
  choose w hw using hW
  refine ⟨∑ k, x i k * w k f, ?_⟩
  rw [coe_sum_real]
  exact Finset.sum_congr rfl fun k _ => by rw [hx, hw, EReal.coe_mul]

theorem score_real (hX : ∀ i k, IsReal (X i k)) (hW : ∀ k f, IsReal (W k f)) (hK : ∀ j g d, IsReal (K j g d)) (i : Fin 2048) (g : Fin 32) :
    ∃ a : Fin 8192 → ℝ, (∀ j, (∑ d, query X W i (flatF g d) * K j g d) = (a j : EReal))
      ∧ ∀ (r : ℝ) j, (∑ d, query X W i (flatF g d) * (r : EReal) * K j g d) = ((a j * r : ℝ) : EReal) := by
  choose y hy using query_real hX hW i
  choose k hk using hK
  refine ⟨fun j => ∑ d, y (flatF g d) * k j g d, fun j => ?_, fun r j => ?_⟩
  · rw [coe_sum_real]
    exact Finset.sum_congr rfl fun d _ => by rw [hy, hk, EReal.coe_mul]
  · rw [Finset.sum_mul, coe_sum_real]
    refine Finset.sum_congr rfl fun d _ => ?_
    rw [hy, hk, ← EReal.coe_mul, ← EReal.coe_mul]
    exact congrArg _ (by ring)

/-- A row's largest score is a real: the row sees a key, and no score is infinite. -/
theorem fold_max_real (i : Fin 2048) (b : Fin 8192 → ℝ) :
    IsReal (Finset.univ.fold max ⊥ fun j => if Seen i j then ((b j : ℝ) : EReal) else ⊥) := by
  have htop : (Finset.univ.fold max ⊥ fun j => if Seen i j then ((b j : ℝ) : EReal) else ⊥) < ⊤ := by
    rw [Finset.fold_max_lt]
    refine ⟨bot_lt_top, fun j _ => ?_⟩
    split
    · exact EReal.coe_lt_top _
    · exact bot_lt_top
  have hbot : ⊥ < (Finset.univ.fold max ⊥ fun j => if Seen i j then ((b j : ℝ) : EReal) else ⊥) := by
    rw [Finset.lt_fold_max]
    refine .inr ⟨keyOf (groupOf i) ⟨0, by omega⟩, Finset.mem_univ _, ?_⟩
    rw [if_pos (by simp only [Seen, keyOf, groupOf]; omega)]
    exact EReal.bot_lt_coe _
  exact ⟨_, (EReal.coe_toReal htop.ne hbot.ne').symm⟩

/-- Two to the folded score is the exponential of the scaled one. -/
theorem pow_folded (a : ℝ) : Real.rpow 2 (a * foldedR) = Real.exp (a * scaleR) := by
  have h2 : (0 : ℝ) < 2 := by norm_num
  have hl : Real.log 2 ≠ 0 := (Real.log_pos (by norm_num)).ne'
  show (2 : ℝ) ^ (a * foldedR) = _
  rw [Real.rpow_def_of_pos h2]
  congr 1
  unfold foldedR scaleR
  field_simp

/-- The two mixes of the values agree. -/
theorem mix_eq (hX : ∀ i k, IsReal (X i k)) (hW : ∀ k f, IsReal (W k f)) (hK : ∀ j g d, IsReal (K j g d)) (i : Fin 2048) (g : Fin 32) (d : Fin 128) :
    mixKer X W K V i g d = mixRef X W K V i g d := by
  obtain ⟨a, ha, ha'⟩ := score_real hX hW hK i g
  have hm : ∀ j, maskedS X W K i g j = if Seen i j then ((a j * scaleR : ℝ) : EReal) else ⊥ := fun j => by
    unfold maskedS; rw [ha, EReal.coe_mul]
  obtain ⟨M, hM⟩ : IsReal (rowMax X W K i g) := by
    unfold rowMax; rw [show maskedS X W K i g = _ from funext hm]; exact fold_max_real i _
  -- the exponentials, on both sides
  have he : ∀ j, expS X W K i g j = ((if Seen i j then Real.exp (a j * scaleR) * Real.exp (-M) else 0 : ℝ) : EReal) := fun j => by
    unfold expS
    rw [hM, hm]
    split
    · rw [← EReal.coe_sub, Ideal.exp_coe, sub_eq_add_neg, Real.exp_add]
    · rw [EReal.bot_sub, Ideal.exp_bot, EReal.coe_zero]
  have hp : ∀ q, powS X W K i g q = ((Real.exp (a (keyOf (groupOf i) q) * scaleR) : ℝ) : EReal) := fun q => by
    unfold powS; rw [ha', Ideal.exp2_coe, pow_folded]
  -- their sums
  have hL : 0 < ∑ q, Real.exp (a (keyOf (groupOf i) q) * scaleR) :=
    Finset.sum_pos (fun q _ => Real.exp_pos _) ⟨⟨0, by omega⟩, Finset.mem_univ _⟩
  have hT : ∑ j, expS X W K i g j = ((((∑ q, Real.exp (a (keyOf (groupOf i) q) * scaleR)) * Real.exp (-M) : ℝ)) : EReal) := by
    rw [Finset.sum_congr rfl fun j _ => he j, ← coe_sum_real, sum_seen i fun j => Real.exp (a j * scaleR) * Real.exp (-M), Finset.sum_mul]
  have hS : ∑ q, powS X W K i g q = ((∑ q, Real.exp (a (keyOf (groupOf i) q) * scaleR) : ℝ) : EReal) := by
    rw [Finset.sum_congr rfl fun q _ => hp q, ← coe_sum_real]
  -- one key's weight
  have hw : ∀ j, V j g d * Ideal.div (expS X W K i g j) (∑ j', expS X W K i g j')
      = if Seen i j then ((Real.exp (a j * scaleR) : ℝ) : EReal) * V j g d * ((1 / ∑ q, Real.exp (a (keyOf (groupOf i) q) * scaleR) : ℝ) : EReal) else 0 := fun j => by
    rw [hT, he, Ideal.div_coe (mul_pos hL (Real.exp_pos _)).ne', ← EReal.coe_mul]
    split
    · rw [mul_comm (V j g d)]
      conv_rhs => rw [mul_right_comm, ← EReal.coe_mul]
      refine congrArg (fun r : ℝ => (r : EReal) * V j g d) ?_
      have := (Real.exp_pos (-M)).ne'
      have := hL.ne'
      field_simp
    · rw [zero_mul, EReal.coe_zero, mul_zero]
  unfold mixKer mixRef
  rw [hS, Ideal.div_coe hL.ne', sum_mul_real _ _ _ (one_div_nonneg.mpr hL.le), Finset.sum_congr rfl fun j _ => hw j,
    sum_seen i fun j => ((Real.exp (a j * scaleR) : ℝ) : EReal) * V j g d * ((1 / ∑ q, Real.exp (a (keyOf (groupOf i) q) * scaleR) : ℝ) : EReal)]
  exact Finset.sum_congr rfl fun q _ => by rw [hp]

/-- The devices' parts add up to the reference's result. -/
theorem res_eq (hX : ∀ i k, IsReal (X i k)) (hW : ∀ k f, IsReal (W k f)) (hK : ∀ j g d, IsReal (K j g d)) (i : Fin 2048) (n : Fin 1024) :
    ∑ c, partKer X W K V O c i n = resRef X W K V O i n := by
  unfold resRef
  rw [Fin.sum_univ_tiles 32 128 rfl, Fin.sum_univ_tiles 4 8 rfl]
  unfold partKer
  refine Finset.sum_congr rfl fun c _ => Finset.sum_congr rfl fun h _ => Finset.sum_congr rfl fun d _ => ?_
  rw [mix_eq V hX hW hK]
  refine congrArg₂ (· * ·) (congrArg₂ (mixRef X W K V i) (Fin.ext ?_) (Fin.ext ?_)) rfl
  · have := d.isLt; dsimp only; omega
  · have := d.isLt; dsimp only; omega

end Functions

end Cert.Tp

end
-- ==== Proof.Part.lean ====
/-
  The attention region's result on one device, read at an entry: the blocks at their coordinates, one head's payload as
  the function `mixKer` times the head's rows of the output matrix, the eight heads of a row group added up, and the
  array from its blocks.
-/
module

public import proofs.«01_k».proof.Proof.Attention
public import Idealize.ShloMosaic.Lib.Pointwise
public import Idealize.ShloMosaic.PureOps.IdealRules
public import Idealize.ShloMosaic.Lib.Pipeline.ValueKit
public import proofs.«01_k».proof.Proof.Soft

@[expose] public section

set_option backward.proofsInPublic true
set_option maxRecDepth 16384

noncomputable section

namespace Cert.Tp

open Idealize.ShloMosaic Idealize.ShloMosaic.TcCoe
open Idealize.ShloMosaic.Pipeline (Dat Cfg Window)
open Cert.KernelIdeal Cert.KernelIdeal.Gen

variable (V : Dev nD → Valuation τ sig (Elt Ideal)) (c : Dev nD)

/-! ## The blocks, entry by entry -/

theorem lt32 (t : Fin cfg1.N) : t.val < 32 := Nat.lt_of_lt_of_eq t.isLt N_1
/-- A point's row group and head. -/
def rowOf (t : Fin cfg1.N) : Fin 4 := ⟨t.val / 8, by have := lt32 t; omega⟩
def headOf (t : Fin cfg1.N) : Fin 8 := ⟨t.val % 8, by omega⟩

theorem index_0 : ∀ t : Fin cfg1.N, win1_0.index t = ![0, t.val / 8, 0, 0] := by decide +kernel
theorem index_1 : ∀ t : Fin cfg1.N, win1_1.index t = ![0, t.val % 8] := by decide +kernel
theorem index_2 : ∀ t : Fin cfg1.N, win1_2.index t = ![0, t.val % 8, 0, t.val / 8, 0, 0] := by decide +kernel
theorem index_3 : ∀ t : Fin cfg1.N, win1_3.index t = ![0, t.val % 8, 0, t.val / 8, 0, 0] := by decide +kernel
theorem index_4 : ∀ t : Fin cfg1.N, win1_4.index t = ![t.val % 8, 0] := by decide +kernel
theorem index_5 : ∀ t : Fin cfg1.N, win1_5.index t = ![0, t.val / 8, 0, 0] := by decide +kernel

theorem blk1_0 (t : Fin cfg1.N) (b : Fin 8) (u : Fin 64) (k : Fin 1024) :
    blk1 V c 0 t (ix4 b 0 u k) = V c (Proc.devRef .tc main_v10) (ix4 b (rowOf t) u k) := by
  show V c (Proc.devRef .tc main_v10) ((win1_0.blk t).view.emb (ix4 b 0 u k)) = _
  refine congrArg _ ?_
  blk_ext [index_0, rowOf]

theorem blk1_1 (t : Fin cfg1.N) (k : Fin 1024) (d : Fin 128) :
    blk1 V c 1 t (ix2 k d) = V c (Proc.devRef .tc main_v13) (ix2 k ⟨(headOf t).val * 128 + d.val, by have := (headOf t).isLt; omega⟩) := by
  show V c (Proc.devRef .tc main_v13) ((win1_1.blk t).view.emb (ix2 k d)) = _
  refine congrArg _ ?_
  blk_ext [index_1, headOf]

theorem blk1_2 (t : Fin cfg1.N) (s : Fin 4) (b : Fin 8) (u : Fin 64) (d : Fin 128) :
    blk1 V c 2 t (ix6 s 0 b 0 u d) = V c (Proc.devRef .tc main_v11) (ix6 s (headOf t) b (rowOf t) u d) := by
  show V c (Proc.devRef .tc main_v11) ((win1_2.blk t).view.emb (ix6 s 0 b 0 u d)) = _
  refine congrArg _ ?_
  blk_ext [index_2, headOf, rowOf]

theorem blk1_3 (t : Fin cfg1.N) (s : Fin 4) (b : Fin 8) (u : Fin 64) (d : Fin 128) :
    blk1 V c 3 t (ix6 s 0 b 0 u d) = V c (Proc.devRef .tc main_v12) (ix6 s (headOf t) b (rowOf t) u d) := by
  show V c (Proc.devRef .tc main_v12) ((win1_3.blk t).view.emb (ix6 s 0 b 0 u d)) = _
  refine congrArg _ ?_
  blk_ext [index_3, headOf, rowOf]

theorem blk1_4 (t : Fin cfg1.N) (d : Fin 128) (n : Fin 1024) :
    blk1 V c 4 t (ix2 d n) = V c (Proc.devRef .tc main_v14) (ix2 ⟨(headOf t).val * 128 + d.val, by have := (headOf t).isLt; omega⟩ n) := by
  show V c (Proc.devRef .tc main_v14) ((win1_4.blk t).view.emb (ix2 d n)) = _
  refine congrArg _ ?_
  blk_ext [index_4, headOf]

/-! ## One head at one point -/

/-- What the kernel's named constant is worth. -/
theorem named_folded : Named.named (F := Ideal) (φ := .f32) κ "scale_log2e" 0x3E0293EE#32 = (foldedR : EReal) :=
  IdealRules.named_const.ideal_named_scalar _ _ _ _ rfl

/-- The head's payload at an index: scores, powers, mix, and the product with the head's rows of Wo. -/
theorem pay2_apply (x : Vec Ideal S8x1x64x1024 .bf16) (wq : Vec Ideal S1024x128 .bf16) (k v : Vec Ideal S4x1x8x1x64x128 .bf16)
    (wo : Vec Ideal S128x1024 .bf16) (b : Fin 8) (u : Fin 64) (n : Fin 1024) :
    k1_pay2 x wq k v wo (ix4 b 0 u n)
      = ∑ d : Fin 128, Ideal.div
          (∑ q : Fin 2048, Ideal.exp2 (∑ d' : Fin 128, (∑ e : Fin 1024, x (ix4 b 0 u e) * wq (ix2 e d')) * (foldedR : EReal)
              * k (ix6 ⟨q.val / 512, by omega⟩ 0 ⟨q.val / 64 % 8, by omega⟩ 0 ⟨q.val % 64, by omega⟩ d'))
            * v (ix6 ⟨q.val / 512, by omega⟩ 0 ⟨q.val / 64 % 8, by omega⟩ 0 ⟨q.val % 64, by omega⟩ d))
          (∑ q : Fin 2048, Ideal.exp2 (∑ d' : Fin 128, (∑ e : Fin 1024, x (ix4 b 0 u e) * wq (ix2 e d')) * (foldedR : EReal)
              * k (ix6 ⟨q.val / 512, by omega⟩ 0 ⟨q.val / 64 % 8, by omega⟩ 0 ⟨q.val % 64, by omega⟩ d')))
        * wo (ix2 d n) := by
  pointwise [k1_pay2, named_folded]
  rfl

theorem pay1_apply (h a : Vec Ideal S8x1x64x1024 .f32) (j : S8x1x64x1024.Idx) : k1_pay1 h a j = a j + h j := by
  pointwise [k1_pay1]

/-- A position of the sequence, from its block of the row group and its lane. -/
def posOf (b : Fin 8) (r : Fin 4) (u : Fin 64) : Fin 2048 := ⟨(b.val * 4 + r.val) * 64 + u.val, by have := b.isLt; have := r.isLt; have := u.isLt; omega⟩
theorem groupOf_pos (b : Fin 8) (r : Fin 4) (u : Fin 64) : groupOf (posOf b r u) = r := by
  have := b.isLt; have := r.isLt; have := u.isLt
  apply Fin.ext; simp only [groupOf, posOf]; omega
/-- The head that device `e` runs as its `h`-th. -/
def headNo (e : Fin 4) (h : Fin 8) : Fin 32 := ⟨e.val * 8 + h.val, by have := e.isLt; have := h.isLt; omega⟩

section Head
variable (X : Fin 2048 → Fin 1024 → EReal) (W : Fin 1024 → Fin 4096 → EReal) (K U : Fin 8192 → Fin 32 → Fin 128 → EReal)
  (O : Fin 4096 → Fin 1024 → EReal)

/-- What the region finds in its arrays: the queries' inputs, the device's columns and rows of the two weights, and the
    device's heads of every key and value. -/
structure Found : Prop where
  x : ∀ b r u k, V c (Proc.devRef .tc main_v10) (ix4 b r u k) = X (posOf b r u) k
  w : ∀ k (f : Fin 1024), V c (Proc.devRef .tc main_v13) (ix2 k f) = W k ⟨c.val * 1024 + f.val, by have : c.val < 4 := c.isLt; omega⟩
  k : ∀ (s : Fin 4) h b r u d, V c (Proc.devRef .tc main_v11) (ix6 s h b r u d) = K ⟨s.val * 2048 + (posOf b r u).val, by omega⟩ (headNo c h) d
  v : ∀ (s : Fin 4) h b r u d, V c (Proc.devRef .tc main_v12) (ix6 s h b r u d) = U ⟨s.val * 2048 + (posOf b r u).val, by omega⟩ (headNo c h) d
  o : ∀ (f : Fin 1024) n, V c (Proc.devRef .tc main_v14) (ix2 f n) = O ⟨c.val * 1024 + f.val, by have : c.val < 4 := c.isLt; omega⟩ n

variable {V c X W K U O} (H : Found V c X W K U O)
include H

theorem head1_apply (t : Fin cfg1.N) (b : Fin 8) (u : Fin 64) (n : Fin 1024) :
    head1 V c t (ix4 b 0 u n) = ∑ d, mixKer X W K U (posOf b (rowOf t) u) (headNo c (headOf t)) d * O (flatF (headNo c (headOf t)) d) n := by
  have hc : c.val < 4 := c.isLt
  have e0 : ∀ k, blk1 V c 0 t (ix4 b 0 u k) = X (posOf b (rowOf t) u) k := fun k => (blk1_0 V c t b u k).trans (H.x _ _ _ _)
  have e1 : ∀ k d, blk1 V c 1 t (ix2 k d) = W k (flatF (headNo c (headOf t)) d) := fun k d =>
    (blk1_1 V c t k d).trans ((H.w _ _).trans (congrArg (W k) (Fin.ext (by simp only [flatF, headNo]; omega))))
  have key : ∀ q : Fin 2048, (⟨q.val / 512 * 2048 + (posOf ⟨q.val / 64 % 8, by omega⟩ (rowOf t) ⟨q.val % 64, by omega⟩).val, by omega⟩ : Fin 8192)
      = keyOf (groupOf (posOf b (rowOf t) u)) q := fun q => by
    rw [groupOf_pos]; apply Fin.ext; simp only [posOf, keyOf]; omega
  have e2 : ∀ (q : Fin 2048) d, blk1 V c 2 t (ix6 ⟨q.val / 512, by omega⟩ 0 ⟨q.val / 64 % 8, by omega⟩ 0 ⟨q.val % 64, by omega⟩ d)
      = K (keyOf (groupOf (posOf b (rowOf t) u)) q) (headNo c (headOf t)) d := fun q d =>
    (blk1_2 V c t _ _ _ d).trans ((H.k _ _ _ _ _ _).trans (congrArg (fun j => K j (headNo c (headOf t)) d) (key q)))
  have e3 : ∀ (q : Fin 2048) d, blk1 V c 3 t (ix6 ⟨q.val / 512, by omega⟩ 0 ⟨q.val / 64 % 8, by omega⟩ 0 ⟨q.val % 64, by omega⟩ d)
      = U (keyOf (groupOf (posOf b (rowOf t) u)) q) (headNo c (headOf t)) d := fun q d =>
    (blk1_3 V c t _ _ _ d).trans ((H.v _ _ _ _ _ _).trans (congrArg (fun j => U j (headNo c (headOf t)) d) (key q)))
  have e4 : ∀ d, blk1 V c 4 t (ix2 d n) = O (flatF (headNo c (headOf t)) d) n := fun d =>
    (blk1_4 V c t d n).trans ((H.o _ _).trans (congrArg (fun f => O f n) (Fin.ext (by simp only [flatF, headNo]; omega))))
  unfold head1
  refine (pay2_apply _ _ _ _ _ b u n).trans ?_
  simp only [e0, e1, e2, e3, e4]
  rfl

/-! ## The heads added up -/

/-- After the `k`-th head of a row group the block holds the sum of the heads so far. -/
theorem acc1_apply (r : Fin 4) (b : Fin 8) (u : Fin 64) (n : Fin 1024) : ∀ (k : ℕ) (hk : k < 8) (ht : 8 * r.val + k < cfg1.N),
    acc1 V c (8 * r.val + k) ht (ix4 b 0 u n)
      = ∑ h : Fin (k + 1), ∑ d, mixKer X W K U (posOf b r u) (headNo c ⟨h.val, by omega⟩) d * O (flatF (headNo c ⟨h.val, by omega⟩) d) n := by
  have step : ∀ (k : ℕ) (hk : k < 8) (ht : 8 * r.val + k < cfg1.N), head1 V c ⟨8 * r.val + k, ht⟩ (ix4 b 0 u n)
      = ∑ d, mixKer X W K U (posOf b r u) (headNo c ⟨k, hk⟩) d * O (flatF (headNo c ⟨k, hk⟩) d) n := by
    intro k hk ht
    rw [head1_apply H, show rowOf ⟨8 * r.val + k, ht⟩ = r from Fin.ext (by simp only [rowOf]; omega),
      show headOf ⟨8 * r.val + k, ht⟩ = ⟨k, hk⟩ from Fin.ext (by simp only [headOf]; omega)]
  intro k
  induction k with
  | zero =>
    intro hk ht
    rw [Fin.sum_univ_one]
    exact (congrFun (acc1_first V c ⟨8 * r.val + 0, ht⟩ (by dsimp only; omega)) _).trans (step 0 hk ht)
  | succ k ih =>
    intro hk ht
    have e := congrFun (acc1_later V c ⟨8 * r.val + (k + 1), ht⟩ (by dsimp only; omega)) (ix4 b 0 u n)
    refine e.trans ((pay1_apply _ _ _).trans ?_)
    rw [Fin.sum_univ_castSucc, step (k + 1) hk ht]
    exact congrArg (· + _) (ih (by omega) (by omega))

/-- The region's result: this device's part of the attention's output. -/
theorem part_value : (dat1 V c).arrAt 5 cfg1.N = fun j : S8x4x64x1024.Idx => partKer X W K U O c (posOf (j 0) (j 1) (j 2)) (j 3) := by
  refine (dat1 V c).arrAt_eq_of_covers 5 _ (by decide +kernel) fun t hf y => ?_
  have h7 : t.val % 8 = 7 := (flush1_5 t).mp hf
  have ht := lt32 t
  have he : (win1_5.blk t).view.emb y = ix4 (y 0) (rowOf t) (y 2) (y 3) := by
    have h1 : (y 1).val < 1 := (y 1).isLt
    blk_ext [index_5, rowOf]
  have hy : y = ix4 (y 0) 0 (y 2) (y 3) := by
    refine (ix4_eta y).symm.trans ?_
    exact congrArg (fun a : Fin 1 => ix4 (y 0) a (y 2) (y 3)) (Subsingleton.elim (α := Fin 1) (y 1) 0)
  have hn : ∀ n (hn : n < cfg1.N), n = t.val → acc1 V c n hn = acc1 V c t.val t.isLt := by rintro _ _ rfl; rfl
  have hN : 8 * (rowOf t).val + 7 = t.val := by simp only [rowOf]; omega
  have e := acc1_apply H (rowOf t) (y 0) (y 2) (y 3) 7 (by omega) (by rw [hN]; exact t.isLt)
  rw [hn _ _ hN] at e
  blk_simp
  rw [after1_5, he]
  exact (congrArg (acc1 V c t.val t.isLt) hy).trans e

end Head

end Cert.Tp

end
-- ==== Proof.Total.lean ====
/-
  What the all-reduce leaves, over the extended reals: a change of width is no rounding there, so on every device each
  entry of the result is the sum of the four devices' entries, whichever device reduced the slab it lies in.
-/
module

public import proofs.«01_k».proof.Proof.Reduce
public import Idealize.ShloMosaic.Lib.Pointwise
public import Idealize.ShloMosaic.PureOps.IdealRules

@[expose] public section

set_option backward.proofsInPublic true
set_option maxRecDepth 16384

noncomputable section

namespace Cert.Tp

open Idealize.ShloMosaic Idealize.ShloMosaic.TcCoe
open Cert.KernelIdeal Cert.KernelIdeal.Gen

variable (w : Start Ideal) (c : Dev nD)

theorem slabIx_eq (e : Dev nD) (a : Fin 512) (b : Fin 1024) : slabIx e a b = ix3 (n0 := 4) (n1 := 512) (n2 := 1024) e a b := by
  funext k; match k with | ⟨0, _⟩ => rfl | ⟨1, _⟩ => rfl | ⟨2, _⟩ => rfl
theorem slotIx_eq (j : Fin 3) (a : Fin 512) (b : Fin 1024) : slotIx j a b = ix3 j a b := by
  funext k; match k with | ⟨0, _⟩ => rfl | ⟨1, _⟩ => rfl | ⟨2, _⟩ => rfl
theorem flatIx_eq (a : Fin 512) (b : Fin 1024) : flatIx a b = ix2 a b := by
  funext k; match k with | ⟨0, _⟩ => rfl | ⟨1, _⟩ => rfl
theorem oneIx_eq (a : Fin 512) (b : Fin 1024) : oneIx a b = ix3 0 a b := by
  funext k; match k with | ⟨0, _⟩ => rfl | ⟨1, _⟩ => rfl | ⟨2, _⟩ => rfl

/-! ## The payloads, entry by entry -/

theorem pay1r_apply (p : Vec Ideal S4x512x1024 .f32) (j : S4x512x1024.Idx) : k2_pay1 p j = p j := by pointwise [k2_pay1]
theorem pay2r_apply (p : Vec Ideal S1x512x1024 .f32) (r0 r1 r2 : Vec Ideal S1x512x1024 .bf16) (a : Fin 512) (b : Fin 1024) :
    k2_pay2 p r0 r1 r2 (ix2 a b) = p (ix3 0 a b) + r0 (ix3 0 a b) + r1 (ix3 0 a b) + r2 (ix3 0 a b) := by pointwise [k2_pay2]
theorem pay3r_apply (p : Vec Ideal S1x512x1024 .f32) (r0 r1 r2 : Vec Ideal S1x512x1024 .bf16) (a : Fin 512) (b : Fin 1024) :
    k2_pay3 p r0 r1 r2 (ix3 0 a b) = p (ix3 0 a b) + r0 (ix3 0 a b) + r1 (ix3 0 a b) + r2 (ix3 0 a b) := by pointwise [k2_pay3, pay2r_apply]
theorem pay4r_apply (p : Vec Ideal S1x512x1024 .f32) (r0 r1 r2 : Vec Ideal S1x512x1024 .bf16) (a : Fin 512) (b : Fin 1024) :
    k2_pay4 p r0 r1 r2 (ix2 a b) = p (ix3 0 a b) + r0 (ix3 0 a b) + r1 (ix3 0 a b) + r2 (ix3 0 a b) := by pointwise [k2_pay4, pay2r_apply]
theorem pay5r_apply (r : Vec Ideal S1x512x1024 .bf16) (a : Fin 512) (b : Fin 1024) : k2_pay5 r (ix3 0 a b) = r (ix3 0 a b) := by pointwise [k2_pay5]
theorem pay6r_apply (r : Vec Ideal S1x512x1024 .bf16) (a : Fin 512) (b : Fin 1024) : k2_pay6 r (ix3 0 a b) = r (ix3 0 a b) := by pointwise [k2_pay6]
theorem pay7r_apply (r : Vec Ideal S1x512x1024 .bf16) (a : Fin 512) (b : Fin 1024) : k2_pay7 r (ix3 0 a b) = r (ix3 0 a b) := by pointwise [k2_pay7]

/-! ## The sums -/

/-- A device and the three after it, in the order in which the body adds them, are all the devices. -/
theorem sum_around (f : Dev nD → EReal) (e : Dev nD) : f e + f (pr 3 e) + f (pr 2 e) + f (pr 1 e) = ∑ x, f x := by
  have hs : ∑ x, f x = f (0 : Fin 4) + f (1 : Fin 4) + f (2 : Fin 4) + f (3 : Fin 4) := Fin.sum_univ_four f
  rw [hs]
  have h4 : ∀ e : Fin 4, (e = 0 ∧ pr 3 e = (3 : Fin 4) ∧ pr 2 e = (2 : Fin 4) ∧ pr 1 e = (1 : Fin 4))
      ∨ (e = 1 ∧ pr 3 e = (0 : Fin 4) ∧ pr 2 e = (3 : Fin 4) ∧ pr 1 e = (2 : Fin 4))
      ∨ (e = 2 ∧ pr 3 e = (1 : Fin 4) ∧ pr 2 e = (0 : Fin 4) ∧ pr 1 e = (3 : Fin 4))
      ∨ (e = 3 ∧ pr 3 e = (2 : Fin 4) ∧ pr 2 e = (1 : Fin 4) ∧ pr 1 e = (0 : Fin 4)) := by decide
  rcases h4 e with ⟨h, h3, h2, h1⟩ | ⟨h, h3, h2, h1⟩ | ⟨h, h3, h2, h1⟩ | ⟨h, h3, h2, h1⟩ <;>
    (rw [h3, h2, h1, h]; ac_rfl)

/-- What a device contributes: its entry of the partial output. -/
abbrev contrib (e : Dev nD) (i : S4x512x1024.Idx) : EReal := w.p e i

/-- A device's slab, reduced: the devices' slabs added up. -/
theorem slabs_sum (e : Dev nD) (a : Fin 512) (b : Fin 1024) :
    slabP w e (ix3 0 a b) + slotV (landR w e) 0 (ix3 0 a b) + slotV (landR w e) 1 (ix3 0 a b) + slotV (landR w e) 2 (ix3 0 a b)
      = ∑ x, contrib w x (slabIx e a b) := by
  rw [← sum_around (fun x => contrib w x (slabIx e a b)) e]
  have hl : ∀ j : Fin 3, slotV (landR w e) j (ix3 0 a b) = w.p (pr (3 - j.val) e) (slabIx e a b) := fun j => by
    show sendB w (pr (3 - j.val) e) (slabIx e a b) = _
    exact pay1r_apply _ _
  rw [hl 0, hl 1, hl 2]
  rfl

theorem redB_apply (e : Dev nD) (a : Fin 512) (b : Fin 1024) : redB w e (flatIx a b) = ∑ x, contrib w x (slabIx e a b) := by
  rw [flatIx_eq]
  exact (pay4r_apply _ _ _ _ a b).trans (slabs_sum w e a b)

theorem landed_apply (j : Fin 3) (e : Dev nD) (he : pr (3 - j.val) c = e) (a : Fin 512) (b : Fin 1024) :
    slotV (landG w c) j (ix3 0 a b) = ∑ x, contrib w x (slabIx e a b) := by
  show redB w (pr (3 - j.val) c) (flatIx a b) = _
  rw [he, redB_apply]

/-- A number below four which is none of a device's three successors is the device. -/
theorem is_own (s : Fin 4) (c : Dev nD) (h1 : s.val ≠ (pr 1 c).val) (h2 : s.val ≠ (pr 2 c).val) (h3 : s.val ≠ (pr 3 c).val) : s = c := by
  have hc : c.val < 4 := c.isLt
  have hs := s.isLt
  refine Fin.ext ?_
  simp only [pr] at h1 h2 h3
  show s.val = c.val
  omega

theorem outO_entry (s : Fin 4) (a : Fin 512) (b : Fin 1024) : outO w c (slabIx s a b) = ∑ x, contrib w x (slabIx s a b) := by
  show (if s.val = (pr 1 c).val then k2_pay7 (slotV (landG w c) 2) (oneIx a b)
    else if s.val = (pr 2 c).val then k2_pay6 (slotV (landG w c) 1) (oneIx a b)
    else if s.val = (pr 3 c).val then k2_pay5 (slotV (landG w c) 0) (oneIx a b)
    else k2_pay3 (slabP w c) (slotV (landR w c) 0) (slotV (landR w c) 1) (slotV (landR w c) 2) (oneIx a b)) = _
  rw [oneIx_eq]
  split
  · rename_i h; exact (pay7r_apply _ _ _).trans (landed_apply w c 2 s (Fin.ext h.symm) a b)
  split
  · rename_i h; exact (pay6r_apply _ _ _).trans (landed_apply w c 1 s (Fin.ext h.symm) a b)
  split
  · rename_i h; exact (pay5r_apply _ _ _).trans (landed_apply w c 0 s (Fin.ext h.symm) a b)
  · rename_i h1 h2 h3
    rw [is_own s c h1 h2 h3]
    exact (pay3r_apply _ _ _ _ _ _).trans (slabs_sum w c a b)

/-- The all-reduce's result: on every device, the sum over the devices. -/
theorem outO_apply (s : Fin 4) (a : Fin 512) (b : Fin 1024) : outO w c (ix3 s a b) = ∑ x, contrib w x (ix3 s a b) := by
  rw [← slabIx_eq]
  exact outO_entry w c s a b

end Cert.Tp

end
-- ==== Proof.Whole.lean ====
/-
  The kernel's result over the extended reals, entry by entry: the sum over the devices of the parts of the output
  projection, read back through the regions and the host's stretches to the arrays the devices were launched with.
-/
module

public import proofs.«01_k».proof.Proof.Regs
public import proofs.«01_k».proof.Proof.Part
public import proofs.«01_k».proof.Proof.Total
public import Idealize.ShloMosaic.Lib.Pointwise
public import Idealize.ShloMosaic.PureOps.IdealRules

@[expose] public section

set_option backward.proofsInPublic true
set_option maxRecDepth 16384

noncomputable section

namespace Cert.Tp

open Idealize.ShloMosaic Idealize.ShloMosaic.StableHlo Idealize.ShloMosaic.TcCoe
open Idealize.ShloMosaic.Pipeline (Dat Cfg Window)
open Cert.KernelIdeal Cert.KernelIdeal.Gen

variable (V : Valuation τ sig (Elt Ideal))

/-! ## The host's stretches, entry by entry -/

theorem pos_eq (b : Fin 8) (r : Fin 4) (u : Fin 64) (h : b.val * 256 + r.val * 64 + u.val < 2048) :
    (⟨b.val * 256 + r.val * 64 + u.val, h⟩ : Fin 2048) = posOf b r u := Fin.ext (by simp only [posOf]; omega)

theorem keys_in (h : Fin 32) (t : Fin 2048) (d : Fin 128) :
    after hostOps0 V (Proc.devRef .tc main_v3) (ix3 h t d) = V (Proc.devRef .tc main_arg2) (ix4 0 t h d) := by
  after_results
  pointwise [id]
theorem vals_in (h : Fin 32) (t : Fin 2048) (d : Fin 128) :
    after hostOps0 V (Proc.devRef .tc main_v6) (ix3 h t d) = V (Proc.devRef .tc main_arg3) (ix4 0 t h d) := by
  after_results
  pointwise [id]
theorem x_in (b : Fin 8) (r : Fin 4) (u : Fin 64) (k : Fin 1024) :
    after hostOps1 V (Proc.devRef .tc main_v10) (ix4 b r u k) = V (Proc.devRef .tc main_arg0) (ix3 0 (posOf b r u) k) := by
  after_results
  pointwise [id]
  exact congrArg (fun p : Fin 2048 => V (Proc.devRef .tc main_arg0) (ix3 0 p k)) (pos_eq b r u _)
theorem w_in (k : Fin 1024) (f : Fin 1024) :
    after hostOps1 V (Proc.devRef .tc main_v13) (ix2 k f) = V (Proc.devRef .tc main_arg1) (ix2 k f) := by
  after_results
  pointwise [id]
theorem o_in (k : Fin 1024) (f : Fin 1024) :
    after hostOps1 V (Proc.devRef .tc main_v14) (ix2 k f) = V (Proc.devRef .tc main_arg4) (ix2 k f) := by
  after_results
  pointwise [id]
theorem keys_cut (s : Fin 4) (h : Fin 8) (b : Fin 8) (r : Fin 4) (u : Fin 64) (d : Fin 128) :
    after hostOps1 V (Proc.devRef .tc main_v11) (ix6 s h b r u d) = V (Proc.devRef .tc main_v7_0) (ix4 s h (posOf b r u) d) := by
  after_results
  pointwise [id]
  exact congrArg (fun p : Fin 2048 => V (Proc.devRef .tc main_v7_0) (ix4 s h p d)) (pos_eq b r u _)
theorem vals_cut (s : Fin 4) (h : Fin 8) (b : Fin 8) (r : Fin 4) (u : Fin 64) (d : Fin 128) :
    after hostOps1 V (Proc.devRef .tc main_v12) (ix6 s h b r u d) = V (Proc.devRef .tc main_v7_1) (ix4 s h (posOf b r u) d) := by
  after_results
  pointwise [id]
  exact congrArg (fun p : Fin 2048 => V (Proc.devRef .tc main_v7_1) (ix4 s h p d)) (pos_eq b r u _)
theorem slabs_cut (s : Fin 4) (a : Fin 512) (n : Fin 1024) :
    after hostOps2 V (Proc.devRef .tc main_v16) (ix3 s a n) = V (Proc.devRef .tc main_v15) (ix4 ⟨s.val * 2 + a.val / 256, by omega⟩ ⟨a.val / 64 % 4, by omega⟩ ⟨a.val % 64, by omega⟩ n) := by
  after_results
  pointwise [id]
theorem rows_out (i : Fin 2048) (n : Fin 1024) :
    after hostOps3 V (Proc.devRef .tc main_v18) (ix3 0 i n) = V (Proc.devRef .tc main_v17) (ix3 ⟨i.val / 512, by omega⟩ ⟨i.val % 512, by omega⟩ n) := by
  after_results
  pointwise [id]

/-! ## From the launch to the attention -/

variable (m : (ℓ : Loc nD τ sig) → Buf (Elt Ideal) ℓ) (c : Dev nD)
variable {X : Fin 2048 → Fin 1024 → EReal} {W : Fin 1024 → Fin 4096 → EReal} {K U : Fin 8192 → Fin 32 → Fin 128 → EReal} {O : Fin 4096 → Fin 1024 → EReal}

/-- The devices were launched with their shares of one set of arrays: the activations whole on each, the query
    projection's columns, the keys' and values' rows and the output projection's rows dealt out in order. -/
structure Given (m : (ℓ : Loc nD τ sig) → Buf (Elt Ideal) ℓ) (X : Fin 2048 → Fin 1024 → EReal) (W : Fin 1024 → Fin 4096 → EReal) (K U : Fin 8192 → Fin 32 → Fin 128 → EReal)
    (O : Fin 4096 → Fin 1024 → EReal) : Prop where
  x : ∀ (c : Dev nD) i k, V0 m c (Proc.devRef .tc main_arg0) (ix3 0 i k) = X i k
  w : ∀ (c : Fin 4) k (f : Fin 1024), V0 m c (Proc.devRef .tc main_arg1) (ix2 k f) = W k ⟨c.val * 1024 + f.val, by omega⟩
  k : ∀ (c : Fin 4) (t : Fin 2048) h d, V0 m c (Proc.devRef .tc main_arg2) (ix4 0 t h d) = K ⟨c.val * 2048 + t.val, by omega⟩ h d
  v : ∀ (c : Fin 4) (t : Fin 2048) h d, V0 m c (Proc.devRef .tc main_arg3) (ix4 0 t h d) = U ⟨c.val * 2048 + t.val, by omega⟩ h d
  o : ∀ (c : Fin 4) (f : Fin 1024) n, V0 m c (Proc.devRef .tc main_arg4) (ix2 f n) = O ⟨c.val * 1024 + f.val, by omega⟩ n

theorem kept (r : Ref sig .tc) (h0 : r ∉ hostOps0_W) (h1 : r ∉ ([main_v3, main_v6, main_v7_0, main_v7_1] : List (Ref sig .tc))) :
    V2 m (outs m) c r = V0 m c r := (V2_of m (outs m) c r h1).trans (V1_of m c r h0)

theorem headIx_eq (e : Fin 4) (s : Fin 4) (h : Fin 8) (t : Fin 2048) (d : Fin 128) : headIx e (ix4 s h t d) = ix3 (headNo e h) t d := by
  funext a
  match a with
  | ⟨0, _⟩ => exact Fin.ext (by show 8 * e.val + h.val = e.val * 8 + h.val; omega)
  | ⟨1, _⟩ => rfl
  | ⟨2, _⟩ => rfl

/-- The gathered keys: block `s` of the heads of device `c` comes from device `s`. -/
theorem gathered_keys (s : Fin 4) (h : Fin 8) (t : Fin 2048) (d : Fin 128) :
    gathK (start m) c (ix4 s h t d) = V0 m s (Proc.devRef .tc main_arg2) (ix4 0 t (headNo c h) d) := by
  show V1 m (devN s.val) main_v3 (headIx c (ix4 s h t d)) = _
  rw [headIx_eq, devN_val s]
  exact keys_in _ _ _ _
theorem gathered_vals (s : Fin 4) (h : Fin 8) (t : Fin 2048) (d : Fin 128) :
    gathV (start m) c (ix4 s h t d) = V0 m s (Proc.devRef .tc main_arg3) (ix4 0 t (headNo c h) d) := by
  show V1 m (devN s.val) main_v6 (headIx c (ix4 s h t d)) = _
  rw [headIx_eq, devN_val s]
  exact vals_in _ _ _ _

theorem found (H : Given m X W K U O) : Found (V3 m (outs m)) c X W K U O where
  x b r u k := (x_in _ b r u k).trans ((congrFun (kept m c main_arg0 (by decide) (by decide)) _).trans (H.x c _ _))
  w k f := (w_in _ k f).trans ((congrFun (kept m c main_arg1 (by decide) (by decide)) _).trans (H.w c _ _))
  k s h b r u d := (keys_cut _ s h b r u d).trans ((congrFun (V2_v7_0 m c) _).trans ((gathered_keys m c s h _ d).trans (H.k s _ _ _)))
  v s h b r u d := (vals_cut _ s h b r u d).trans ((congrFun (V2_v7_1 m c) _).trans ((gathered_vals m c s h _ d).trans (H.v s _ _ _)))
  o f n := (o_in _ f n).trans ((congrFun (kept m c main_arg4 (by decide) (by decide)) _).trans (H.o c _ _))

/-! ## From the attention to the result -/

theorem share_apply (H : Given m X W K U O) (s : Fin 4) (a : Fin 512) (n : Fin 1024) :
    contrib (start m) c (ix3 s a n) = partKer X W K U O c ⟨s.val * 512 + a.val, by omega⟩ n := by
  show V5 m (outs m) c main_v16 (ix3 s a n) = _
  refine (slabs_cut _ s a n).trans ?_
  have e : V4 m (outs m) c main_v15 = fun j : S8x4x64x1024.Idx => partKer X W K U O c (posOf (j 0) (j 1) (j 2)) (j 3) := by
    unfold V4
    rw [Function.update_self, outs_v15]
    exact part_value (found m c H)
  refine (congrFun e _).trans ?_
  refine congrArg (fun p : Fin 2048 => partKer X W K U O c p n) (Fin.ext ?_)
  show ((s.val * 2 + a.val / 256) * 4 + a.val / 64 % 4) * 64 + a.val % 64 = s.val * 512 + a.val
  have := a.isLt
  omega

theorem shares_sum (H : Given m X W K U O) (i : Fin 2048) (n : Fin 1024) :
    ∑ x, contrib (start m) x (ix3 ⟨i.val / 512, by omega⟩ ⟨i.val % 512, by omega⟩ n) = ∑ e, partKer X W K U O e i n := by
  refine Finset.sum_congr rfl fun x _ => (share_apply m x H _ _ n).trans ?_
  refine congrArg (fun p : Fin 2048 => partKer X W K U O x p n) (Fin.ext ?_)
  show i.val / 512 * 512 + i.val % 512 = i.val
  omega

/-- The kernel's result: on every device, the devices' parts added up. -/
theorem kernel_value (H : Given m X W K U O) (i : Fin 2048) (n : Fin 1024) :
    V7 m (outs m) c main_v18 (ix3 0 i n) = ∑ e, partKer X W K U O e i n := by
  refine (rows_out _ i n).trans ?_
  have e : V6 m (outs m) c main_v17 = outO (start m) c := by
    unfold V6
    rw [Function.update_self, outs_v17]
  refine (congrFun e _).trans ((outO_apply _ c _ _ n).trans (shares_sum m H i n))

end Cert.Tp

end
-- ==== Proof.RefMask.lean ====
/-
  The reference's mask, read at an entry: the words that the host's floor division and remainder leave are the block
  numbers, and a query sees a key exactly when their block numbers agree modulo 4.
-/
module

public import proofs.«01_k».proof.Proof.RefOps
public import proofs.«01_k».proof.Proof.Soft
public import Idealize.ShloMosaic.Lib.Pointwise
public import Idealize.ShloMosaic.PureOps.IdealRules

@[expose] public section

set_option backward.proofsInPublic true
set_option maxRecDepth 16384

noncomputable section

namespace Cert.Tp.Ref

open Idealize.ShloMosaic Idealize.ShloMosaic.TcCoe
open Cert.ReferenceIdeal Cert.ReferenceIdeal.Gen
open Idealize.ShloMosaic.StableHlo

/-- The host's floor division of words, as the reference spells it. -/
def fdiv (x d : BitVec 32) : BitVec 32 :=
  Scalar.select
    (IntOp.andi
      (IntOp.cmpi CmpIPredicate.ne (if x = 0 then 0 else if x.msb = true then -1 else 1) (if d = 0 then 0 else if d.msb = true then -1 else 1 : BitVec 32))
      (IntOp.cmpi CmpIPredicate.ne (IntOp.remsi ArithUnit.host x d) 0#32))
    (IntOp.subi (IntOp.divsi ArithUnit.host x d) 1#32) (IntOp.divsi ArithUnit.host x d)

theorem fdiv_block : ∀ b : Fin 128, ∀ u : Fin 64, fdiv (BitVec.ofNat 32 (b.val * 64 + u.val)) 64#32 = BitVec.ofNat 32 b.val := by
  decide +kernel

theorem fdiv_nat (n : ℕ) (h : n < 8192) : fdiv (BitVec.ofNat 32 n) 64#32 = BitVec.ofNat 32 (n / 64) := by
  have := fdiv_block ⟨n / 64, by omega⟩ ⟨n % 64, by omega⟩
  rwa [show (⟨n / 64, by omega⟩ : Fin 128).val * 64 + (⟨n % 64, by omega⟩ : Fin 64).val = n from by dsimp only; omega] at this

/-- The host's remainder of words with the divisor's sign, as the reference spells it. -/
def fmod (x d : BitVec 32) : BitVec 32 :=
  Scalar.select
    (IntOp.andi
      (IntOp.cmpi CmpIPredicate.ne
        (IntOp.cmpi CmpIPredicate.slt (IntOp.remsi ArithUnit.host x (Scalar.select (IntOp.cmpi CmpIPredicate.eq d 0#32) 1#32 d)) 0#32)
        (IntOp.cmpi CmpIPredicate.slt (Scalar.select (IntOp.cmpi CmpIPredicate.eq d 0#32) 1#32 d) 0#32))
      (IntOp.cmpi CmpIPredicate.ne (IntOp.remsi ArithUnit.host x (Scalar.select (IntOp.cmpi CmpIPredicate.eq d 0#32) 1#32 d)) 0#32))
    (IntOp.addi (IntOp.remsi ArithUnit.host x (Scalar.select (IntOp.cmpi CmpIPredicate.eq d 0#32) 1#32 d)) (Scalar.select (IntOp.cmpi CmpIPredicate.eq d 0#32) 1#32 d))
    (IntOp.remsi ArithUnit.host x (Scalar.select (IntOp.cmpi CmpIPredicate.eq d 0#32) 1#32 d))

/-- The mask's word, from the query's and the key's block numbers. -/
def maskWord (a b : BitVec 32) : BitVec 1 :=
  IntOp.ori (IntOp.cmpi CmpIPredicate.eq a b) (IntOp.cmpi CmpIPredicate.eq (fmod b 4#32) (fmod a 4#32))

theorem maskWord_eq : ∀ a : Fin 32, ∀ b : Fin 128,
    maskWord (BitVec.ofNat 32 a.val) (BitVec.ofNat 32 b.val) = if b.val % 4 = a.val % 4 then 1#1 else 0#1 := by
  decide +kernel

set_option maxHeartbeats 4000000 in
/-- The mask, entry by entry. -/
theorem mask_entry (V : Valuation τ sig (Elt Ideal)) (i : Fin 2048) (j : Fin 8192) :
    after maskOps V (Proc.devRef .tc main_v16) (ix2 i j) = (if Seen i j then 1#1 else 0#1 : BitVec 1) := by
  have h : after maskOps V (Proc.devRef .tc main_v16) (ix2 i j) = maskWord (fdiv (BitVec.ofNat 32 i.val) 64#32) (fdiv (BitVec.ofNat 32 j.val) 64#32) := by
    after_results
    pointwise [id]
    rfl
  rw [h, fdiv_nat i.val (by omega), fdiv_nat j.val (by omega)]
  exact maskWord_eq ⟨i.val / 64, by omega⟩ ⟨j.val / 64, by omega⟩

end Cert.Tp.Ref

end
-- ==== Proof.RefValue.lean ====
/-
  The reference's result read at an entry: each segment of its operations at an index, then all of them, down to the
  function `resRef` of what the arguments hold.
-/
module

public import proofs.«01_k».proof.Proof.RefMask
public import Idealize.ShloMosaic.Lib.Pointwise
public import Idealize.ShloMosaic.PureOps.IdealRules

@[expose] public section

set_option backward.proofsInPublic true
set_option maxRecDepth 16384

noncomputable section

namespace Cert.Tp.Ref

open Idealize.ShloMosaic Idealize.ShloMosaic.TcCoe
open Cert.ReferenceIdeal Cert.ReferenceIdeal.Gen
open Idealize.ShloMosaic.StableHlo

/-! ## Words and rows -/

theorem ofBits_neg_inf : Ideal.ofBits .f32 0xFF800000#32 = ⊥ := by simp [Ideal.ofBits, Ideal.ieee]

theorem ofBits_scale : Ideal.ofBits .f32 0x3DB504F3#32 = (scaleR : EReal) := by
  unfold scaleR
  simp [Ideal.ofBits, Ideal.ieee, -EReal.coe_mul]; norm_num

/-- A disjunction over a row one of whose words is set is set. -/
theorem ori_row (f : Fin 8192 → BitVec 1) (j : Fin 8192) (h : f j = 1#1) : Finset.univ.fold IntOp.ori 0#1 f = 1#1 := by
  have h1 : ∀ y z : BitVec 1, IntOp.ori y z = 1#1 ↔ y = 1#1 ∨ z = 1#1 := by decide
  exact (Finset.fold_op_rel_iff_or (c := 0#1) (r := fun _ v : BitVec 1 => v = 1#1) (fun {_ y z} => h1 y z)).mpr (.inr ⟨j, Finset.mem_univ _, h⟩)

/-! ## The segments, entry by entry -/

variable (V : Valuation τ sig (Elt Ideal))

/-! What a valuation holds, at the buffers' shapes. -/
abbrev f_arg0 : S1x2048x1024.Idx → EReal := V (Proc.devRef .tc main_arg0)
abbrev f_arg1 : S1024x4096.Idx → EReal := V (Proc.devRef .tc main_arg1)
abbrev f_arg2 : S1x8192x32x128.Idx → EReal := V (Proc.devRef .tc main_arg2)
abbrev f_arg3 : S1x8192x32x128.Idx → EReal := V (Proc.devRef .tc main_arg3)
abbrev f_arg4 : S4096x1024.Idx → EReal := V (Proc.devRef .tc main_arg4)
abbrev f_v1 : S1x2048x32x128.Idx → EReal := V (Proc.devRef .tc main_v1)
abbrev f_v21 : S1x32x2048x8192.Idx → EReal := V (Proc.devRef .tc main_v21)
abbrev f_v26 : S1x32x2048x8192.Idx → EReal := V (Proc.devRef .tc main_v26)
abbrev f_v35 : S1x32x2048x8192.Idx → EReal := V (Proc.devRef .tc main_v35)

theorem q_entry (i : Fin 2048) (g : Fin 32) (d : Fin 128) :
    after qOps V (Proc.devRef .tc main_v1) (ix4 0 i g d)
      = (∑ k : Fin 1024, f_arg0 V (ix3 0 i k) * f_arg1 V (ix2 k (flatF g d)) : EReal) := by
  after_results
  pointwise
  rfl

theorem score_entry (g : Fin 32) (i : Fin 2048) (j : Fin 8192) :
    after scoreOps V (Proc.devRef .tc main_v21) (ix4 0 g i j)
      = (Scalar.select (V (Proc.devRef .tc main_v16) (ix2 i j))
          ((∑ d : Fin 128, f_v1 V (ix4 0 i g d) * f_arg2 V (ix4 0 j g d)) * (scaleR : EReal)) ⊥ : EReal) := by
  after_results
  pointwise [id, ofBits_scale, ofBits_neg_inf]

theorem exp_entry (g : Fin 32) (i : Fin 2048) (j : Fin 8192) :
    after expOps V (Proc.devRef .tc main_v26) (ix4 0 g i j)
      = Ideal.exp (f_v21 V (ix4 0 g i j)
          - Finset.univ.fold max ⊥ fun j' : Fin 8192 => (f_v21 V (ix4 0 g i j') : EReal)) := by
  after_results
  pointwise [id, ofBits_neg_inf]

/-- The row's disjunction, and what the weights are made from it. -/
abbrev rowOps : List (HloOp τ sig (Elt Ideal)) := weightOps.take 2
abbrev normOps : List (HloOp τ sig (Elt Ideal)) := weightOps.drop 2
theorem weightOps_cut : (weightOps : List (HloOp τ sig (Elt Ideal))) = rowOps ++ normOps := rfl

theorem row_entry (i : Fin 2048) (j : Fin 8192) (h : V (Proc.devRef .tc main_v16) (ix2 i j) = (1#1 : BitVec 1)) :
    after rowOps V (Proc.devRef .tc main_v27) (ix1 i) = (1#1 : BitVec 1) := by
  have e : after rowOps V (Proc.devRef .tc main_v27) (ix1 i)
      = Finset.univ.fold IntOp.ori 0#1 fun j : Fin 8192 => (V (Proc.devRef .tc main_v16) (ix2 i j) : BitVec 1) := by
    show after [_, _] V _ _ = _
    after_results
    pointwise
  rw [e]; exact ori_row _ j h

theorem norm_entry (g : Fin 32) (i : Fin 2048) (j : Fin 8192) (h : V (Proc.devRef .tc main_v27) (ix1 i) = (1#1 : BitVec 1)) :
    after normOps V (Proc.devRef .tc main_v35) (ix4 0 g i j)
      = Ideal.div (f_v26 V (ix4 0 g i j)) (∑ j' : Fin 8192, f_v26 V (ix4 0 g i j')) := by
  show after [_, _, _, _, _, _, _, _, _, _, _, _, _, _, _, _, _] V _ _ = _
  after_results
  pointwise [id]
  rw [h]
  rfl

theorem out_entry (i : Fin 2048) (n : Fin 1024) :
    after outOps V (Proc.devRef .tc main_v39) (ix3 0 i n)
      = (∑ f : Fin 4096, (∑ j : Fin 8192, f_arg3 V (ix4 0 j ⟨f.val / 128, by have := f.isLt; omega⟩ ⟨f.val % 128, by omega⟩)
          * f_v35 V (ix4 0 ⟨f.val / 128, by have := f.isLt; omega⟩ i j)) * f_arg4 V (ix2 f n) : EReal) := by
  after_results
  pointwise

/-! ## All of them -/

theorem rowOps_keep : after rowOps V (Proc.devRef .tc main_v26) = V (Proc.devRef .tc main_v26) := by
  show after [_, _] V _ = _
  after_results

/-- The weights: rows see their own block's keys, so no row is empty. -/
theorem weight_entry (g : Fin 32) (i : Fin 2048) (j : Fin 8192) (hm : ∀ i j, V (Proc.devRef .tc main_v16) (ix2 i j) = (if Seen i j then 1#1 else 0#1 : BitVec 1)) :
    after weightOps V (Proc.devRef .tc main_v35) (ix4 0 g i j)
      = Ideal.div (f_v26 V (ix4 0 g i j)) (∑ j' : Fin 8192, f_v26 V (ix4 0 g i j')) := by
  rw [weightOps_cut, after_append, norm_entry _ g i j (row_entry V i (keyOf (groupOf i) ⟨0, by omega⟩) ?_)]
  · unfold f_v26; rw [rowOps_keep]
  · rw [hm, if_pos (by simp only [Seen, keyOf, groupOf]; omega)]

/-- The reference's result, entry by entry, from what its arguments hold. -/
theorem ref_value (i : Fin 2048) (n : Fin 1024) :
    after ops V (Proc.devRef .tc main_v39) (ix3 0 i n)
      = resRef (fun i k => f_arg0 V (ix3 0 i k)) (fun k f => f_arg1 V (ix2 k f)) (fun j g d => f_arg2 V (ix4 0 j g d))
          (fun j g d => f_arg3 V (ix4 0 j g d)) (fun f n => f_arg4 V (ix2 f n)) i n := by
  rw [after_ops, out_entry]
  have k2 : ∀ g i j, f_v21 (after scoreOps (after maskOps (after qOps V))) (ix4 0 g i j)
      = maskedS (fun i k => f_arg0 V (ix3 0 i k)) (fun k f => f_arg1 V (ix2 k f)) (fun j g d => f_arg2 V (ix4 0 j g d)) i g j := by
    intro g i j
    show after scoreOps _ (Proc.devRef .tc main_v21) _ = _
    rw [score_entry, mask_entry]
    have h1 : ∀ d, f_v1 (after maskOps (after qOps V)) (ix4 0 i g d) = query (fun i k => f_arg0 V (ix3 0 i k)) (fun k f => f_arg1 V (ix2 k f)) i (flatF g d) := fun d => by
      unfold f_v1; rw [maskOps_keep _ main_v1 (by decide), q_entry]; rfl
    have h2 : f_arg2 (after maskOps (after qOps V)) = f_arg2 V := by
      unfold f_arg2; rw [maskOps_keep _ main_arg2 (by decide), qOps_keep _ main_arg2 (by decide)]
    simp only [h1, h2]
    unfold maskedS
    by_cases h : Seen i j
    · rw [if_pos h, if_pos h]; rfl
    · rw [if_neg h, if_neg h]; rfl
  have k3 : ∀ g i j, f_v26 (after expOps (after scoreOps (after maskOps (after qOps V)))) (ix4 0 g i j)
      = expS (fun i k => f_arg0 V (ix3 0 i k)) (fun k f => f_arg1 V (ix2 k f)) (fun j g d => f_arg2 V (ix4 0 j g d)) i g j := by
    intro g i j
    show after expOps _ (Proc.devRef .tc main_v26) _ = _
    rw [exp_entry]
    simp only [k2]
    rfl
  have km : ∀ i j, after expOps (after scoreOps (after maskOps (after qOps V))) (Proc.devRef .tc main_v16) (ix2 i j) = (if Seen i j then 1#1 else 0#1 : BitVec 1) := by
    intro i j
    rw [expOps_keep _ main_v16 (by decide), scoreOps_keep _ main_v16 (by decide), mask_entry]
  have k4 : ∀ g i j, f_v35 (after weightOps (after expOps (after scoreOps (after maskOps (after qOps V))))) (ix4 0 g i j)
      = Ideal.div (expS (fun i k => f_arg0 V (ix3 0 i k)) (fun k f => f_arg1 V (ix2 k f)) (fun j g d => f_arg2 V (ix4 0 j g d)) i g j)
          (∑ j', expS (fun i k => f_arg0 V (ix3 0 i k)) (fun k f => f_arg1 V (ix2 k f)) (fun j g d => f_arg2 V (ix4 0 j g d)) i g j') := by
    intro g i j
    show after weightOps _ (Proc.devRef .tc main_v35) _ = _
    rw [weight_entry _ g i j km]
    simp only [k3]
  simp only [k4]
  unfold f_arg3 f_arg4
  rw [weightOps_keep _ main_arg3 (by decide), expOps_keep _ main_arg3 (by decide), scoreOps_keep _ main_arg3 (by decide), maskOps_keep _ main_arg3 (by decide), qOps_keep _ main_arg3 (by decide),
    weightOps_keep _ main_arg4 (by decide), expOps_keep _ main_arg4 (by decide), scoreOps_keep _ main_arg4 (by decide), maskOps_keep _ main_arg4 (by decide), qOps_keep _ main_arg4 (by decide)]
  rfl

end Cert.Tp.Ref

end
-- ==== Proof.Equal.lean ====
/-
  The two programs' results are one array: the finite launch contents of the four devices are the shares of the reference's
  arguments, the kernel's result is the sum of the devices' parts, and that sum is the reference's value.
-/
module

public import proofs.«01_k».proof.Proof.Frames
public import proofs.«01_k».proof.Proof.Whole
public import proofs.«01_k».proof.Proof.RefValue
public import Idealize.ShloMosaic.Lib.Pointwise
public import Idealize.ShloMosaic.PureOps.IdealRules

@[expose] public section

set_option backward.proofsInPublic true
set_option maxRecDepth 16384

noncomputable section

namespace Cert.Tp

open Idealize.ShloMosaic Idealize.ShloMosaic.TcCoe Idealize.ShloMosaic.StableHlo Idealize.SL.Sem

/-! ## What finiteness says -/

theorem ofBits_inf : Ideal.ofBits .f32 0x7F800000#32 = ⊤ := by simp [Ideal.ofBits, Ideal.ieee]

theorem real_of_small (x : EReal) (h : BitVec.ofBool (decide (FloatOps.absf (F := Ideal) (φ := .f32) x < Ideal.ofBits .f32 0x7F800000#32)) = 1#1) : IsReal x := by
  rw [ofBits_inf] at h
  have h1 : FloatOps.absf (F := Ideal) (φ := .f32) x < (⊤ : EReal) := by
    by_contra hc
    rw [decide_eq_false hc] at h
    exact absurd h (by decide)
  induction x with
  | bot => exact absurd h1 (not_lt.mpr (le_of_eq (by show (⊤ : EReal) = max ⊥ (-⊥); simp)))
  | coe r => exact ⟨r, rfl⟩
  | top => exact absurd h1 (not_lt.mpr (le_of_eq (by show (⊤ : EReal) = max ⊤ (-⊤); simp)))

section
open Cert.Pre_finite_KernelIdeal
variable (a0 : Vec Ideal S1x2048x1024 .f32) (a1 : Vec Ideal S1024x1024 .f32) (a2 a3 : Vec Ideal S1x2048x32x128 .f32) (a4 : Vec Ideal S1024x1024 .f32)

theorem finite_x (h : (fn (F := Ideal) a0 a1 a2 a3 a4).1 = fun _ => 1#1) (i : Fin 2048) (k : Fin 1024) : IsReal (a0 (ix3 0 i k)) :=
  real_of_small _ ((show _ = (fn (F := Ideal) a0 a1 a2 a3 a4).1 (ix3 0 i k) by pointwise [fn]).trans (congrFun h (ix3 0 i k)))
theorem finite_w (h : (fn (F := Ideal) a0 a1 a2 a3 a4).2.1 = fun _ => 1#1) (k f : Fin 1024) : IsReal (a1 (ix2 k f)) :=
  real_of_small _ ((show _ = (fn (F := Ideal) a0 a1 a2 a3 a4).2.1 (ix2 k f) by pointwise [fn]).trans (congrFun h (ix2 k f)))
theorem finite_k (h : (fn (F := Ideal) a0 a1 a2 a3 a4).2.2 = fun _ => 1#1) (t : Fin 2048) (g : Fin 32) (d : Fin 128) : IsReal (a2 (ix4 0 t g d)) :=
  real_of_small _ ((show _ = (fn (F := Ideal) a0 a1 a2 a3 a4).2.2 (ix4 0 t g d) by pointwise [fn]).trans (congrFun h (ix4 0 t g d)))

end

/-! ## The shares -/

theorem block_cols (v : (⟨2, ![1024, 4096]⟩ : Shape).Idx → EReal) (c : Fin 4) (k f : Fin 1024) :
    Layout.block ⟨2, ![1024, 1024]⟩ ⟨2, ![1024, 4096]⟩ 1 4 c v (by decide) (ix2 k f) = v (ix2 k ⟨c.val * 1024 + f.val, by omega⟩) :=
  congrArg v (by funext b; match b with | ⟨0, _⟩ => rfl | ⟨1, _⟩ => rfl)
theorem block_rows (v : (⟨2, ![4096, 1024]⟩ : Shape).Idx → EReal) (c : Fin 4) (f n : Fin 1024) :
    Layout.block ⟨2, ![1024, 1024]⟩ ⟨2, ![4096, 1024]⟩ 0 4 c v (by decide) (ix2 f n) = v (ix2 ⟨c.val * 1024 + f.val, by omega⟩ n) :=
  congrArg v (by funext b; match b with | ⟨0, _⟩ => rfl | ⟨1, _⟩ => rfl)
theorem block_keys (v : (⟨4, ![1, 8192, 32, 128]⟩ : Shape).Idx → EReal) (c : Fin 4) (t : Fin 2048) (h : Fin 32) (d : Fin 128) :
    Layout.block ⟨4, ![1, 2048, 32, 128]⟩ ⟨4, ![1, 8192, 32, 128]⟩ 1 4 c v (by decide) (ix4 0 t h d) = v (ix4 0 ⟨c.val * 2048 + t.val, by omega⟩ h d) :=
  congrArg v (by funext b; match b with | ⟨0, _⟩ => rfl | ⟨1, _⟩ => rfl | ⟨2, _⟩ => rfl | ⟨3, _⟩ => rfl)

/-! ## The claim -/

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The kernel's devices hold the shares of the reference's arguments. -/
abbrev Dealt : Prop := ∀ c : Dev Cert.KernelIdeal.nD,
  m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
  ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
  ∧ m ((c.tc : Thread Cert.KernelIdeal.nD Cert.KernelIdeal.τ).loc Cert.KernelIdeal.main_arg2) = Layout.block ⟨4, ![1, 2048, 32, 128]⟩ ⟨4, ![1, 8192, 32, 128]⟩ 1 4 c (m' (((0 : Dev Cert.ReferenceIdeal.nD).tc : Thread Cert.ReferenceIdeal.nD Cert.ReferenceIdeal.τ).loc Cert.ReferenceIdeal.main_arg2))
  ∧ m ((c.tc : Thread Cert.KernelIdeal.nD Cert.KernelIdeal.τ).loc Cert.KernelIdeal.main_arg3) = Layout.block ⟨4, ![1, 2048, 32, 128]⟩ ⟨4, ![1, 8192, 32, 128]⟩ 1 4 c (m' (((0 : Dev Cert.ReferenceIdeal.nD).tc : Thread Cert.ReferenceIdeal.nD Cert.ReferenceIdeal.τ).loc Cert.ReferenceIdeal.main_arg3))
  ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))

/-- The reference's arguments, by coordinates. -/
def argX (i : Fin 2048) (k : Fin 1024) : EReal := Ref.f_arg0 (launchContents m' (0 : Dev Cert.ReferenceIdeal.nD)) (ix3 0 i k)
def argW (k : Fin 1024) (f : Fin 4096) : EReal := Ref.f_arg1 (launchContents m' (0 : Dev Cert.ReferenceIdeal.nD)) (ix2 k f)
def argK (j : Fin 8192) (g : Fin 32) (d : Fin 128) : EReal := Ref.f_arg2 (launchContents m' (0 : Dev Cert.ReferenceIdeal.nD)) (ix4 0 j g d)
def argV (j : Fin 8192) (g : Fin 32) (d : Fin 128) : EReal := Ref.f_arg3 (launchContents m' (0 : Dev Cert.ReferenceIdeal.nD)) (ix4 0 j g d)
def argO (f : Fin 4096) (n : Fin 1024) : EReal := Ref.f_arg4 (launchContents m' (0 : Dev Cert.ReferenceIdeal.nD)) (ix2 f n)

variable {m m'}

theorem given (H : Dealt m m') : Given m (argX m') (argW m') (argK m') (argV m') (argO m') where
  x c i k := congrFun (H c).1 (ix3 0 i k)
  w c k f := (congrFun (H c).2.1 (ix2 k f)).trans (block_cols _ c k f)
  k c t h d := (congrFun (H c).2.2.1 (ix4 0 t h d)).trans (block_keys _ c t h d)
  v c t h d := (congrFun (H c).2.2.2.1 (ix4 0 t h d)).trans (block_keys _ c t h d)
  o c f n := (congrFun (H c).2.2.2.2 (ix2 f n)).trans (block_rows _ c f n)

theorem real_x (hP : Cert.Pre_KernelIdeal_finite_KernelIdeal m) (H : Dealt m m') (i : Fin 2048) (k : Fin 1024) : IsReal (argX m' i k) := by
  rw [← (given H).x 0 i k]
  exact finite_x _ _ _ _ _ (hP 0).1 i k

/-- A column of the query projection lies in one device's share, and a key's row in one device's. -/
theorem real_w (hP : Cert.Pre_KernelIdeal_finite_KernelIdeal m) (H : Dealt m m') (k : Fin 1024) (f : Fin 4096) : IsReal (argW m' k f) := by
  have hf := f.isLt
  have e : (⟨(⟨f.val / 1024, by omega⟩ : Fin 4).val * 1024 + (⟨f.val % 1024, by omega⟩ : Fin 1024).val, by show f.val / 1024 * 1024 + f.val % 1024 < 4096; omega⟩ : Fin 4096) = f :=
    Fin.ext (by show f.val / 1024 * 1024 + f.val % 1024 = f.val; omega)
  rw [← e, ← (given H).w]
  exact finite_w _ _ _ _ _ (hP _).2.1 k _
theorem real_k (hP : Cert.Pre_KernelIdeal_finite_KernelIdeal m) (H : Dealt m m') (j : Fin 8192) (g : Fin 32) (d : Fin 128) : IsReal (argK m' j g d) := by
  have hj := j.isLt
  have e : (⟨(⟨j.val / 2048, by omega⟩ : Fin 4).val * 2048 + (⟨j.val % 2048, by omega⟩ : Fin 2048).val, by show j.val / 2048 * 2048 + j.val % 2048 < 8192; omega⟩ : Fin 8192) = j :=
    Fin.ext (by show j.val / 2048 * 2048 + j.val % 2048 = j.val; omega)
  rw [← e, ← (given H).k]
  exact finite_k _ _ _ _ _ (hP _).2.2 _ g d

/-- The result arrays agree at every entry. -/
theorem results_entry (hP : Cert.Pre_KernelIdeal_finite_KernelIdeal m) (H : Dealt m m') (c : Dev Cert.KernelIdeal.nD) (i : Fin 2048) (n : Fin 1024) :
    Cert.KernelIdeal.Gen.V7 m (outs m) c Cert.KernelIdeal.main_v18 (ix3 0 i n)
      = after Ref.ops (launchContents m' (0 : Dev Cert.ReferenceIdeal.nD)) (Proc.devRef .tc Cert.ReferenceIdeal.main_v39) (ix3 0 i n) :=
  (kernel_value m c (given H) i n).trans
    ((res_eq (argV m') (argO m') (real_x hP H) (real_w hP H) (real_k hP H) i n).trans (Ref.ref_value (launchContents m' (0 : Dev Cert.ReferenceIdeal.nD)) i n).symm)

theorem results_eq (hP : Cert.Pre_KernelIdeal_finite_KernelIdeal m) (H : Dealt m m') (c : Dev Cert.KernelIdeal.nD) :
    Cert.KernelIdeal.Gen.V7 m (outs m) c Cert.KernelIdeal.main_v18
      = after Ref.ops (launchContents m' (0 : Dev Cert.ReferenceIdeal.nD)) (Proc.devRef .tc Cert.ReferenceIdeal.main_v39) :=
  funext fun j : (⟨3, ![1, 2048, 1024]⟩ : Shape).Idx => by
    obtain ⟨a, i, n, rfl⟩ : ∃ (a : Fin 1) (i : Fin 2048) (n : Fin 1024), j = ix3 a i n := ⟨j 0, j 1, j 2, (ix3_eta j).symm⟩
    rw [Subsingleton.elim (α := Fin 1) a 0]
    exact results_entry hP H c i n

/-- Over the extended reals, from finite activations, query projection and keys, both programs end with one result. -/
theorem algebraic : Cert.algebraic_KernelIdeal_ReferenceIdeal_pre_finite_KernelIdeal := fun m ρ m' ρ' hP H =>
  ⟨after Ref.ops (launchContents m' (0 : Dev Cert.ReferenceIdeal.nD)) (Proc.devRef .tc Cert.ReferenceIdeal.main_v39),
    (θ_run Cert.KernelIdeal.defs _ _).mono
      (fun _ h c => ⟨(h.1 c).2.2.2.2.2.trans (results_eq hP H c), (h.1 c).1, (h.1 c).2.1, (h.1 c).2.2.1, (h.1 c).2.2.2.1, (h.1 c).2.2.2.2.1⟩)
      (run_main (F := Ideal) m ρ),
    (θ_run Cert.ReferenceIdeal.defs _ _).mono
      (fun _ h => ⟨(h.1 0).2.2.2.2.2, (h.1 0).1, (h.1 0).2.1, (h.1 0).2.2.1, (h.1 0).2.2.2.1, (h.1 0).2.2.2.2.1⟩)
      (run_ref m' ρ')⟩

end Cert.Tp

end
-- ==== Proof.lean ====
/-
  The claim: the frames of the kernel, of its ideal program and of the reference, the constant the ideal program names, and
  the equality of the two programs' results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite_KernelIdeal
public import proofs.«01_k».proof.Proof.Gen.Pre_finite_ReferenceIdeal
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_KernelIdeal.Gen.facts, Cert.Pre_finite_ReferenceIdeal.Gen.facts,
  Cert.Tp.frame_kernel, Cert.Tp.frame_ideal, Cert.Tp.frame_ideal_finite, Cert.Tp.frame_ref, Cert.Tp.frame_ref_finite, Cert.Tp.preserves, Cert.Tp.algebraic⟩

end Cert.Proof

end
